-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_routed : Cert.Pre_routed.Facts] (m : (ℓ : Loc Cert.Kernel5.nD Cert.Kernel5.τ Cert.Kernel5.sig) → Buf (Elt Bits) ℓ) : Prop :=
  ∀ c : Dev Cert.Kernel5.nD,
    (Cert.Pre_routed.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))) = (fun _ => 1#1)

def Pre_Kernel5Ideal [hPre_routed : Cert.Pre_routed.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed [hPre_routed : Cert.Pre_routed.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] [hPre_routed : Cert.Pre_routed.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_routed [hReference5Ideal : Cert.Reference5Ideal.Facts] [hPre_routed : Cert.Pre_routed.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_weights : Cert.Pre_finite_weights.Facts) (hPre_routed : Cert.Pre_routed.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_routed := hPre_routed)
    ∧ quiescent_Kernel5Ideal (hKernel5Ideal := hKernel5Ideal) (hPre_routed := hPre_routed)
    ∧ quiescent_Reference5Ideal (hReference5Ideal := hReference5Ideal)
    ∧ quiescent_Reference5Ideal_pre_routed (hReference5Ideal := hReference5Ideal) (hPre_routed := hPre_routed)
    ∧ preserves_Kernel_KernelIdeal
    ∧ algebraic_KernelIdeal_ReferenceIdeal_pre_finite_weights (hKernelIdeal := hKernelIdeal) (hReferenceIdeal := hReferenceIdeal) (hPre_finite_weights := hPre_finite_weights)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_routed := hPre_routed)
-- ==== Pre_finite_weights.lean ====
abbrev S16384x3840 : Shape := ⟨2, ![16384, 3840]⟩
abbrev S8 : Shape := ⟨1, ![8]⟩
abbrev S128 : Shape := ⟨1, ![128]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S16384x3840 .bf16) (main_arg1 : FVec F S8 .f32) (main_arg2 : FVec F S128 .f32) (main_arg3 : FVec F S128 .f32) : IVec S_ 1 :=
  let main_v0 : FVec F S8 .f32 := Host.absf main_arg1
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Pre_routed.lean ====
abbrev S40 : Shape := ⟨1, ![40]⟩
abbrev S40960 : Shape := ⟨1, ![40960]⟩
abbrev S16384x2048 : Shape := ⟨2, ![16384, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S40960 : S_.BroadcastsInDim S40960 (![] : Fin 0 → Fin S40960.rank)
  reducesTo_S40960_S_d0 : S40960.ReducesTo [0] S_

variable [Facts]

def fn_part1 {F : FTy → Type} [FloatOps F] (main_arg2 : IVec S40960 32) (main_v12 : IVec S_ 1) (main_v14 : IVec S40960 1) (main_v15 : IVec S40960 32) : IVec S_ 1 :=
  let main_v16 : IVec S40960 1 := cmpi .slt main_arg2 main_v15
  let main_v17 : IVec S40960 1 := andi main_v14 main_v16
  let main_c_7 : IVec S_ 1 := constantI S_ 1 1#1
  let main_v18 : IVec S_ 1 := (fun x v => Host.reduce IntOp.andi x v reducesTo_S40960_S_d0 h_S_) main_v17 main_c_7
  let main_v19 : IVec S_ 1 := andi main_v12 main_v18
  main_v19

def fn {F : FTy → Type} [FloatOps F] (main_arg0 : IVec S40 32) (main_arg1 : IVec S40 32) (main_arg2 : IVec S40960 32) (main_arg3 : FVec F S16384x2048 .f32) (main_arg4 : FVec F S8x2048x5632 .f32) (main_arg5 : FVec F S8x2048x5632 .f32) (main_arg6 : FVec F S8x5632x2048 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 0#32
  let main_v6 : IVec S40 32 := broadcastInDim S40 ![] bcast_S_S40 main_c_2
  let main_v7 : IVec S40 1 := cmpi .sge main_arg1 main_v6
  let main_c_3 : IVec S_ 32 := constantI S_ 32 1024#32
  let main_v8 : IVec S40 32 := broadcastInDim S40 ![] bcast_S_S40 main_c_3
  let main_v9 : IVec S40 1 := cmpi .sle main_arg1 main_v8
  let main_v10 : IVec S40 1 := andi main_v7 main_v9
  let main_c_4 : IVec S_ 1 := constantI S_ 1 1#1
  let main_v11 : IVec S_ 1 := (fun x v => Host.reduce IntOp.andi x v reducesTo_S40_S_d0 h_S_) main_v10 main_c_4
  let main_v12 : IVec S_ 1 := andi main_v5 main_v11
  let main_c_5 : IVec S_ 32 := constantI S_ 32 0#32
  let main_v13 : IVec S40960 32 := broadcastInDim S40960 ![] bcast_S_S40960 main_c_5
  let main_v14 : IVec S40960 1 := cmpi .sge main_arg2 main_v13
  let main_c_6 : IVec S_ 32 := constantI S_ 32 16384#32
  let main_v15 : IVec S40960 32 := broadcastInDim S40960 ![] bcast_S_S40960 main_c_6
  fn_part1 (F := F) main_arg2 main_v12 main_v14 main_v15
-- ==== Kernel.lean ====
abbrev S16384x3840 : Shape := ⟨2, ![16384, 3840]⟩
abbrev S8 : Shape := ⟨1, ![8]⟩
abbrev S128 : Shape := ⟨1, ![128]⟩
abbrev S1x128 : Shape := ⟨2, ![1, 128]⟩
abbrev S8192x1024 : Shape := ⟨2, ![8192, 1024]⟩
abbrev S8192x256 : Shape := ⟨2, ![8192, 256]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S512x1 : Shape := ⟨2, ![512, 1]⟩
abbrev S1 : Shape := ⟨1, ![1]⟩
abbrev S128x128 : Shape := ⟨2, ![128, 128]⟩
abbrev S128x1 : Shape := ⟨2, ![128, 1]⟩
abbrev S512x128 : Shape := ⟨2, ![512, 128]⟩
abbrev S256x128 : Shape := ⟨2, ![256, 128]⟩
abbrev S512x256 : Shape := ⟨2, ![512, 256]⟩
abbrev S512 : Shape := ⟨1, ![512]⟩

abbrev nBuf : Space → Nat
  | .hbm => 9
  | .vmem => 14
  | .smem => 1
  | _ => 0

abbrev bufTy : (tb : Table) → Fin (tcTables nBuf tb) → BufTy
  | .hbm, ⟨0, _⟩ => ⟨S16384x3840, .bf16⟩
  | .hbm, ⟨1, _⟩ => ⟨S8, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S8192x1024, .bf16⟩
  | .hbm, ⟨7, _⟩ => ⟨S8192x256, .f32⟩
  | .hbm, ⟨8, _⟩ => ⟨S8192x256, .f32⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x128, .f32⟩
  | .local _ .vmem, ⟨7, _⟩ => ⟨S1x128, .f32⟩
  | .local _ .vmem, ⟨8, _⟩ => ⟨S1024x512, .bf16⟩
  | .local _ .vmem, ⟨9, _⟩ => ⟨S1024x512, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .smem, ⟨0, _⟩ => ⟨S8, .f32⟩
  | _, _ => ⟨S16384x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 2], ![false, false]⟩

def k0_off1 (i : grid0.Coords) (c0_i32_17 : BitVec 32) : Fin 1 → Nat :=
  let arg1 : BitVec 32 := BitVec.ofNat 32 (i 1).val
  let c4_i32 : BitVec 32 := 4#32
  let v49 : BitVec 32 := Scalar.muli arg1 c4_i32
  let v50 : BitVec 32 := Scalar.addi v49 c0_i32_17
  let v51 : Index := Scalar.indexCast v50
  ![v51.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c4_i32 : BitVec 32 := 4#32
  let v1 : BitVec 32 := Scalar.addi c4_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c24_i32 : BitVec 32 := 24#32
  let v1 : BitVec 32 := Scalar.addi c24_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c26_i32 : BitVec 32 := 26#32
  let v1 : BitVec 32 := Scalar.addi c26_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x3840 : Shape := ⟨2, ![16384, 3840]⟩
abbrev S8 : Shape := ⟨1, ![8]⟩
abbrev S128 : Shape := ⟨1, ![128]⟩
abbrev S8192x3840 : Shape := ⟨2, ![8192, 3840]⟩
abbrev S8192x1024 : Shape := ⟨2, ![8192, 1024]⟩
abbrev S8192x256 : Shape := ⟨2, ![8192, 256]⟩
abbrev S32x256x8x128 : Shape := ⟨4, ![32, 256, 8, 128]⟩
abbrev S_ : Shape := ⟨0, ![]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x256x2x128 : Shape := ⟨4, ![32, 256, 2, 128]⟩
abbrev S32x256x2 : Shape := ⟨3, ![32, 256, 2]⟩
abbrev S32x256x2x1 : Shape := ⟨4, ![32, 256, 2, 1]⟩
abbrev S32x256x2x4x128 : Shape := ⟨5, ![32, 256, 2, 4, 128]⟩
abbrev S32x2x256x256x4 : Shape := ⟨5, ![32, 2, 256, 256, 4]⟩
abbrev S32x2x4x256x256 : Shape := ⟨5, ![32, 2, 4, 256, 256]⟩
abbrev S1x2x4x1x1 : Shape := ⟨5, ![1, 2, 4, 1, 1]⟩
abbrev S32x2x4x256x1 : Shape := ⟨5, ![32, 2, 4, 256, 1]⟩
abbrev S32x2x4x256x257 : Shape := ⟨5, ![32, 2, 4, 256, 257]⟩
abbrev S32x2x4x256 : Shape := ⟨4, ![32, 2, 4, 256]⟩
abbrev S32x2x128x4x256 : Shape := ⟨5, ![32, 2, 128, 4, 256]⟩

abbrev nBuf : Space → Nat
  | .hbm => 75
  | .vmem => 0
  | .smem => 0
  | _ => 0

abbrev bufTy : (tb : Table) → Fin (tcTables nBuf tb) → BufTy
  | .hbm, ⟨0, _⟩ => ⟨S16384x3840, .bf16⟩
  | .hbm, ⟨1, _⟩ => ⟨S8, .f32⟩
  | .hbm, ⟨2, _⟩ => ⟨S128, .f32⟩
  | .hbm, ⟨3, _⟩ => ⟨S128, .f32⟩
  | .hbm, ⟨4, _⟩ => ⟨S8192x3840, .bf16⟩
  | .hbm, ⟨5, _⟩ => ⟨S8192x3840, .f32⟩
  | .hbm, ⟨6, _⟩ => ⟨S8192x1024, .f32⟩
  | .hbm, ⟨7, _⟩ => ⟨S8192x256, .f32⟩
  | .hbm, ⟨8, _⟩ => ⟨S8192x256, .f32⟩
  | .hbm, ⟨9, _⟩ => ⟨S32x256x8x128, .f32⟩
  | .hbm, ⟨10, _⟩ => ⟨S32x256x8x128, .f32⟩
  | .hbm, ⟨11, _⟩ => ⟨S_, .f32⟩
  | .hbm, ⟨12, _⟩ => ⟨S32x256x8, .f32⟩
  | .hbm, ⟨13, _⟩ => ⟨S32x256x8x1, .f32⟩
  | .hbm, ⟨14, _⟩ => ⟨S_, .f32⟩
  | .hbm, ⟨15, _⟩ => ⟨S32x256x8x1, .f32⟩
  | .hbm, ⟨16, _⟩ => ⟨S32x256x8x1, .f32⟩
  | .hbm, ⟨17, _⟩ => ⟨S_, .f32⟩
  | .hbm, ⟨18, _⟩ => ⟨S32x256x8x1, .f32⟩
  | .hbm, ⟨19, _⟩ => ⟨S32x256x8x1, .f32⟩
  | .hbm, ⟨20, _⟩ => ⟨S32x256x8x1, .f32⟩
  | .hbm, ⟨21, _⟩ => ⟨S32x256x8x128, .f32⟩
  | .hbm, ⟨22, _⟩ => ⟨S32x256x8x128, .f32⟩
  | .hbm, ⟨23, _⟩ => ⟨S1x1x1x128, .f32⟩
  | .hbm, ⟨24, _⟩ => ⟨S32x256x8x128, .f32⟩
  | .hbm, ⟨25, _⟩ => ⟨S32x256x8x128, .f32⟩
  | .hbm, ⟨26, _⟩ => ⟨S32x256x2x128, .f32⟩
  | .hbm, ⟨27, _⟩ => ⟨S32x256x2x128, .f32⟩
  | .hbm, ⟨28, _⟩ => ⟨S_, .f32⟩
  | .hbm, ⟨29, _⟩ => ⟨S32x256x2, .f32⟩
  | .hbm, ⟨30, _⟩ => ⟨S32x256x2x1, .f32⟩
  | .hbm, ⟨31, _⟩ => ⟨S_, .f32⟩
  | .hbm, ⟨32, _⟩ => ⟨S32x256x2x1, .f32⟩
  | .hbm, ⟨33, _⟩ => ⟨S32x256x2x1, .f32⟩
  | .hbm, ⟨34, _⟩ => ⟨S_, .f32⟩
  | .hbm, ⟨35, _⟩ => ⟨S32x256x2x1, .f32⟩
  | .hbm, ⟨36, _⟩ => ⟨S32x256x2x1, .f32⟩
  | .hbm, ⟨37, _⟩ => ⟨S32x256x2x1, .f32⟩
  | .hbm, ⟨38, _⟩ => ⟨S32x256x2x128, .f32⟩
  | .hbm, ⟨39, _⟩ => ⟨S32x256x2x128, .f32⟩
  | .hbm, ⟨40, _⟩ => ⟨S1x1x1x128, .f32⟩
  | .hbm, ⟨41, _⟩ => ⟨S32x256x2x128, .f32⟩
  | .hbm, ⟨42, _⟩ => ⟨S32x256x2x128, .f32⟩
  | .hbm, ⟨43, _⟩ => ⟨S32x256x2x128, .f32⟩
  | .hbm, ⟨44, _⟩ => ⟨S32x256x2x4x128, .f32⟩
  | .hbm, ⟨45, _⟩ => ⟨S32x2x256x256x4, .f32⟩
  | .hbm, ⟨46, _⟩ => ⟨S32x2x4x256x256, .f32⟩
  | .hbm, ⟨47, _⟩ => ⟨S_, .f32⟩
  | .hbm, ⟨48, _⟩ => ⟨S32x2x4x256x256, .f32⟩
  | .hbm, ⟨49, _⟩ => ⟨S32x2x4x256x256, .f32⟩
  | .hbm, ⟨50, _⟩ => ⟨S1x2x4x1x1, .f32⟩
  | .hbm, ⟨51, _⟩ => ⟨S32x2x4x256x1, .f32⟩
  | .hbm, ⟨52, _⟩ => ⟨S32x2x4x256x257, .f32⟩
  | .hbm, ⟨53, _⟩ => ⟨S_, .f32⟩
  | .hbm, ⟨54, _⟩ => ⟨S32x2x4x256, .f32⟩
  | .hbm, ⟨55, _⟩ => ⟨S_, .f32⟩
  | .hbm, ⟨56, _⟩ => ⟨S32x2x4x256, .f32⟩
  | .hbm, ⟨57, _⟩ => ⟨S32x2x4x256, .f32⟩
  | .hbm, ⟨58, _⟩ => ⟨S32x2x4x256x1, .f32⟩
  | .hbm, ⟨59, _⟩ => ⟨S32x2x4x256x257, .f32⟩
  | .hbm, ⟨60, _⟩ => ⟨S32x2x4x256x257, .f32⟩
  | .hbm, ⟨61, _⟩ => ⟨S32x2x4x256x257, .f32⟩
  | .hbm, ⟨62, _⟩ => ⟨S_, .f32⟩
  | .hbm, ⟨63, _⟩ => ⟨S32x2x4x256, .f32⟩
  | .hbm, ⟨64, _⟩ => ⟨S32x2x4x256x1, .f32⟩
  | .hbm, ⟨65, _⟩ => ⟨S32x2x4x256x257, .f32⟩
  | .hbm, ⟨66, _⟩ => ⟨S32x2x4x256x257, .f32⟩
  | .hbm, ⟨67, _⟩ => ⟨S32x2x4x256x256, .f32⟩
  | .hbm, ⟨68, _⟩ => ⟨S32x2x128x4x256, .f32⟩
  | .hbm, ⟨69, _⟩ => ⟨S32x256x2x4x128, .f32⟩
  | .hbm, ⟨70, _⟩ => ⟨S32x256x8x128, .f32⟩
  | .hbm, ⟨71, _⟩ => ⟨S8192x1024, .f32⟩
  | .hbm, ⟨72, _⟩ => ⟨S8192x1024, .bf16⟩
  | .hbm, ⟨73, _⟩ => ⟨S8192x256, .f32⟩
  | .hbm, ⟨74, _⟩ => ⟨S8192x256, .f32⟩
  | _, _ => ⟨S16384x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Kernel2.lean ====
abbrev S8192x2048 : Shape := ⟨2, ![8192, 2048]⟩
abbrev S16x6x2048 : Shape := ⟨3, ![16, 6, 2048]⟩
abbrev S2048 : Shape := ⟨1, ![2048]⟩
abbrev S2048x3840 : Shape := ⟨2, ![2048, 3840]⟩
abbrev S1x2048 : Shape := ⟨2, ![1, 2048]⟩
abbrev S16384x3840 : Shape := ⟨2, ![16384, 3840]⟩
abbrev S512x2048 : Shape := ⟨2, ![512, 2048]⟩
abbrev S1x6x2048 : Shape := ⟨3, ![1, 6, 2048]⟩
abbrev S512x3840 : Shape := ⟨2, ![512, 3840]⟩
abbrev S1x1x2048 : Shape := ⟨3, ![1, 1, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S16x6x2048, .f32⟩
  | .hbm, ⟨3, _⟩ => ⟨S2048, .f32⟩
  | .hbm, ⟨4, _⟩ => ⟨S2048x3840, .bf16⟩
  | .hbm, ⟨5, _⟩ => ⟨S1x2048, .f32⟩
  | .hbm, ⟨6, _⟩ => ⟨S16384x3840, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S2048x3840, .bf16⟩
  | .local _ .vmem, ⟨8, _⟩ => ⟨S512x3840, .bf16⟩
  | .local _ .vmem, ⟨9, _⟩ => ⟨S512x3840, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3840 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8192x2048 : Shape := ⟨2, ![8192, 2048]⟩
abbrev S16x6x2048 : Shape := ⟨3, ![16, 6, 2048]⟩
abbrev S2048 : Shape := ⟨1, ![2048]⟩
abbrev S2048x3840 : Shape := ⟨2, ![2048, 3840]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1x2048 : Shape := ⟨3, ![1, 1, 2048]⟩
abbrev S8x1024x2048 : Shape := ⟨3, ![8, 1024, 2048]⟩
abbrev S8x1024 : Shape := ⟨2, ![8, 1024]⟩
abbrev S8x1024x1 : Shape := ⟨3, ![8, 1024, 1]⟩
abbrev S8x1x2048 : Shape := ⟨3, ![8, 1, 2048]⟩
abbrev S8x2048 : Shape := ⟨2, ![8, 2048]⟩
abbrev S8192x3840 : Shape := ⟨2, ![8192, 3840]⟩
abbrev S16384x3840 : Shape := ⟨2, ![16384, 3840]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S16x6x2048, .f32⟩
  | .hbm, ⟨3, _⟩ => ⟨S2048, .f32⟩
  | .hbm, ⟨4, _⟩ => ⟨S2048x3840, .bf16⟩
  | .hbm, ⟨5, _⟩ => ⟨S2048x3840, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x1x2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S1x1x2048, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8x1024x2048, .f32⟩
  | .hbm, ⟨36, _⟩ => ⟨S8x1024x2048, .f32⟩
  | .hbm, ⟨37, _⟩ => ⟨S_, .f32⟩
  | .hbm, ⟨38, _⟩ => ⟨S8x1024, .f32⟩
  | .hbm, ⟨39, _⟩ => ⟨S8x1024x1, .f32⟩
  | .hbm, ⟨40, _⟩ => ⟨S_, .f32⟩
  | .hbm, ⟨41, _⟩ => ⟨S8x1024x1, .f32⟩
  | .hbm, ⟨42, _⟩ => ⟨S8x1024x1, .f32⟩
  | .hbm, ⟨43, _⟩ => ⟨S_, .f32⟩
  | .hbm, ⟨44, _⟩ => ⟨S8x1024x1, .f32⟩
  | .hbm, ⟨45, _⟩ => ⟨S8x1024x1, .f32⟩
  | .hbm, ⟨46, _⟩ => ⟨S8x1024x1, .f32⟩
  | .hbm, ⟨47, _⟩ => ⟨S8x1024x2048, .f32⟩
  | .hbm, ⟨48, _⟩ => ⟨S8x1024x2048, .f32⟩
  | .hbm, ⟨49, _⟩ => ⟨S1x1x2048, .f32⟩
  | .hbm, ⟨50, _⟩ => ⟨S8x1024x2048, .f32⟩
  | .hbm, ⟨51, _⟩ => ⟨S8x1024x2048, .f32⟩
  | .hbm, ⟨52, _⟩ => ⟨S8x1x2048, .f32⟩
  | .hbm, ⟨53, _⟩ => ⟨S8x2048, .f32⟩
  | .hbm, ⟨54, _⟩ => ⟨S8x1x2048, .f32⟩
  | .hbm, ⟨55, _⟩ => ⟨S_, .f32⟩
  | .hbm, ⟨56, _⟩ => ⟨S8x1x2048, .f32⟩
  | .hbm, ⟨57, _⟩ => ⟨S8x1x2048, .f32⟩
  | .hbm, ⟨58, _⟩ => ⟨S8x1024x2048, .f32⟩
  | .hbm, ⟨59, _⟩ => ⟨S8x1024x2048, .f32⟩
  | .hbm, ⟨60, _⟩ => ⟨S8x1x2048, .f32⟩
  | .hbm, ⟨61, _⟩ => ⟨S8x2048, .f32⟩
  | .hbm, ⟨62, _⟩ => ⟨S8x1x2048, .f32⟩
  | .hbm, ⟨63, _⟩ => ⟨S8x1024x2048, .f32⟩
  | .hbm, ⟨64, _⟩ => ⟨S8x1024x2048, .f32⟩
  | .hbm, ⟨65, _⟩ => ⟨S8192x3840, .f32⟩
  | .hbm, ⟨66, _⟩ => ⟨S8192x2048, .f32⟩
  | .hbm, ⟨67, _⟩ => ⟨S8192x3840, .f32⟩
  | .hbm, ⟨68, _⟩ => ⟨S16384x3840, .f32⟩
  | .hbm, ⟨69, _⟩ => ⟨S16384x3840, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== Kernel3.lean ====
abbrev S16384x2048 : Shape := ⟨2, ![16384, 2048]⟩
abbrev S2048x5632 : Shape := ⟨2, ![2048, 5632]⟩
abbrev S5632x2048 : Shape := ⟨2, ![5632, 2048]⟩
abbrev S16x6x2048 : Shape := ⟨3, ![16, 6, 2048]⟩
abbrev S1024x2048 : Shape := ⟨2, ![1024, 2048]⟩
abbrev S2048x512 : Shape := ⟨2, ![2048, 512]⟩
abbrev S5632x512 : Shape := ⟨2, ![5632, 512]⟩
abbrev S1024x512 : Shape := ⟨2, ![1024, 512]⟩
abbrev S1x6x512 : Shape := ⟨3, ![1, 6, 512]⟩
abbrev S1024x5632 : Shape := ⟨2, ![1024, 5632]⟩
abbrev S1x1x512 : Shape := ⟨3, ![1, 1, 512]⟩
abbrev S1x512 : Shape := ⟨2, ![1, 512]⟩

abbrev nBuf : Space → Nat
  | .hbm => 7
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S16384x2048, .f32⟩
  | .hbm, ⟨5, _⟩ => ⟨S16x6x2048, .f32⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S5632x512, .bf16⟩
  | .local _ .vmem, ⟨7, _⟩ => ⟨S5632x512, .bf16⟩
  | .local _ .vmem, ⟨8, _⟩ => ⟨S1024x512, .f32⟩
  | .local _ .vmem, ⟨9, _⟩ => ⟨S1024x512, .f32⟩
  | .local _ .vmem, ⟨10, _⟩ => ⟨S1x6x512, .f32⟩
  | .local _ .vmem, ⟨11, _⟩ => ⟨S1x6x512, .f32⟩
  | .local _ .vmem, ⟨12, _⟩ => ⟨S1024x512, .f32⟩
  | .local _ .vmem, ⟨13, _⟩ => ⟨S1024x512, .f32⟩
  | .local _ .vmem, ⟨14, _⟩ => ⟨S1024x5632, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 15], ![false, false]⟩

def k0_cond13 (i : grid0.Coords) : BitVec 1 :=
  let arg1 : BitVec 32 := BitVec.ofNat 32 (i 1).val
  let c11_i32_0 : BitVec 32 := 11#32
  let v3 : BitVec 1 := Scalar.cmpi .sge arg1 c11_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  ![arg0.toNat, v1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c11_i32 : BitVec 32 := 11#32
  let v21 : BitVec 32 := Scalar.subi arg1 c11_i32
  let c0_i32_8 : BitVec 32 := 0#32
  let v22 : BitVec 32 := Scalar.maxsi v21 c0_i32_8
  let c0_i32_9 : BitVec 32 := 0#32
  let c0_i32_10 : BitVec 32 := 0#32
  ![v20.toNat, c0_i32_9.toNat, v22.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S5632x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16384x2048 : Shape := ⟨2, ![16384, 2048]⟩
abbrev S2048x5632 : Shape := ⟨2, ![2048, 5632]⟩
abbrev S5632x2048 : Shape := ⟨2, ![5632, 2048]⟩
abbrev S16x6x2048 : Shape := ⟨3, ![16, 6, 2048]⟩
abbrev S16384x5632 : Shape := ⟨2, ![16384, 5632]⟩
abbrev S_ : Shape := ⟨0, ![]⟩
abbrev S8192x2048 : Shape := ⟨2, ![8192, 2048]⟩
abbrev S1x1x2048 : Shape := ⟨3, ![1, 1, 2048]⟩
abbrev S2048 : Shape := ⟨1, ![2048]⟩
abbrev S1x2048 : Shape := ⟨2, ![1, 2048]⟩
abbrev S8x1024x2048 : Shape := ⟨3, ![8, 1024, 2048]⟩
abbrev S8x1x2048 : Shape := ⟨3, ![8, 1, 2048]⟩
abbrev S8x2048 : Shape := ⟨2, ![8, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S16384x2048, .f32⟩
  | .hbm, ⟨5, _⟩ => ⟨S16x6x2048, .f32⟩
  | .hbm, ⟨6, _⟩ => ⟨S16384x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S16384x5632, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S_, .f32⟩
  | .hbm, ⟨17, _⟩ => ⟨S16384x5632, .f32⟩
  | .hbm, ⟨18, _⟩ => ⟨S16384x5632, .f32⟩
  | .hbm, ⟨19, _⟩ => ⟨S16384x5632, .f32⟩
  | .hbm, ⟨20, _⟩ => ⟨S16384x5632, .f32⟩
  | .hbm, ⟨21, _⟩ => ⟨S16384x5632, .f32⟩
  | .hbm, ⟨22, _⟩ => ⟨S16384x2048, .f32⟩
  | .hbm, ⟨23, _⟩ => ⟨S8192x2048, .f32⟩
  | .hbm, ⟨24, _⟩ => ⟨S1x1x2048, .f32⟩
  | .hbm, ⟨25, _⟩ => ⟨S2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8x1024x2048, .f32⟩
  | .hbm, ⟨33, _⟩ => ⟨S8x1x2048, .f32⟩
  | .hbm, ⟨34, _⟩ => ⟨S8x2048, .f32⟩
  | .hbm, ⟨35, _⟩ => ⟨S8x1x2048, .f32⟩
  | .hbm, ⟨36, _⟩ => ⟨S8192x2048, .f32⟩
  | .hbm, ⟨37, _⟩ => ⟨S8x1024x2048, .f32⟩
  | .hbm, ⟨38, _⟩ => ⟨S8x1024x2048, .f32⟩
  | .hbm, ⟨39, _⟩ => ⟨S8x1024x2048, .f32⟩
  | .hbm, ⟨40, _⟩ => ⟨S8x1024x2048, .f32⟩
  | .hbm, ⟨41, _⟩ => ⟨S8192x2048, .f32⟩
  | .hbm, ⟨42, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel4.lean ====
abbrev S8192x512 : Shape := ⟨2, ![8192, 512]⟩
abbrev S8192x1024 : Shape := ⟨2, ![8192, 1024]⟩
abbrev S2048x2048 : Shape := ⟨2, ![2048, 2048]⟩
abbrev S8192x2048 : Shape := ⟨2, ![8192, 2048]⟩
abbrev S16x6x2048 : Shape := ⟨3, ![16, 6, 2048]⟩
abbrev S2048 : Shape := ⟨1, ![2048]⟩
abbrev S1x2048 : Shape := ⟨2, ![1, 2048]⟩
abbrev S16384x2048 : Shape := ⟨2, ![16384, 2048]⟩
abbrev S512x512 : Shape := ⟨2, ![512, 512]⟩
abbrev S512x1024 : Shape := ⟨2, ![512, 1024]⟩
abbrev S512x2048 : Shape := ⟨2, ![512, 2048]⟩
abbrev S1x6x2048 : Shape := ⟨3, ![1, 6, 2048]⟩
abbrev S1024x2048 : Shape := ⟨2, ![1024, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x1024, .bf16⟩
  | .hbm, ⟨5, _⟩ => ⟨S8192x1024, .bf16⟩
  | .hbm, ⟨6, _⟩ => ⟨S2048x2048, .bf16⟩
  | .hbm, ⟨7, _⟩ => ⟨S8192x2048, .f32⟩
  | .hbm, ⟨8, _⟩ => ⟨S8192x2048, .f32⟩
  | .hbm, ⟨9, _⟩ => ⟨S16x6x2048, .f32⟩
  | .hbm, ⟨10, _⟩ => ⟨S2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S1x6x2048, .f32⟩
  | .local _ .vmem, ⟨18, _⟩ => ⟨S1x6x2048, .f32⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .bf16⟩
  | .local _ .vmem, ⟨23, _⟩ => ⟨S512x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_9 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S8192x512 : Shape := ⟨2, ![8192, 512]⟩
abbrev S8192x1024 : Shape := ⟨2, ![8192, 1024]⟩
abbrev S2048x2048 : Shape := ⟨2, ![2048, 2048]⟩
abbrev S8192x2048 : Shape := ⟨2, ![8192, 2048]⟩
abbrev S16x6x2048 : Shape := ⟨3, ![16, 6, 2048]⟩
abbrev S2048 : Shape := ⟨1, ![2048]⟩
abbrev S8x1024x2048 : Shape := ⟨3, ![8, 1024, 2048]⟩
abbrev S8x6x2048 : Shape := ⟨3, ![8, 6, 2048]⟩
abbrev S1x1x2048 : Shape := ⟨3, ![1, 1, 2048]⟩
abbrev S1x2048 : Shape := ⟨2, ![1, 2048]⟩
abbrev S8x1x2048 : Shape := ⟨3, ![8, 1, 2048]⟩
abbrev S8x2048 : Shape := ⟨2, ![8, 2048]⟩
abbrev S_ : Shape := ⟨0, ![]⟩
abbrev S8192 : Shape := ⟨1, ![8192]⟩
abbrev S8192x1 : Shape := ⟨2, ![8192, 1]⟩
abbrev S8x1024 : Shape := ⟨2, ![8, 1024]⟩
abbrev S8x1024x1 : Shape := ⟨3, ![8, 1024, 1]⟩
abbrev S16384x2048 : Shape := ⟨2, ![16384, 2048]⟩

abbrev nBuf : Space → Nat
  | .hbm => 96
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x1024, .bf16⟩
  | .hbm, ⟨5, _⟩ => ⟨S8192x1024, .bf16⟩
  | .hbm, ⟨6, _⟩ => ⟨S2048x2048, .bf16⟩
  | .hbm, ⟨7, _⟩ => ⟨S8192x2048, .f32⟩
  | .hbm, ⟨8, _⟩ => ⟨S8192x2048, .f32⟩
  | .hbm, ⟨9, _⟩ => ⟨S16x6x2048, .f32⟩
  | .hbm, ⟨10, _⟩ => ⟨S2048, .f32⟩
  | .hbm, ⟨11, _⟩ => ⟨S2048x2048, .f32⟩
  | .hbm, ⟨12, _⟩ => ⟨S8192x2048, .bf16⟩
  | .hbm, ⟨13, _⟩ => ⟨S8192x2048, .f32⟩
  | .hbm, ⟨14, _⟩ => ⟨S8192x2048, .f32⟩
  | .hbm, ⟨15, _⟩ => ⟨S8192x2048, .bf16⟩
  | .hbm, ⟨16, _⟩ => ⟨S8192x2048, .f32⟩
  | .hbm, ⟨17, _⟩ => ⟨S8192x2048, .f32⟩
  | .hbm, ⟨18, _⟩ => ⟨S8x1024x2048, .f32⟩
  | .hbm, ⟨19, _⟩ => ⟨S8x6x2048, .f32⟩
  | .hbm, ⟨20, _⟩ => ⟨S1x1x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8x1024x2048, .f32⟩
  | .hbm, ⟨27, _⟩ => ⟨S8x1x2048, .f32⟩
  | .hbm, ⟨28, _⟩ => ⟨S8x2048, .f32⟩
  | .hbm, ⟨29, _⟩ => ⟨S8x1x2048, .f32⟩
  | .hbm, ⟨30, _⟩ => ⟨S8x1024x2048, .f32⟩
  | .hbm, ⟨31, _⟩ => ⟨S8x1024x2048, .f32⟩
  | .hbm, ⟨32, _⟩ => ⟨S8x1024x2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S1x1x2048, .f32⟩
  | .hbm, ⟨50, _⟩ => ⟨S2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S1x1x2048, .f32⟩
  | .hbm, ⟨58, _⟩ => ⟨S2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S8x1024x2048, .f32⟩
  | .hbm, ⟨63, _⟩ => ⟨S_, .f32⟩
  | .hbm, ⟨64, _⟩ => ⟨S8x1024, .f32⟩
  | .hbm, ⟨65, _⟩ => ⟨S8x1024x1, .f32⟩
  | .hbm, ⟨66, _⟩ => ⟨S_, .f32⟩
  | .hbm, ⟨67, _⟩ => ⟨S8x1024x1, .f32⟩
  | .hbm, ⟨68, _⟩ => ⟨S8x1024x1, .f32⟩
  | .hbm, ⟨69, _⟩ => ⟨S_, .f32⟩
  | .hbm, ⟨70, _⟩ => ⟨S8x1024x1, .f32⟩
  | .hbm, ⟨71, _⟩ => ⟨S8x1024x1, .f32⟩
  | .hbm, ⟨72, _⟩ => ⟨S8x1024x1, .f32⟩
  | .hbm, ⟨73, _⟩ => ⟨S8x1024x2048, .f32⟩
  | .hbm, ⟨74, _⟩ => ⟨S8x1024x2048, .f32⟩
  | .hbm, ⟨75, _⟩ => ⟨S1x1x2048, .f32⟩
  | .hbm, ⟨76, _⟩ => ⟨S8x1024x2048, .f32⟩
  | .hbm, ⟨77, _⟩ => ⟨S8x1024x2048, .f32⟩
  | .hbm, ⟨78, _⟩ => ⟨S8x1x2048, .f32⟩
  | .hbm, ⟨79, _⟩ => ⟨S8x2048, .f32⟩
  | .hbm, ⟨80, _⟩ => ⟨S8x1x2048, .f32⟩
  | .hbm, ⟨81, _⟩ => ⟨S_, .f32⟩
  | .hbm, ⟨82, _⟩ => ⟨S8x1x2048, .f32⟩
  | .hbm, ⟨83, _⟩ => ⟨S8x1x2048, .f32⟩
  | .hbm, ⟨84, _⟩ => ⟨S8x1024x2048, .f32⟩
  | .hbm, ⟨85, _⟩ => ⟨S8x1024x2048, .f32⟩
  | .hbm, ⟨86, _⟩ => ⟨S8x1x2048, .f32⟩
  | .hbm, ⟨87, _⟩ => ⟨S8x2048, .f32⟩
  | .hbm, ⟨88, _⟩ => ⟨S8x1x2048, .f32⟩
  | .hbm, ⟨89, _⟩ => ⟨S8x1024x2048, .f32⟩
  | .hbm, ⟨90, _⟩ => ⟨S8x1024x2048, .f32⟩
  | .hbm, ⟨91, _⟩ => ⟨S8192x2048, .f32⟩
  | .hbm, ⟨92, _⟩ => ⟨S16384x2048, .f32⟩
  | .hbm, ⟨93, _⟩ => ⟨S8192x2048, .f32⟩
  | .hbm, ⟨94, _⟩ => ⟨S16384x2048, .f32⟩
  | .hbm, ⟨95, _⟩ => ⟨S16384x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_3 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Kernel5.lean ====
abbrev S40 : Shape := ⟨1, ![40]⟩
abbrev S40960 : Shape := ⟨1, ![40960]⟩
abbrev S16384x2048 : Shape := ⟨2, ![16384, 2048]⟩
abbrev S8x2048x5632 : Shape := ⟨3, ![8, 2048, 5632]⟩
abbrev S8x5632x2048 : Shape := ⟨3, ![8, 5632, 2048]⟩
abbrev S40960x2048 : Shape := ⟨2, ![40960, 2048]⟩
abbrev S1x2048x512 : Shape := ⟨3, ![1, 2048, 512]⟩
abbrev S1 : Shape := ⟨1, ![1]⟩
abbrev S1x5632x256 : Shape := ⟨3, ![1, 5632, 256]⟩
abbrev S1024x256 : Shape := ⟨2, ![1024, 256]⟩
abbrev S256x2048 : Shape := ⟨2, ![256, 2048]⟩
abbrev S1024x2048 : Shape := ⟨2, ![1024, 2048]⟩
abbrev S1024x5632 : Shape := ⟨2, ![1024, 5632]⟩
abbrev S_ : Shape := ⟨0, ![]⟩
abbrev S1x2048 : Shape := ⟨2, ![1, 2048]⟩
abbrev S2048x512 : Shape := ⟨2, ![2048, 512]⟩
abbrev S256x512 : Shape := ⟨2, ![256, 512]⟩
abbrev S256x5632 : Shape := ⟨2, ![256, 5632]⟩
abbrev S5632x256 : Shape := ⟨2, ![5632, 256]⟩
abbrev S256x256 : Shape := ⟨2, ![256, 256]⟩
abbrev S512x2048 : Shape := ⟨2, ![512, 2048]⟩
abbrev S512x512 : Shape := ⟨2, ![512, 512]⟩
abbrev S512x5632 : Shape := ⟨2, ![512, 5632]⟩
abbrev S512x256 : Shape := ⟨2, ![512, 256]⟩
abbrev S768x2048 : Shape := ⟨2, ![768, 2048]⟩
abbrev S768x512 : Shape := ⟨2, ![768, 512]⟩
abbrev S768x5632 : Shape := ⟨2, ![768, 5632]⟩
abbrev S768x256 : Shape := ⟨2, ![768, 256]⟩
abbrev S1024x512 : Shape := ⟨2, ![1024, 512]⟩

abbrev nBuf : Space → Nat
  | .hbm => 5
  | .vmem => 11
  | .smem => 3
  | _ => 0

abbrev bufTy : (tb : Table) → Fin (tcTables nBuf tb) → BufTy
  | .hbm, ⟨0, _⟩ => ⟨S16384x2048, .f32⟩
  | .hbm, ⟨1, _⟩ => ⟨S8x2048x5632, .f32⟩
  | .hbm, ⟨2, _⟩ => ⟨S8x2048x5632, .f32⟩
  | .hbm, ⟨3, _⟩ => ⟨S8x5632x2048, .f32⟩
  | .hbm, ⟨4, _⟩ => ⟨S40960x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x5632x256, .f32⟩
  | .local _ .vmem, ⟨5, _⟩ => ⟨S1x5632x256, .f32⟩
  | .local _ .vmem, ⟨6, _⟩ => ⟨S1024x256, .f32⟩
  | .local _ .vmem, ⟨7, _⟩ => ⟨S1024x256, .f32⟩
  | .local _ .vmem, ⟨8, _⟩ => ⟨S256x2048, .f32⟩
  | .local _ .vmem, ⟨9, _⟩ => ⟨S1024x2048, .bf16⟩
  | .local _ .vmem, ⟨10, _⟩ => ⟨S1024x5632, .bf16⟩
  | .local _ .smem, ⟨0, _⟩ => ⟨S40, .i32⟩
  | .local _ .smem, ⟨1, _⟩ => ⟨S40, .i32⟩
  | .local _ .smem, ⟨2, _⟩ => ⟨S40960, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![40, 19], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_40 : BitVec 32 := 0#32
  let c128_i32 : BitVec 32 := 128#32
  let v80 : BitVec 32 := Scalar.addi c0_i32_40 c128_i32
  let c1_i32 : BitVec 32 := 1#32
  ⟨c0_i32_40, v80, c1_i32⟩
def k0_off2 (i : grid0.Coords) (k0_t1 : Fin k0_t1_loop.trips) : Fin 1 → Nat :=
  let arg0 : BitVec 32 := BitVec.ofNat 32 (i 0).val
  let c1024_i32_38 : BitVec 32 := 1024#32
  let v78 : BitVec 32 := Scalar.muli arg0 c1024_i32_38
  let c0_i32_39 : BitVec 32 := 0#32
  let v79 : BitVec 32 := Scalar.addi v78 c0_i32_39
  let c2_i32 : BitVec 32 := 2#32
  let c0_i32_40 : BitVec 32 := 0#32
  let c1_i32 : BitVec 32 := 1#32
  let arg14 : BitVec 32 := Scf.iv c0_i32_40 c1_i32 k0_t1
  let v87 : BitVec 32 := Scalar.muli c2_i32 arg14
  let c0_i32_49 : BitVec 32 := 0#32
  let v88 : BitVec 32 := Scalar.addi v87 c0_i32_49
  let v89 : BitVec 32 := Scalar.addi v79 v88
  let v90 : Index := Scalar.indexCast v89
  ![v90.toNat]
def k0_off3 (k0_t1 : Fin k0_t1_loop.trips) : Fin 2 → Nat :=
  let c2_i32 : BitVec 32 := 2#32
  let c0_i32_40 : BitVec 32 := 0#32
  let c1_i32 : BitVec 32 := 1#32
  let arg14 : BitVec 32 := Scf.iv c0_i32_40 c1_i32 k0_t1
  let v87 : BitVec 32 := Scalar.muli c2_i32 arg14
  let c0_i32_49 : BitVec 32 := 0#32
  let v88 : BitVec 32 := Scalar.addi v87 c0_i32_49
  let c0_i32_50 : BitVec 32 := 0#32
  ![v88.toNat, 0]
def k0_off4 (v91 : BitVec 32) : Fin 2 → Nat :=
  let c0_i32_51 : BitVec 32 := 0#32
  ![v91.toNat, 0]
def k0_cond1 (i : grid0.Coords) (v1 : BitVec 32) : BitVec 1 :=
  let c0_i32_3 : BitVec 32 := 0#32
  let v14 : BitVec 1 := Scalar.cmpi .sgt v1 c0_i32_3
  let arg1 : BitVec 32 := BitVec.ofNat 32 (i 1).val
  let c0_i32_4 : BitVec 32 := 0#32
  let v15 : BitVec 1 := Scalar.cmpi .eq arg1 c0_i32_4
  let v16 : BitVec 1 := Scalar.andi v14 v15
  let v17 : BitVec 32 := Scalar.extui v16
  let c0_i32_5 : BitVec 32 := 0#32
  let v18 : BitVec 1 := Scalar.cmpi .ne v17 c0_i32_5
  v18

def k0_chk1 (i : grid0.Coords) (v1 : BitVec 32) (v91 : BitVec 32) : Prop :=
  (∀ (k0_h1 : k0_cond1 i v1 = 1#1), ∀ a, (k0_off4 v91) a + S1x2048.size a ≤ S16384x2048.size a)
theorem k0_off4_inb : ∀ (i : grid0.Coords) (v1 : BitVec 32) (v91 : BitVec 32) (k0_hw1 : k0_chk1 i v1 v91), ∀ (k0_h1 : k0_cond1 i v1 = 1#1), ∀ a, (k0_off4 v91) a + S1x2048.size a ≤ S16384x2048.size a := fun i v1 v91 k0_hw1 k0_h1 => k0_hw1 k0_h1

def k0_off5 (i : grid0.Coords) (k0_t1 : Fin k0_t1_loop.trips) : Fin 1 → Nat :=
  let arg0 : BitVec 32 := BitVec.ofNat 32 (i 0).val
  let c1024_i32_38 : BitVec 32 := 1024#32
  let v78 : BitVec 32 := Scalar.muli arg0 c1024_i32_38
  let c0_i32_39 : BitVec 32 := 0#32
  let v79 : BitVec 32 := Scalar.addi v78 c0_i32_39
  let c2_i32_52 : BitVec 32 := 2#32
  let c0_i32_40 : BitVec 32 := 0#32
  let c1_i32 : BitVec 32 := 1#32
  let arg14 : BitVec 32 := Scf.iv c0_i32_40 c1_i32 k0_t1
  let v94 : BitVec 32 := Scalar.muli c2_i32_52 arg14
  let c1_i32_53 : BitVec 32 := 1#32
  let v95 : BitVec 32 := Scalar.addi v94 c1_i32_53
  let v96 : BitVec 32 := Scalar.addi v79 v95
  let v97 : Index := Scalar.indexCast v96
  ![v97.toNat]
def k0_off6 (k0_t1 : Fin k0_t1_loop.trips) : Fin 2 → Nat :=
  let c2_i32_52 : BitVec 32 := 2#32
  let c0_i32_40 : BitVec 32 := 0#32
  let c1_i32 : BitVec 32 := 1#32
  let arg14 : BitVec 32 := Scf.iv c0_i32_40 c1_i32 k0_t1
  let v94 : BitVec 32 := Scalar.muli c2_i32_52 arg14
  let c1_i32_53 : BitVec 32 := 1#32
  let v95 : BitVec 32 := Scalar.addi v94 c1_i32_53
  let c0_i32_54 : BitVec 32 := 0#32
  ![v95.toNat, 0]
def k0_off7 (v98 : BitVec 32) : Fin 2 → Nat :=
  let c0_i32_55 : BitVec 32 := 0#32
  ![v98.toNat, 0]

def k0_chk2 (i : grid0.Coords) (v1 : BitVec 32) (v98 : BitVec 32) : Prop :=
  (∀ (k0_h1 : k0_cond1 i v1 = 1#1), ∀ a, (k0_off7 v98) a + S1x2048.size a ≤ S16384x2048.size a)
theorem k0_off7_inb : ∀ (i : grid0.Coords) (v1 : BitVec 32) (v98 : BitVec 32) (k0_hw2 : k0_chk2 i v1 v98), ∀ (k0_h1 : k0_cond1 i v1 = 1#1), ∀ a, (k0_off7 v98) a + S1x2048.size a ≤ S16384x2048.size a := fun i v1 v98 k0_hw2 k0_h1 => k0_hw2 k0_h1

@[reducible] def k0_t2_loop : Scf.Loop 32 :=
  let c0_i32_42 : BitVec 32 := 0#32
  let c256_i32_43 : BitVec 32 := 256#32
  let v81 : BitVec 32 := Scalar.addi c0_i32_42 c256_i32_43
  let c1_i32_44 : BitVec 32 := 1#32
  ⟨c0_i32_42, v81, c1_i32_44⟩
def k0_off8 (k0_t2 : Fin k0_t2_loop.trips) : Fin 2 → Nat :=
  let c0_i32_42 : BitVec 32 := 0#32
  let c1_i32_44 : BitVec 32 := 1#32
  let arg14 : BitVec 32 := Scf.iv c0_i32_42 c1_i32_44 k0_t2
  let c0_i32_49 : BitVec 32 := 0#32
  ![arg14.toNat, 0]
@[reducible] def k0_t3_loop : Scf.Loop 32 :=
  let c0_i32_40 : BitVec 32 := 0#32
  let c128_i32 : BitVec 32 := 128#32
  let v80 : BitVec 32 := Scalar.addi c0_i32_40 c128_i32
  let c1_i32 : BitVec 32 := 1#32
  ⟨c0_i32_40, v80, c1_i32⟩
def k0_off9 (i : grid0.Coords) (k0_t3 : Fin k0_t3_loop.trips) : Fin 1 → Nat :=
  let arg0 : BitVec 32 := BitVec.ofNat 32 (i 0).val
  let c1024_i32_38 : BitVec 32 := 1024#32
  let v78 : BitVec 32 := Scalar.muli arg0 c1024_i32_38
  let c256_i32_39 : BitVec 32 := 256#32
  let v79 : BitVec 32 := Scalar.addi v78 c256_i32_39
  let c2_i32 : BitVec 32 := 2#32
  let c0_i32_40 : BitVec 32 := 0#32
  let c1_i32 : BitVec 32 := 1#32
  let arg14 : BitVec 32 := Scf.iv c0_i32_40 c1_i32 k0_t3
  let v87 : BitVec 32 := Scalar.muli c2_i32 arg14
  let c0_i32_48 : BitVec 32 := 0#32
  let v88 : BitVec 32 := Scalar.addi v87 c0_i32_48
  let v89 : BitVec 32 := Scalar.addi v79 v88
  let v90 : Index := Scalar.indexCast v89
  ![v90.toNat]
def k0_off10 (k0_t3 : Fin k0_t3_loop.trips) : Fin 2 → Nat :=
  let c2_i32 : BitVec 32 := 2#32
  let c0_i32_40 : BitVec 32 := 0#32
  let c1_i32 : BitVec 32 := 1#32
  let arg14 : BitVec 32 := Scf.iv c0_i32_40 c1_i32 k0_t3
  let v87 : BitVec 32 := Scalar.muli c2_i32 arg14
  let c0_i32_48 : BitVec 32 := 0#32
  let v88 : BitVec 32 := Scalar.addi v87 c0_i32_48
  let c0_i32_49 : BitVec 32 := 0#32
  ![v88.toNat, 0]
def k0_off11 (v91 : BitVec 32) : Fin 2 → Nat :=
  let c0_i32_50 : BitVec 32 := 0#32
  ![v91.toNat, 0]
def k0_cond2 (i : grid0.Coords) (v1 : BitVec 32) : BitVec 1 :=
  let c256_i32_6 : BitVec 32 := 256#32
  let v19 : BitVec 1 := Scalar.cmpi .sgt v1 c256_i32_6
  let arg1 : BitVec 32 := BitVec.ofNat 32 (i 1).val
  let c0_i32_7 : BitVec 32 := 0#32
  let v20 : BitVec 1 := Scalar.cmpi .eq arg1 c0_i32_7
  let v21 : BitVec 1 := Scalar.andi v19 v20
  let v22 : BitVec 32 := Scalar.extui v21
  let c0_i32_8 : BitVec 32 := 0#32
  let v23 : BitVec 1 := Scalar.cmpi .ne v22 c0_i32_8
  v23

def k0_chk3 (i : grid0.Coords) (v1 : BitVec 32) (v91 : BitVec 32) : Prop :=
  (∀ (k0_h2 : k0_cond2 i v1 = 1#1), ∀ a, (k0_off11 v91) a + S1x2048.size a ≤ S16384x2048.size a)
theorem k0_off11_inb : ∀ (i : grid0.Coords) (v1 : BitVec 32) (v91 : BitVec 32) (k0_hw3 : k0_chk3 i v1 v91), ∀ (k0_h2 : k0_cond2 i v1 = 1#1), ∀ a, (k0_off11 v91) a + S1x2048.size a ≤ S16384x2048.size a := fun i v1 v91 k0_hw3 k0_h2 => k0_hw3 k0_h2

def k0_off12 (i : grid0.Coords) (k0_t3 : Fin k0_t3_loop.trips) : Fin 1 → Nat :=
  let arg0 : BitVec 32 := BitVec.ofNat 32 (i 0).val
  let c1024_i32_38 : BitVec 32 := 1024#32
  let v78 : BitVec 32 := Scalar.muli arg0 c1024_i32_38
  let c256_i32_39 : BitVec 32 := 256#32
  let v79 : BitVec 32 := Scalar.addi v78 c256_i32_39
  let c2_i32_51 : BitVec 32 := 2#32
  let c0_i32_40 : BitVec 32 := 0#32
  let c1_i32 : BitVec 32 := 1#32
  let arg14 : BitVec 32 := Scf.iv c0_i32_40 c1_i32 k0_t3
  let v94 : BitVec 32 := Scalar.muli c2_i32_51 arg14
  let c1_i32_52 : BitVec 32 := 1#32
  let v95 : BitVec 32 := Scalar.addi v94 c1_i32_52
  let v96 : BitVec 32 := Scalar.addi v79 v95
  let v97 : Index := Scalar.indexCast v96
  ![v97.toNat]
def k0_off13 (k0_t3 : Fin k0_t3_loop.trips) : Fin 2 → Nat :=
  let c2_i32_51 : BitVec 32 := 2#32
  let c0_i32_40 : BitVec 32 := 0#32
  let c1_i32 : BitVec 32 := 1#32
  let arg14 : BitVec 32 := Scf.iv c0_i32_40 c1_i32 k0_t3
  let v94 : BitVec 32 := Scalar.muli c2_i32_51 arg14
  let c1_i32_52 : BitVec 32 := 1#32
  let v95 : BitVec 32 := Scalar.addi v94 c1_i32_52
  let c0_i32_53 : BitVec 32 := 0#32
  ![v95.toNat, 0]
def k0_off14 (v98 : BitVec 32) : Fin 2 → Nat :=
  let c0_i32_54 : BitVec 32 := 0#32
  ![v98.toNat, 0]

def k0_chk4 (i : grid0.Coords) (v1 : BitVec 32) (v98 : BitVec 32) : Prop :=
  (∀ (k0_h2 : k0_cond2 i v1 = 1#1), ∀ a, (k0_off14 v98) a + S1x2048.size a ≤ S16384x2048.size a)
theorem k0_off14_inb : ∀ (i : grid0.Coords) (v1 : BitVec 32) (v98 : BitVec 32) (k0_hw4 : k0_chk4 i v1 v98), ∀ (k0_h2 : k0_cond2 i v1 = 1#1), ∀ a, (k0_off14 v98) a + S1x2048.size a ≤ S16384x2048.size a := fun i v1 v98 k0_hw4 k0_h2 => k0_hw4 k0_h2

@[reducible] def k0_t4_loop : Scf.Loop 32 :=
  let c0_i32_42 : BitVec 32 := 0#32
  let c256_i32_43 : BitVec 32 := 256#32
  let v81 : BitVec 32 := Scalar.addi c0_i32_42 c256_i32_43
  let c1_i32_44 : BitVec 32 := 1#32
  ⟨c0_i32_42, v81, c1_i32_44⟩
def k0_off15 (k0_t4 : Fin k0_t4_loop.trips) : Fin 2 → Nat :=
  let c0_i32_42 : BitVec 32 := 0#32
  let c1_i32_44 : BitVec 32 := 1#32
  let arg14 : BitVec 32 := Scf.iv c0_i32_42 c1_i32_44 k0_t4
  let c0_i32_48 : BitVec 32 := 0#32
  ![arg14.toNat, 0]
@[reducible] def k0_t5_loop : Scf.Loop 32 :=
  let c0_i32_40 : BitVec 32 := 0#32
  let c128_i32 : BitVec 32 := 128#32
  let v80 : BitVec 32 := Scalar.addi c0_i32_40 c128_i32
  let c1_i32 : BitVec 32 := 1#32
  ⟨c0_i32_40, v80, c1_i32⟩
def k0_off16 (i : grid0.Coords) (k0_t5 : Fin k0_t5_loop.trips) : Fin 1 → Nat :=
  let arg0 : BitVec 32 := BitVec.ofNat 32 (i 0).val
  let c1024_i32_38 : BitVec 32 := 1024#32
  let v78 : BitVec 32 := Scalar.muli arg0 c1024_i32_38
  let c512_i32_39 : BitVec 32 := 512#32
  let v79 : BitVec 32 := Scalar.addi v78 c512_i32_39
  let c2_i32 : BitVec 32 := 2#32
  let c0_i32_40 : BitVec 32 := 0#32
  let c1_i32 : BitVec 32 := 1#32
  let arg14 : BitVec 32 := Scf.iv c0_i32_40 c1_i32 k0_t5
  let v87 : BitVec 32 := Scalar.muli c2_i32 arg14
  let c0_i32_48 : BitVec 32 := 0#32
  let v88 : BitVec 32 := Scalar.addi v87 c0_i32_48
  let v89 : BitVec 32 := Scalar.addi v79 v88
  let v90 : Index := Scalar.indexCast v89
  ![v90.toNat]
def k0_off17 (k0_t5 : Fin k0_t5_loop.trips) : Fin 2 → Nat :=
  let c2_i32 : BitVec 32 := 2#32
  let c0_i32_40 : BitVec 32 := 0#32
  let c1_i32 : BitVec 32 := 1#32
  let arg14 : BitVec 32 := Scf.iv c0_i32_40 c1_i32 k0_t5
  let v87 : BitVec 32 := Scalar.muli c2_i32 arg14
  let c0_i32_48 : BitVec 32 := 0#32
  let v88 : BitVec 32 := Scalar.addi v87 c0_i32_48
  let c0_i32_49 : BitVec 32 := 0#32
  ![v88.toNat, 0]
def k0_off18 (v91 : BitVec 32) : Fin 2 → Nat :=
  let c0_i32_50 : BitVec 32 := 0#32
  ![v91.toNat, 0]
def k0_cond3 (i : grid0.Coords) (v1 : BitVec 32) : BitVec 1 :=
  let c512_i32_9 : BitVec 32 := 512#32
  let v24 : BitVec 1 := Scalar.cmpi .sgt v1 c512_i32_9
  let arg1 : BitVec 32 := BitVec.ofNat 32 (i 1).val
  let c0_i32_10 : BitVec 32 := 0#32
  let v25 : BitVec 1 := Scalar.cmpi .eq arg1 c0_i32_10
  let v26 : BitVec 1 := Scalar.andi v24 v25
  let v27 : BitVec 32 := Scalar.extui v26
  let c0_i32_11 : BitVec 32 := 0#32
  let v28 : BitVec 1 := Scalar.cmpi .ne v27 c0_i32_11
  v28

def k0_chk5 (i : grid0.Coords) (v1 : BitVec 32) (v91 : BitVec 32) : Prop :=
  (∀ (k0_h3 : k0_cond3 i v1 = 1#1), ∀ a, (k0_off18 v91) a + S1x2048.size a ≤ S16384x2048.size a)
theorem k0_off18_inb : ∀ (i : grid0.Coords) (v1 : BitVec 32) (v91 : BitVec 32) (k0_hw5 : k0_chk5 i v1 v91), ∀ (k0_h3 : k0_cond3 i v1 = 1#1), ∀ a, (k0_off18 v91) a + S1x2048.size a ≤ S16384x2048.size a := fun i v1 v91 k0_hw5 k0_h3 => k0_hw5 k0_h3

def k0_off19 (i : grid0.Coords) (k0_t5 : Fin k0_t5_loop.trips) : Fin 1 → Nat :=
  let arg0 : BitVec 32 := BitVec.ofNat 32 (i 0).val
  let c1024_i32_38 : BitVec 32 := 1024#32
  let v78 : BitVec 32 := Scalar.muli arg0 c1024_i32_38
  let c512_i32_39 : BitVec 32 := 512#32
  let v79 : BitVec 32 := Scalar.addi v78 c512_i32_39
  let c2_i32_51 : BitVec 32 := 2#32
  let c0_i32_40 : BitVec 32 := 0#32
  let c1_i32 : BitVec 32 := 1#32
  let arg14 : BitVec 32 := Scf.iv c0_i32_40 c1_i32 k0_t5
  let v94 : BitVec 32 := Scalar.muli c2_i32_51 arg14
  let c1_i32_52 : BitVec 32 := 1#32
  let v95 : BitVec 32 := Scalar.addi v94 c1_i32_52
  let v96 : BitVec 32 := Scalar.addi v79 v95
  let v97 : Index := Scalar.indexCast v96
  ![v97.toNat]
def k0_off20 (k0_t5 : Fin k0_t5_loop.trips) : Fin 2 → Nat :=
  let c2_i32_51 : BitVec 32 := 2#32
  let c0_i32_40 : BitVec 32 := 0#32
  let c1_i32 : BitVec 32 := 1#32
  let arg14 : BitVec 32 := Scf.iv c0_i32_40 c1_i32 k0_t5
  let v94 : BitVec 32 := Scalar.muli c2_i32_51 arg14
  let c1_i32_52 : BitVec 32 := 1#32
  let v95 : BitVec 32 := Scalar.addi v94 c1_i32_52
  let c0_i32_53 : BitVec 32 := 0#32
  ![v95.toNat, 0]
def k0_off21 (v98 : BitVec 32) : Fin 2 → Nat :=
  let c0_i32_54 : BitVec 32 := 0#32
  ![v98.toNat, 0]

def k0_chk6 (i : grid0.Coords) (v1 : BitVec 32) (v98 : BitVec 32) : Prop :=
  (∀ (k0_h3 : k0_cond3 i v1 = 1#1), ∀ a, (k0_off21 v98) a + S1x2048.size a ≤ S16384x2048.size a)
theorem k0_off21_inb : ∀ (i : grid0.Coords) (v1 : BitVec 32) (v98 : BitVec 32) (k0_hw6 : k0_chk6 i v1 v98), ∀ (k0_h3 : k0_cond3 i v1 = 1#1), ∀ a, (k0_off21 v98) a + S1x2048.size a ≤ S16384x2048.size a := fun i v1 v98 k0_hw6 k0_h3 => k0_hw6 k0_h3

@[reducible] def k0_t6_loop : Scf.Loop 32 :=
  let c0_i32_42 : BitVec 32 := 0#32
  let c256_i32_43 : BitVec 32 := 256#32
  let v81 : BitVec 32 := Scalar.addi c0_i32_42 c256_i32_43
  let c1_i32_44 : BitVec 32 := 1#32
  ⟨c0_i32_42, v81, c1_i32_44⟩
def k0_off22 (k0_t6 : Fin k0_t6_loop.trips) : Fin 2 → Nat :=
  let c0_i32_42 : BitVec 32 := 0#32
  let c1_i32_44 : BitVec 32 := 1#32
  let arg14 : BitVec 32 := Scf.iv c0_i32_42 c1_i32_44 k0_t6
  let c0_i32_48 : BitVec 32 := 0#32
  ![arg14.toNat, 0]
@[reducible] def k0_t7_loop : Scf.Loop 32 :=
  let c0_i32_40 : BitVec 32 := 0#32
  let c128_i32 : BitVec 32 := 128#32
  let v80 : BitVec 32 := Scalar.addi c0_i32_40 c128_i32
  let c1_i32 : BitVec 32 := 1#32
  ⟨c0_i32_40, v80, c1_i32⟩
def k0_off23 (i : grid0.Coords) (k0_t7 : Fin k0_t7_loop.trips) : Fin 1 → Nat :=
  let arg0 : BitVec 32 := BitVec.ofNat 32 (i 0).val
  let c1024_i32_38 : BitVec 32 := 1024#32
  let v78 : BitVec 32 := Scalar.muli arg0 c1024_i32_38
  let c768_i32_39 : BitVec 32 := 768#32
  let v79 : BitVec 32 := Scalar.addi v78 c768_i32_39
  let c2_i32 : BitVec 32 := 2#32
  let c0_i32_40 : BitVec 32 := 0#32
  let c1_i32 : BitVec 32 := 1#32
  let arg14 : BitVec 32 := Scf.iv c0_i32_40 c1_i32 k0_t7
  let v87 : BitVec 32 := Scalar.muli c2_i32 arg14
  let c0_i32_48 : BitVec 32 := 0#32
  let v88 : BitVec 32 := Scalar.addi v87 c0_i32_48
  let v89 : BitVec 32 := Scalar.addi v79 v88
  let v90 : Index := Scalar.indexCast v89
  ![v90.toNat]
def k0_off24 (k0_t7 : Fin k0_t7_loop.trips) : Fin 2 → Nat :=
  let c2_i32 : BitVec 32 := 2#32
  let c0_i32_40 : BitVec 32 := 0#32
  let c1_i32 : BitVec 32 := 1#32
  let arg14 : BitVec 32 := Scf.iv c0_i32_40 c1_i32 k0_t7
  let v87 : BitVec 32 := Scalar.muli c2_i32 arg14
  let c0_i32_48 : BitVec 32 := 0#32
  let v88 : BitVec 32 := Scalar.addi v87 c0_i32_48
  let c0_i32_49 : BitVec 32 := 0#32
  ![v88.toNat, 0]
def k0_off25 (v91 : BitVec 32) : Fin 2 → Nat :=
  let c0_i32_50 : BitVec 32 := 0#32
  ![v91.toNat, 0]
def k0_cond4 (i : grid0.Coords) (v1 : BitVec 32) : BitVec 1 :=
  let c768_i32_12 : BitVec 32 := 768#32
  let v29 : BitVec 1 := Scalar.cmpi .sgt v1 c768_i32_12
  let arg1 : BitVec 32 := BitVec.ofNat 32 (i 1).val
  let c0_i32_13 : BitVec 32 := 0#32
  let v30 : BitVec 1 := Scalar.cmpi .eq arg1 c0_i32_13
  let v31 : BitVec 1 := Scalar.andi v29 v30
  let v32 : BitVec 32 := Scalar.extui v31
  let c0_i32_14 : BitVec 32 := 0#32
  let v33 : BitVec 1 := Scalar.cmpi .ne v32 c0_i32_14
  v33

def k0_chk7 (i : grid0.Coords) (v1 : BitVec 32) (v91 : BitVec 32) : Prop :=
  (∀ (k0_h4 : k0_cond4 i v1 = 1#1), ∀ a, (k0_off25 v91) a + S1x2048.size a ≤ S16384x2048.size a)
theorem k0_off25_inb : ∀ (i : grid0.Coords) (v1 : BitVec 32) (v91 : BitVec 32) (k0_hw7 : k0_chk7 i v1 v91), ∀ (k0_h4 : k0_cond4 i v1 = 1#1), ∀ a, (k0_off25 v91) a + S1x2048.size a ≤ S16384x2048.size a := fun i v1 v91 k0_hw7 k0_h4 => k0_hw7 k0_h4

def k0_off26 (i : grid0.Coords) (k0_t7 : Fin k0_t7_loop.trips) : Fin 1 → Nat :=
  let arg0 : BitVec 32 := BitVec.ofNat 32 (i 0).val
  let c1024_i32_38 : BitVec 32 := 1024#32
  let v78 : BitVec 32 := Scalar.muli arg0 c1024_i32_38
  let c768_i32_39 : BitVec 32 := 768#32
  let v79 : BitVec 32 := Scalar.addi v78 c768_i32_39
  let c2_i32_51 : BitVec 32 := 2#32
  let c0_i32_40 : BitVec 32 := 0#32
  let c1_i32 : BitVec 32 := 1#32
  let arg14 : BitVec 32 := Scf.iv c0_i32_40 c1_i32 k0_t7
  let v94 : BitVec 32 := Scalar.muli c2_i32_51 arg14
  let c1_i32_52 : BitVec 32 := 1#32
  let v95 : BitVec 32 := Scalar.addi v94 c1_i32_52
  let v96 : BitVec 32 := Scalar.addi v79 v95
  let v97 : Index := Scalar.indexCast v96
  ![v97.toNat]
def k0_off27 (k0_t7 : Fin k0_t7_loop.trips) : Fin 2 → Nat :=
  let c2_i32_51 : BitVec 32 := 2#32
  let c0_i32_40 : BitVec 32 := 0#32
  let c1_i32 : BitVec 32 := 1#32
  let arg14 : BitVec 32 := Scf.iv c0_i32_40 c1_i32 k0_t7
  let v94 : BitVec 32 := Scalar.muli c2_i32_51 arg14
  let c1_i32_52 : BitVec 32 := 1#32
  let v95 : BitVec 32 := Scalar.addi v94 c1_i32_52
  let c0_i32_53 : BitVec 32 := 0#32
  ![v95.toNat, 0]
def k0_off28 (v98 : BitVec 32) : Fin 2 → Nat :=
  let c0_i32_54 : BitVec 32 := 0#32
  ![v98.toNat, 0]

def k0_chk8 (i : grid0.Coords) (v1 : BitVec 32) (v98 : BitVec 32) : Prop :=
  (∀ (k0_h4 : k0_cond4 i v1 = 1#1), ∀ a, (k0_off28 v98) a + S1x2048.size a ≤ S16384x2048.size a)
theorem k0_off28_inb : ∀ (i : grid0.Coords) (v1 : BitVec 32) (v98 : BitVec 32) (k0_hw8 : k0_chk8 i v1 v98), ∀ (k0_h4 : k0_cond4 i v1 = 1#1), ∀ a, (k0_off28 v98) a + S1x2048.size a ≤ S16384x2048.size a := fun i v1 v98 k0_hw8 k0_h4 => k0_hw8 k0_h4

@[reducible] def k0_t8_loop : Scf.Loop 32 :=
  let c0_i32_42 : BitVec 32 := 0#32
  let c256_i32_43 : BitVec 32 := 256#32
  let v81 : BitVec 32 := Scalar.addi c0_i32_42 c256_i32_43
  let c1_i32_44 : BitVec 32 := 1#32
  ⟨c0_i32_42, v81, c1_i32_44⟩
def k0_off29 (k0_t8 : Fin k0_t8_loop.trips) : Fin 2 → Nat :=
  let c0_i32_42 : BitVec 32 := 0#32
  let c1_i32_44 : BitVec 32 := 1#32
  let arg14 : BitVec 32 := Scf.iv c0_i32_42 c1_i32_44 k0_t8
  let c0_i32_48 : BitVec 32 := 0#32
  ![arg14.toNat, 0]
def k0_cond17 (i : grid0.Coords) (v1 : BitVec 32) : BitVec 1 :=
  let c0_i32 : BitVec 32 := 0#32
  let v2 : BitVec 1 := Scalar.cmpi .sgt v1 c0_i32
  let c256_i32 : BitVec 32 := 256#32
  let v3 : BitVec 1 := Scalar.cmpi .sle v1 c256_i32
  let v4 : BitVec 1 := Scalar.andi v2 v3
  let arg1 : BitVec 32 := BitVec.ofNat 32 (i 1).val
  let c11_i32_16 : BitVec 32 := 11#32
  let v38 : BitVec 1 := Scalar.cmpi .sge arg1 c11_i32_16
  let v39 : BitVec 1 := Scalar.andi v4 v38
  let v40 : BitVec 32 := Scalar.extui v39
  let c0_i32_17 : BitVec 32 := 0#32
  let v41 : BitVec 1 := Scalar.cmpi .ne v40 c0_i32_17
  v41

def k0_cond30 (i : grid0.Coords) (v1 : BitVec 32) : BitVec 1 :=
  let c256_i32_0 : BitVec 32 := 256#32
  let v5 : BitVec 1 := Scalar.cmpi .sgt v1 c256_i32_0
  let c512_i32 : BitVec 32 := 512#32
  let v6 : BitVec 1 := Scalar.cmpi .sle v1 c512_i32
  let v7 : BitVec 1 := Scalar.andi v5 v6
  let arg1 : BitVec 32 := BitVec.ofNat 32 (i 1).val
  let c11_i32_20 : BitVec 32 := 11#32
  let v46 : BitVec 1 := Scalar.cmpi .sge arg1 c11_i32_20
  let v47 : BitVec 1 := Scalar.andi v7 v46
  let v48 : BitVec 32 := Scalar.extui v47
  let c0_i32_21 : BitVec 32 := 0#32
  let v49 : BitVec 1 := Scalar.cmpi .ne v48 c0_i32_21
  v49

def k0_cond43 (i : grid0.Coords) (v1 : BitVec 32) : BitVec 1 :=
  let c512_i32_1 : BitVec 32 := 512#32
  let v8 : BitVec 1 := Scalar.cmpi .sgt v1 c512_i32_1
  let c768_i32 : BitVec 32 := 768#32
  let v9 : BitVec 1 := Scalar.cmpi .sle v1 c768_i32
  let v10 : BitVec 1 := Scalar.andi v8 v9
  let arg1 : BitVec 32 := BitVec.ofNat 32 (i 1).val
  let c11_i32_24 : BitVec 32 := 11#32
  let v54 : BitVec 1 := Scalar.cmpi .sge arg1 c11_i32_24
  let v55 : BitVec 1 := Scalar.andi v10 v54
  let v56 : BitVec 32 := Scalar.extui v55
  let c0_i32_25 : BitVec 32 := 0#32
  let v57 : BitVec 1 := Scalar.cmpi .ne v56 c0_i32_25
  v57

def k0_cond56 (i : grid0.Coords) (v1 : BitVec 32) : BitVec 1 :=
  let c768_i32_2 : BitVec 32 := 768#32
  let v11 : BitVec 1 := Scalar.cmpi .sgt v1 c768_i32_2
  let c1024_i32 : BitVec 32 := 1024#32
  let v12 : BitVec 1 := Scalar.cmpi .sle v1 c1024_i32
  let v13 : BitVec 1 := Scalar.andi v11 v12
  let arg1 : BitVec 32 := BitVec.ofNat 32 (i 1).val
  let c11_i32_28 : BitVec 32 := 11#32
  let v62 : BitVec 1 := Scalar.cmpi .sge arg1 c11_i32_28
  let v63 : BitVec 1 := Scalar.andi v13 v62
  let v64 : BitVec 32 := Scalar.extui v63
  let c0_i32_29 : BitVec 32 := 0#32
  let v65 : BitVec 1 := Scalar.cmpi .ne v64 c0_i32_29
  v65

def k0_cond57 (v1 : BitVec 32) : BitVec 1 :=
  let c0_i32_30 : BitVec 32 := 0#32
  let v66 : BitVec 1 := Scalar.cmpi .sle v1 c0_i32_30
  let v67 : BitVec 32 := Scalar.extui v66
  let c0_i32_31 : BitVec 32 := 0#32
  let v68 : BitVec 1 := Scalar.cmpi .ne v67 c0_i32_31
  v68

def k0_cond58 (v1 : BitVec 32) : BitVec 1 :=
  let c256_i32_32 : BitVec 32 := 256#32
  let v69 : BitVec 1 := Scalar.cmpi .sle v1 c256_i32_32
  let v70 : BitVec 32 := Scalar.extui v69
  let c0_i32_33 : BitVec 32 := 0#32
  let v71 : BitVec 1 := Scalar.cmpi .ne v70 c0_i32_33
  v71

def k0_cond59 (v1 : BitVec 32) : BitVec 1 :=
  let c512_i32_34 : BitVec 32 := 512#32
  let v72 : BitVec 1 := Scalar.cmpi .sle v1 c512_i32_34
  let v73 : BitVec 32 := Scalar.extui v72
  let c0_i32_35 : BitVec 32 := 0#32
  let v74 : BitVec 1 := Scalar.cmpi .ne v73 c0_i32_35
  v74

def k0_cond60 (v1 : BitVec 32) : BitVec 1 :=
  let c768_i32_36 : BitVec 32 := 768#32
  let v75 : BitVec 1 := Scalar.cmpi .sle v1 c768_i32_36
  let v76 : BitVec 32 := Scalar.extui v75
  let c0_i32_37 : BitVec 32 := 0#32
  let v77 : BitVec 1 := Scalar.cmpi .ne v76 c0_i32_37
  v77

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.minsi arg1 c10_i32
  let c10_i32_0 : BitVec 32 := 10#32
  let v6 : BitVec 32 := Scalar.select v4 v5 c10_i32_0
  let c0_i32_1 : BitVec 32 := 0#32
  let c0_i32_2 : BitVec 32 := 0#32
  ![v1.toNat, c0_i32_1.toNat, v6.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.minsi arg1 c10_i32
  let c10_i32_0 : BitVec 32 := 10#32
  let v6 : BitVec 32 := Scalar.select v4 v5 c10_i32_0
  let c0_i32_1 : BitVec 32 := 0#32
  let c0_i32_2 : BitVec 32 := 0#32
  ![v1.toNat, c0_i32_1.toNat, v6.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c11_i32 : BitVec 32 := 11#32
  let v5 : BitVec 32 := Scalar.subi arg1 c11_i32
  let c0_i32_0 : BitVec 32 := 0#32
  let v6 : BitVec 32 := Scalar.maxsi v5 c0_i32_0
  let c7_i32 : BitVec 32 := 7#32
  let v7 : BitVec 32 := Scalar.select v4 v6 c7_i32
  let c0_i32_1 : BitVec 32 := 0#32
  let c0_i32_2 : BitVec 32 := 0#32
  ![v1.toNat, c0_i32_1.toNat, v7.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5632x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S40 : Shape := ⟨1, ![40]⟩
abbrev S40960 : Shape := ⟨1, ![40960]⟩
abbrev S16384x2048 : Shape := ⟨2, ![16384, 2048]⟩
abbrev S8x2048x5632 : Shape := ⟨3, ![8, 2048, 5632]⟩
abbrev S8x5632x2048 : Shape := ⟨3, ![8, 5632, 2048]⟩
abbrev S_ : Shape := ⟨0, ![]⟩
abbrev S40960x1 : Shape := ⟨2, ![40960, 1]⟩
abbrev S40960x2048 : Shape := ⟨2, ![40960, 2048]⟩
abbrev S40x1024x2048 : Shape := ⟨3, ![40, 1024, 2048]⟩
abbrev S40x1 : Shape := ⟨2, ![40, 1]⟩
abbrev S40x2048x5632 : Shape := ⟨3, ![40, 2048, 5632]⟩
abbrev S40x5632x2048 : Shape := ⟨3, ![40, 5632, 2048]⟩
abbrev S40x1024x5632 : Shape := ⟨3, ![40, 1024, 5632]⟩
abbrev S40x4x256x2048 : Shape := ⟨4, ![40, 4, 256, 2048]⟩
abbrev S4 : Shape := ⟨1, ![4]⟩
abbrev S1x4 : Shape := ⟨2, ![1, 4]⟩
abbrev S40x4 : Shape := ⟨2, ![40, 4]⟩
abbrev S40x4x1x1 : Shape := ⟨4, ![40, 4, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S40, .i32⟩
  | .hbm, ⟨1, _⟩ => ⟨S40, .i32⟩
  | .hbm, ⟨2, _⟩ => ⟨S40960, .i32⟩
  | .hbm, ⟨3, _⟩ => ⟨S16384x2048, .f32⟩
  | .hbm, ⟨4, _⟩ => ⟨S8x2048x5632, .f32⟩
  | .hbm, ⟨5, _⟩ => ⟨S8x2048x5632, .f32⟩
  | .hbm, ⟨6, _⟩ => ⟨S8x5632x2048, .f32⟩
  | .hbm, ⟨7, _⟩ => ⟨S_, .i32⟩
  | .hbm, ⟨8, _⟩ => ⟨S40960, .i32⟩
  | .hbm, ⟨9, _⟩ => ⟨S40960, .i1⟩
  | .hbm, ⟨10, _⟩ => ⟨S_, .i32⟩
  | .hbm, ⟨11, _⟩ => ⟨S40960, .i32⟩
  | .hbm, ⟨12, _⟩ => ⟨S40960, .i32⟩
  | .hbm, ⟨13, _⟩ => ⟨S40960, .i32⟩
  | .hbm, ⟨14, _⟩ => ⟨S40960x1, .i32⟩
  | .hbm, ⟨15, _⟩ => ⟨S40960x2048, .f32⟩
  | .hbm, ⟨16, _⟩ => ⟨S40x1024x2048, .f32⟩
  | .hbm, ⟨17, _⟩ => ⟨S_, .i32⟩
  | .hbm, ⟨18, _⟩ => ⟨S40, .i32⟩
  | .hbm, ⟨19, _⟩ => ⟨S40, .i1⟩
  | .hbm, ⟨20, _⟩ => ⟨S_, .i32⟩
  | .hbm, ⟨21, _⟩ => ⟨S40, .i32⟩
  | .hbm, ⟨22, _⟩ => ⟨S40, .i32⟩
  | .hbm, ⟨23, _⟩ => ⟨S40, .i32⟩
  | .hbm, ⟨24, _⟩ => ⟨S40x1, .i32⟩
  | .hbm, ⟨25, _⟩ => ⟨S40x2048x5632, .f32⟩
  | .hbm, ⟨26, _⟩ => ⟨S_, .i32⟩
  | .hbm, ⟨27, _⟩ => ⟨S40, .i32⟩
  | .hbm, ⟨28, _⟩ => ⟨S40, .i1⟩
  | .hbm, ⟨29, _⟩ => ⟨S_, .i32⟩
  | .hbm, ⟨30, _⟩ => ⟨S40, .i32⟩
  | .hbm, ⟨31, _⟩ => ⟨S40, .i32⟩
  | .hbm, ⟨32, _⟩ => ⟨S40, .i32⟩
  | .hbm, ⟨33, _⟩ => ⟨S40x1, .i32⟩
  | .hbm, ⟨34, _⟩ => ⟨S40x2048x5632, .f32⟩
  | .hbm, ⟨35, _⟩ => ⟨S_, .i32⟩
  | .hbm, ⟨36, _⟩ => ⟨S40, .i32⟩
  | .hbm, ⟨37, _⟩ => ⟨S40, .i1⟩
  | .hbm, ⟨38, _⟩ => ⟨S_, .i32⟩
  | .hbm, ⟨39, _⟩ => ⟨S40, .i32⟩
  | .hbm, ⟨40, _⟩ => ⟨S40, .i32⟩
  | .hbm, ⟨41, _⟩ => ⟨S40, .i32⟩
  | .hbm, ⟨42, _⟩ => ⟨S40x1, .i32⟩
  | .hbm, ⟨43, _⟩ => ⟨S40x5632x2048, .f32⟩
  | .hbm, ⟨44, _⟩ => ⟨S40x1024x5632, .f32⟩
  | .hbm, ⟨45, _⟩ => ⟨S40x1024x5632, .f32⟩
  | .hbm, ⟨46, _⟩ => ⟨S40x1024x5632, .f32⟩
  | .hbm, ⟨47, _⟩ => ⟨S_, .f32⟩
  | .hbm, ⟨48, _⟩ => ⟨S40x1024x5632, .f32⟩
  | .hbm, ⟨49, _⟩ => ⟨S40x1024x5632, .f32⟩
  | .hbm, ⟨50, _⟩ => ⟨S_, .f32⟩
  | .hbm, ⟨51, _⟩ => ⟨S40x1024x5632, .f32⟩
  | .hbm, ⟨52, _⟩ => ⟨S40x1024x5632, .f32⟩
  | .hbm, ⟨53, _⟩ => ⟨S40x1024x5632, .f32⟩
  | .hbm, ⟨54, _⟩ => ⟨S40x1024x5632, .f32⟩
  | .hbm, ⟨55, _⟩ => ⟨S40x1024x5632, .f32⟩
  | .hbm, ⟨56, _⟩ => ⟨S40x1024x2048, .f32⟩
  | .hbm, ⟨57, _⟩ => ⟨S40x4x256x2048, .f32⟩
  | .hbm, ⟨58, _⟩ => ⟨S4, .i32⟩
  | .hbm, ⟨59, _⟩ => ⟨S1x4, .i32⟩
  | .hbm, ⟨60, _⟩ => ⟨S_, .i32⟩
  | .hbm, ⟨61, _⟩ => ⟨S1x4, .i32⟩
  | .hbm, ⟨62, _⟩ => ⟨S1x4, .i32⟩
  | .hbm, ⟨63, _⟩ => ⟨S40x1, .i32⟩
  | .hbm, ⟨64, _⟩ => ⟨S40x4, .i32⟩
  | .hbm, ⟨65, _⟩ => ⟨S40x4, .i32⟩
  | .hbm, ⟨66, _⟩ => ⟨S40x4, .i1⟩
  | .hbm, ⟨67, _⟩ => ⟨S40x4x1x1, .i1⟩
  | .hbm, ⟨68, _⟩ => ⟨S_, .f32⟩
  | .hbm, ⟨69, _⟩ => ⟨S_, .f32⟩
  | .hbm, ⟨70, _⟩ => ⟨S40x4x256x2048, .i1⟩
  | .hbm, ⟨71, _⟩ => ⟨S40x4x256x2048, .f32⟩
  | .hbm, ⟨72, _⟩ => ⟨S40x4x256x2048, .f32⟩
  | .hbm, ⟨73, _⟩ => ⟨S40960x2048, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]
-- ==== Proof.Attend.lean ====
/- The attention of one 128-row query tile as the kernel's body spells it, read at an index. -/
module

public import proofs.«01_k».proof.Proof.Gen.KernelIdeal.Skeleton
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem
namespace Cert.KernelIdeal.Value
open Cert.KernelIdeal Cert.KernelIdeal.Gen

/-- One query tile, normalised, weighted and scaled. -/
def qTile (x : FVec Ideal S128x128 .bf16) (w : FVec Ideal S1x128 .f32) : FVec Ideal S128x128 .bf16 :=
  truncf .bf16 (mulf (mulf (mulf (extf .f32 x bitsLt_bf16_f32)
    (broadcastTo S128x128 (rsqrt (addf (divf (shapeCast S128x1 (multiReduction .add [1] S128
      (mulf (extf .f32 x bitsLt_bf16_f32) (extf .f32 x bitsLt_bf16_f32)) 0x00000000#32 reduces_S128x128_S128 (.inl rfl) rfl) shapeCasts_S128_S128x1)
      (broadcast S128x1 (Scalar.ofBits .f32 0x43000000#32))) (broadcast S128x1 (Scalar.ofBits .f32 0x358637BD#32)))) broadcasts_S128x1_S128x128))
    (broadcastTo S128x128 (shapeCast S1x128 w shapeCasts_S1x128_S1x128) broadcasts_S1x128_S128x128))
    (broadcast S128x128 (Scalar.ofBits .f32 0x3DB504F3#32))) bitsLt_bf16_f32

/-- The four heads' query tiles on top of each other. -/
def stack (q0 q1 q2 q3 : FVec Ideal S128x128 .bf16) : FVec Ideal S512x128 .bf16 :=
  concatenate S512x128 0 [⟨S128x128, q0⟩, ⟨S128x128, q1⟩, ⟨S128x128, q2⟩, ⟨S128x128, q3⟩] concatenates_S128x128_S128x128_S128x128_S128x128_S512x128_d0

/-- The scores of 512 query rows against 256 keys. -/
def scores (Q : FVec Ideal S512x128 .bf16) (K : FVec Ideal S256x128 .bf16) : FVec Ideal S512x256 .f32 :=
  matmul dot_S512x128_S256x128_S512x256_1_1_0_0_n_n none Q K (constant S512x256 .f32 0x00000000#32)

/-- The rows' maxima, the sink among the scores. -/
def rowMax (S : FVec Ideal S512x256 .f32) (sk : FVec Ideal S512x1 .f32) : FVec Ideal S512x1 .f32 :=
  maximumf (shapeCast S512x1 (multiReduction .maximumf [1] S512 S 0xFF800000#32 reduces_S512x256_S512 (.inl rfl) rfl) shapeCasts_S512_S512x1) sk

/-- The exponentials of the shifted scores. -/
def expS (S : FVec Ideal S512x256 .f32) (sk : FVec Ideal S512x1 .f32) : FVec Ideal S512x256 .f32 :=
  exp (subf S (broadcastTo S512x256 (rowMax S sk) broadcasts_S512x1_S512x256))

/-- The attention of 512 rows over their 256 keys, from the scores. -/
def attendS (S : FVec Ideal S512x256 .f32) (V : FVec Ideal S256x128 .bf16) (sk : FVec Ideal S512x1 .f32) : FVec Ideal S512x128 .f32 :=
  mulf (matmul dot_S512x256_S256x128_S512x128_1_0_0_1_n_n none (truncf .bf16 (expS S sk) bitsLt_bf16_f32) V (constant S512x128 .f32 0x00000000#32))
    (broadcastTo S512x128 (divf (broadcast S512x1 (Scalar.ofBits .f32 0x3F800000#32))
      (addf (shapeCast S512x1 (multiReduction .add [1] S512 (expS S sk) 0x00000000#32 reduces_S512x256_S512 (.inl rfl) rfl) shapeCasts_S512_S512x1)
        (exp (subf sk (rowMax S sk))))) broadcasts_S512x1_S512x128)

/-- A row divided by its root mean square, weighted. -/
def norm (f w : Fin 128 → EReal) (k : Fin 128) : EReal :=
  f k * Ideal.rsqrt (Ideal.div (∑ l, f l * f l) (Ideal.ofBits .f32 0x43000000#32) + Ideal.ofBits .f32 0x358637BD#32) * w k

/-- The largest of a row's scores and its sink. -/
def top (sc : Fin 256 → EReal) (s : EReal) : EReal :=
  max (Finset.univ.fold max (Ideal.ofBits .f32 0xFF800000#32) sc) s

/-- One entry of the attention: the exponentials over the values, times the reciprocal of their sum and the sink's. -/
def att (q : Fin 128 → EReal) (K : Fin 256 → Fin 128 → EReal) (V : Fin 256 → EReal) (s : EReal) : EReal :=
  (∑ j, Ideal.exp ((∑ k, q k * K j k) - top (fun j => ∑ k, q k * K j k) s) * V j)
    * Ideal.div 1 ((∑ j, Ideal.exp ((∑ k, q k * K j k) - top (fun j => ∑ k, q k * K j k) s))
        + Ideal.exp (s - top (fun j => ∑ k, q k * K j k) s))

theorem qTile_at (x w) (i k : Fin 128) : qTile x w (ix2 i k)
    = norm (fun l => x (ix2 i l)) (fun l => w (ix2 0 l)) k * Ideal.ofBits .f32 0x3DB504F3#32 := by
  pointwise [qTile, norm]

theorem attendS_at (Q K V sk) (r : Fin 512) (d : Fin 128) : attendS (scores Q K) V sk (ix2 r d)
    = att (fun k => Q (ix2 r k)) (fun j k => K (ix2 j k)) (fun j => V (ix2 j d)) (sk (ix2 r 0)) := by
  pointwise [attendS, scores, expS, rowMax, att, top]

theorem stack_at0 (q0 q1 q2 q3) (i k : Fin 128) : stack q0 q1 q2 q3 (ix2 (⟨0 + i, by omega⟩ : Fin 512) k) = q0 (ix2 i k) := by
  pointwise [stack]
theorem stack_at1 (q0 q1 q2 q3) (i k : Fin 128) : stack q0 q1 q2 q3 (ix2 (⟨128 + i, by omega⟩ : Fin 512) k) = q1 (ix2 i k) := by
  pointwise [stack]
theorem stack_at2 (q0 q1 q2 q3) (i k : Fin 128) : stack q0 q1 q2 q3 (ix2 (⟨256 + i, by omega⟩ : Fin 512) k) = q2 (ix2 i k) := by
  pointwise [stack]
  blk_point []
  all_goals (exfalso; omega)
theorem stack_at3 (q0 q1 q2 q3) (i k : Fin 128) : stack q0 q1 q2 q3 (ix2 (⟨384 + i, by omega⟩ : Fin 512) k) = q3 (ix2 i k) := by
  pointwise [stack]
  blk_point []
  all_goals (exfalso; omega)

/-- The column of sinks, row `r` of which belongs to head `r / 128` of the group. -/
def sinkCol (v0 v1 v2 v3 : EReal) : FVec Ideal S512x1 .f32 :=
  k0_pay6 (F := Ideal) (iota Kind.tc S512x1 32 [0] iota_S512x1_d0_w32) (128#32) k0_pay4 k0_pay5 v0 v1 v2 v3

/-- The head number the body computes for a row. -/
def headWord (r : ℕ) : BitVec 32 :=
  Scalar.select (IntOp.andi (IntOp.cmpi CmpIPredicate.ne (IntOp.subi (BitVec.setWidth 32 (IntOp.cmpi CmpIPredicate.sgt (BitVec.ofNat 32 r) 0#32))
                (BitVec.setWidth 32 (IntOp.cmpi CmpIPredicate.slt (BitVec.ofNat 32 r) 0#32)))
              (Scalar.subi (Scalar.extui (Scalar.cmpi CmpIPredicate.sgt 128#32 0#32))
                (Scalar.extui (Scalar.cmpi CmpIPredicate.slt 128#32 0#32))))
            (IntOp.cmpi CmpIPredicate.ne (IntOp.remsi ArithUnit.vector (BitVec.ofNat 32 r) 128#32) 0#32))
          (IntOp.subi (IntOp.divsi ArithUnit.vector (BitVec.ofNat 32 r) 128#32) 1#32)
          (IntOp.divsi ArithUnit.vector (BitVec.ofNat 32 r) 128#32)

theorem headWord_eq : ∀ r : Fin 512, headWord r = BitVec.ofNat 32 (r / 128) := by decide +kernel

theorem sinkCol_at (v0 v1 v2 v3 : EReal) (r : Fin 512) : sinkCol v0 v1 v2 v3 (ix2 r 0)
    = Scalar.select (IntOp.cmpi .eq (headWord r) 3#32) v3 (Scalar.select (IntOp.cmpi .eq (headWord r) 2#32) v2
        (Scalar.select (IntOp.cmpi .eq (headWord r) 1#32) v1 (Scalar.select (IntOp.cmpi .eq (headWord r) 0#32) v0 0))) := by
  pointwise [sinkCol, k0_pay4, k0_pay5, k0_pay6, headWord]

theorem sinkCol_at0 (v0 v1 v2 v3 : EReal) (i : Fin 128) : sinkCol v0 v1 v2 v3 (ix2 (⟨0 + i, by omega⟩ : Fin 512) 0) = v0 := by
  rw [sinkCol_at, headWord_eq, show (((⟨0 + i, by omega⟩ : Fin 512) : ℕ) / 128) = 0 by show (0 + (i : ℕ)) / 128 = 0; omega]; rfl
theorem sinkCol_at1 (v0 v1 v2 v3 : EReal) (i : Fin 128) : sinkCol v0 v1 v2 v3 (ix2 (⟨128 + i, by omega⟩ : Fin 512) 0) = v1 := by
  rw [sinkCol_at, headWord_eq, show (((⟨128 + i, by omega⟩ : Fin 512) : ℕ) / 128) = 1 by show (128 + (i : ℕ)) / 128 = 1; omega]; rfl
theorem sinkCol_at2 (v0 v1 v2 v3 : EReal) (i : Fin 128) : sinkCol v0 v1 v2 v3 (ix2 (⟨256 + i, by omega⟩ : Fin 512) 0) = v2 := by
  rw [sinkCol_at, headWord_eq, show (((⟨256 + i, by omega⟩ : Fin 512) : ℕ) / 128) = 2 by show (256 + (i : ℕ)) / 128 = 2; omega]; rfl
theorem sinkCol_at3 (v0 v1 v2 v3 : EReal) (i : Fin 128) : sinkCol v0 v1 v2 v3 (ix2 (⟨384 + i, by omega⟩ : Fin 512) 0) = v3 := by
  rw [sinkCol_at, headWord_eq, show (((⟨384 + i, by omega⟩ : Fin 512) : ℕ) / 128) = 3 by show (384 + (i : ℕ)) / 128 = 3; omega]; rfl

theorem key_at (Kb : FVec Ideal S1024x128 .bf16) (w : FVec Ideal S1x128 .f32) (j : Fin 1024) (k : Fin 128) :
    k0_pay3 (F := Ideal) Kb w (ix2 j k) = norm (fun l => Kb (ix2 j l)) (fun l => w (ix2 0 l)) k := by
  pointwise [k0_pay3, k0_pay1, norm]

/-- An entry of the output block over the four input blocks and the entry's sink. -/
def attB (Qb : FVec Ideal S1024x512 .bf16) (Kb Vb : FVec Ideal S1024x128 .bf16) (w4 w5 : FVec Ideal S1x128 .f32) (s : EReal) (r : Fin 1024) (c : Fin 512) : EReal :=
  att (fun k => norm (fun l => Qb (ix2 r (⟨c / 128 * 128 + l, by omega⟩ : Fin 512))) (fun l => w4 (ix2 0 l)) k * Ideal.ofBits .f32 0x3DB504F3#32)
    (fun j k => norm (fun l => Kb (ix2 (⟨r / 256 * 256 + j, by omega⟩ : Fin 1024) l)) (fun l => w5 (ix2 0 l)) k)
    (fun j => Vb (ix2 (⟨r / 256 * 256 + j, by omega⟩ : Fin 1024) (⟨c % 128, by omega⟩ : Fin 128))) s

/-- The tile of rows `o …` of the stacked attention over the keys `a …` is the block's entry, given the rows' queries and sink. -/
theorem tile_at (Q : FVec Ideal S512x128 .bf16) (sk : FVec Ideal S512x1 .f32) (Qb : FVec Ideal S1024x512 .bf16) (Kb Vb : FVec Ideal S1024x128 .bf16)
    (w4 w5 : FVec Ideal S1x128 .f32) (s : EReal) (a b o : ℕ) (hk hv ho) (x0 x1 : Fin 128) (r : Fin 1024) (c : Fin 512)
    (hr : (r : ℕ) = b + x0) (hc : (c : ℕ) = o + x1) (ha : a % 256 = 0 ∧ a ≤ b ∧ b + 128 ≤ a + 256) (hb : o % 128 = 0)
    (hQ : ∀ k, Q (ix2 (⟨o + x0, by omega⟩ : Fin 512) k)
      = norm (fun l => Qb (ix2 (⟨b + x0, by omega⟩ : Fin 1024) (⟨o + l, by omega⟩ : Fin 512))) (fun l => w4 (ix2 0 l)) k * Ideal.ofBits .f32 0x3DB504F3#32)
    (hs : sk (ix2 (⟨o + x0, by omega⟩ : Fin 512) 0) = s) :
    truncf (F := Ideal) .bf16 (extractStridedSlice S128x128 ![o, 0] (attendS (scores Q (extractStridedSlice S256x128 ![a, 0] (k0_pay3 Kb w5) hk))
      (extractStridedSlice S256x128 ![a, 0] Vb hv) sk) ho) bitsLt_bf16_f32 (ix2 x0 x1) = attB Qb Kb Vb w4 w5 s r c := by
  have e := attendS_at Q (extractStridedSlice S256x128 ![a, 0] (k0_pay3 Kb w5) hk) (extractStridedSlice S256x128 ![a, 0] Vb hv) sk ⟨o + x0, by omega⟩ x1
  refine Eq.trans ?_ (e.trans ?_)
  · pointwise
  · unfold attB
    rw [hs]
    have hr' : (r : ℕ) / 256 * 256 = a := by omega
    have hc' : (c : ℕ) / 128 * 128 = o := by omega
    have hc'' : (c : ℕ) % 128 = x1 := by omega
    have er : (⟨b + x0, by omega⟩ : Fin 1024) = r := Fin.ext hr.symm
    congr 1
    · funext k
      rw [hQ, er]
      simp only [hc']
    · funext j k
      refine Eq.trans ?_ (key_at Kb w5 _ k)
      pointwise
      simp only [hr']
    · funext j
      pointwise
      simp only [hr', hc'']

/-- The four stacked heads' queries. -/
abbrev heads (q0 q1 q2 q3 : FVec Ideal S128x128 .bf16) (w : FVec Ideal S1x128 .f32) : FVec Ideal S512x128 .bf16 :=
  stack (qTile q0 w) (qTile q1 w) (qTile q2 w) (qTile q3 w)

/-- The attention of the four stacked heads over the keys `a …`. -/
abbrev attendT (q0 q1 q2 q3 : FVec Ideal S128x128 .bf16) (w4 w5 : FVec Ideal S1x128 .f32) (Kb Vb : FVec Ideal S1024x128 .bf16) (v0 v1 v2 v3 : EReal)
    (a : ℕ) (hk : S1024x128.Slices ![a, 0] S256x128) (hv : S1024x128.Slices ![a, 0] S256x128) : FVec Ideal S512x128 .f32 :=
  attendS (scores (heads q0 q1 q2 q3 w4) (extractStridedSlice S256x128 ![a, 0] (k0_pay3 Kb w5) hk)) (extractStridedSlice S256x128 ![a, 0] Vb hv) (sinkCol v0 v1 v2 v3)

section heads
variable (Qb : FVec Ideal S1024x512 .bf16) (Kb Vb : FVec Ideal S1024x128 .bf16) (w4 w5 : FVec Ideal S1x128 .f32) (v0 v1 v2 v3 : EReal)
  (q0 q1 q2 q3 : FVec Ideal S128x128 .bf16) (a b : ℕ) (hk hv) (r : Fin 1024) (c : Fin 512) (x : S128x128.Idx)
  (hr : (r : ℕ) = b + x 0) (ha : a % 256 = 0 ∧ a ≤ b ∧ b + 128 ≤ a + 256)
include hr ha

theorem tile0 (ho) (hc : (c : ℕ) = 0 + x 1) (hq : ∀ i k : Fin 128, (h : b + i < 1024) → q0 (ix2 i k) = Qb (ix2 ⟨b + i, h⟩ (⟨0 + k, by omega⟩ : Fin 512))) :
    truncf (F := Ideal) .bf16 (extractStridedSlice S128x128 ![0, 0] (attendT q0 q1 q2 q3 w4 w5 Kb Vb v0 v1 v2 v3 a hk hv) ho) bitsLt_bf16_f32 x = attB Qb Kb Vb w4 w5 v0 r c := by
  rw [eq_ix2 x]
  exact tile_at _ _ _ _ _ _ _ _ a b 0 hk hv ho (x 0) (x 1) r c hr hc ha (by omega)
    (fun k => (stack_at0 _ _ _ _ (x 0) k).trans ((qTile_at q0 w4 (x 0) k).trans (by simp only [hq _ _ (lt_of_eq_of_lt hr.symm r.isLt)])))
    (sinkCol_at0 v0 v1 v2 v3 (x 0))
theorem tile1 (ho) (hc : (c : ℕ) = 128 + x 1) (hq : ∀ i k : Fin 128, (h : b + i < 1024) → q1 (ix2 i k) = Qb (ix2 ⟨b + i, h⟩ (⟨128 + k, by omega⟩ : Fin 512))) :
    truncf (F := Ideal) .bf16 (extractStridedSlice S128x128 ![128, 0] (attendT q0 q1 q2 q3 w4 w5 Kb Vb v0 v1 v2 v3 a hk hv) ho) bitsLt_bf16_f32 x = attB Qb Kb Vb w4 w5 v1 r c := by
  rw [eq_ix2 x]
  exact tile_at _ _ _ _ _ _ _ _ a b 128 hk hv ho (x 0) (x 1) r c hr hc ha (by omega)
    (fun k => (stack_at1 _ _ _ _ (x 0) k).trans ((qTile_at q1 w4 (x 0) k).trans (by simp only [hq _ _ (lt_of_eq_of_lt hr.symm r.isLt)])))
    (sinkCol_at1 v0 v1 v2 v3 (x 0))
theorem tile2 (ho) (hc : (c : ℕ) = 256 + x 1) (hq : ∀ i k : Fin 128, (h : b + i < 1024) → q2 (ix2 i k) = Qb (ix2 ⟨b + i, h⟩ (⟨256 + k, by omega⟩ : Fin 512))) :
    truncf (F := Ideal) .bf16 (extractStridedSlice S128x128 ![256, 0] (attendT q0 q1 q2 q3 w4 w5 Kb Vb v0 v1 v2 v3 a hk hv) ho) bitsLt_bf16_f32 x = attB Qb Kb Vb w4 w5 v2 r c := by
  rw [eq_ix2 x]
  exact tile_at _ _ _ _ _ _ _ _ a b 256 hk hv ho (x 0) (x 1) r c hr hc ha (by omega)
    (fun k => (stack_at2 _ _ _ _ (x 0) k).trans ((qTile_at q2 w4 (x 0) k).trans (by simp only [hq _ _ (lt_of_eq_of_lt hr.symm r.isLt)])))
    (sinkCol_at2 v0 v1 v2 v3 (x 0))
theorem tile3 (ho) (hc : (c : ℕ) = 384 + x 1) (hq : ∀ i k : Fin 128, (h : b + i < 1024) → q3 (ix2 i k) = Qb (ix2 ⟨b + i, h⟩ (⟨384 + k, by omega⟩ : Fin 512))) :
    truncf (F := Ideal) .bf16 (extractStridedSlice S128x128 ![384, 0] (attendT q0 q1 q2 q3 w4 w5 Kb Vb v0 v1 v2 v3 a hk hv) ho) bitsLt_bf16_f32 x = attB Qb Kb Vb w4 w5 v3 r c := by
  rw [eq_ix2 x]
  exact tile_at _ _ _ _ _ _ _ _ a b 384 hk hv ho (x 0) (x 1) r c hr hc ha (by omega)
    (fun k => (stack_at3 _ _ _ _ (x 0) k).trans ((qTile_at q3 w4 (x 0) k).trans (by simp only [hq _ _ (lt_of_eq_of_lt hr.symm r.isLt)])))
    (sinkCol_at3 v0 v1 v2 v3 (x 0))
end heads

/-- An entry of the layer's context attention over the projected activations, the sinks and the two norm weights. -/
def ctxAt (Z : FVec Ideal S16384x3840 .bf16) (sink : FVec Ideal S8 .f32) (qw kw : FVec Ideal S128 .f32) (r : Fin 8192) (c : Fin 1024) : EReal :=
  att (fun k => norm (fun l => Z (ix2 (⟨r, by omega⟩ : Fin 16384) (⟨2048 + (c / 128 * 128 + l), by omega⟩ : Fin 3840))) (fun l => qw (ix1 l)) k * Ideal.ofBits .f32 0x3DB504F3#32)
    (fun j k => norm (fun l => Z (ix2 (⟨r / 256 * 256 + j, by omega⟩ : Fin 16384) (⟨3072 + (c / 512 * 128 + l), by omega⟩ : Fin 3840))) (fun l => kw (ix1 l)) k)
    (fun j => Z (ix2 (⟨r / 256 * 256 + j, by omega⟩ : Fin 16384) (⟨3328 + (c / 512 * 128 + c % 128), by omega⟩ : Fin 3840)))
    (sink (ix1 (⟨c / 128, by omega⟩ : Fin 8)))

/-- An entry of the layer's context keys. -/
def keyAt (Z : FVec Ideal S16384x3840 .bf16) (kw : FVec Ideal S128 .f32) (r : Fin 8192) (c : Fin 256) : EReal :=
  norm (fun l => Z (ix2 (⟨r, by omega⟩ : Fin 16384) (⟨3072 + (c / 128 * 128 + l), by omega⟩ : Fin 3840))) (fun l => kw (ix1 l)) ⟨c % 128, by omega⟩

/-- An entry of the layer's context values. -/
def valAt (Z : FVec Ideal S16384x3840 .bf16) (r : Fin 8192) (c : Fin 256) : EReal :=
  Z (ix2 (⟨r, by omega⟩ : Fin 16384) (⟨3328 + c, by omega⟩ : Fin 3840))

end Cert.KernelIdeal.Value
-- ==== Proof.ValueCtx.lean ====
/- The final arrays of the context attention's kernel. -/
module

public import proofs.«01_k».proof.Proof.Attend
public import proofs.«01_k».proof.Proof.Gen.KernelIdeal.Value

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

/-- Every window's block index, in the point's number. -/
theorem idx_val : ∀ t : Fin cfg0.N, win0_0.index t = ![0]
    ∧ win0_1.index t = ![t.val / 2, 4 + (t.val % 2)]
    ∧ win0_2.index t = ![t.val / 2, 24 + (t.val % 2)]
    ∧ win0_3.index t = ![t.val / 2, 26 + (t.val % 2)]
    ∧ win0_4.index t = ![0, 0]
    ∧ win0_5.index t = ![0, 0]
    ∧ win0_6.index t = ![t.val / 2, t.val % 2]
    ∧ win0_7.index t = ![t.val / 2, t.val % 2]
    ∧ win0_8.index t = ![t.val / 2, t.val % 2] :=
  (by decide +kernel : ∀ t : Fin grid0.N, _)

/-- Where the body reads the four sinks. -/
theorem off_val : ∀ t : Fin cfg0.N, k0_off1 (grid0.coords t) 0#32 = ![t.val % 2 * 4 + 0] ∧ k0_off1 (grid0.coords t) 1#32 = ![t.val % 2 * 4 + 1]
    ∧ k0_off1 (grid0.coords t) 2#32 = ![t.val % 2 * 4 + 2] ∧ k0_off1 (grid0.coords t) 3#32 = ![t.val % 2 * 4 + 3] :=
  (by decide +kernel : ∀ t : Fin grid0.N, _)

/-- A weight row read from its staged block. -/
theorem weight_at (c : Dev nD) (t : Fin cfg0.N) (l : Fin 128) : iblk m c 5 t (ix2 0 l) = m ((c : Thread nD τ).loc main_arg3) (ix1 l) := by
  blk_point [iblk, idx_val t]

/-- A read of the staged query block. -/
theorem query_at (c : Dev nD) (t : Fin cfg0.N) (r : Fin 1024) (k : Fin 512) (j0 : Fin 16384) (j1 : Fin 3840)
    (h0 : (j0 : ℕ) = t.val / 2 * 1024 + r) (h1 : (j1 : ℕ) = (4 + t.val % 2) * 512 + k) :
    X0_1 m c t (ix2 r k) = m ((c : Thread nD τ).loc main_arg0) (ix2 j0 j1) := by
  unfold X0_1 Pipeline.Window.fill
  rw [dif_pos (moved0_1 t _)]
  blk_ext [iblk, V, idx_val t]

/-- The block's entry is the layer's, at the place the block has in the array. -/
theorem blk_ctx (c : Dev nD) (t : Fin cfg0.N) (r : Fin 1024) (k : Fin 512) (j0 : Fin 8192) (j1 : Fin 1024) (s : EReal)
    (h0 : (j0 : ℕ) = t.val / 2 * 1024 + r) (h1 : (j1 : ℕ) = t.val % 2 * 512 + k)
    (hs : s = m ((c : Thread nD τ).loc main_arg1) (ix1 (⟨t.val % 2 * 4 + k / 128, by omega⟩ : Fin 8))) :
    attB (X0_1 m c t) (iblk m c 2 t) (iblk m c 3 t) (iblk m c 4 t) (iblk m c 5 t) s r k
      = ctxAt (m ((c : Thread nD τ).loc main_arg0)) (m ((c : Thread nD τ).loc main_arg1)) (m ((c : Thread nD τ).loc main_arg2)) (m ((c : Thread nD τ).loc main_arg3)) j0 j1 := by
  have ht : t.val < 16 := lt_of_lt_of_eq t.isLt N_0
  have e4 : ∀ l : Fin 128, iblk m c 4 t (ix2 0 l) = m ((c : Thread nD τ).loc main_arg2) (ix1 l) := fun l => by blk_point [iblk, idx_val t]
  have e5 := weight_at m c t
  rw [hs]
  unfold attB ctxAt
  congr 1
  · funext i
    refine congrArg₂ (fun f w => norm f w i * Ideal.ofBits .f32 0x3DB504F3#32) (funext fun l => ?_) (funext e4)
    exact query_at m c t r _ _ _ h0 (by show 2048 + ((j1 : ℕ) / 128 * 128 + (l : ℕ)) = (4 + t.val % 2) * 512 + ((k : ℕ) / 128 * 128 + (l : ℕ)); omega)
  · funext j i
    refine congrArg₂ (fun f w => norm f w i) (funext fun l => ?_) (funext e5)
    blk_ext [iblk, V, idx_val t]
  · funext j
    blk_ext [iblk, V, idx_val t]
  · refine congrArg (m ((c : Thread nD τ).loc main_arg1)) (congrArg ix1 (Fin.ext ?_))
    show t.val % 2 * 4 + (k : ℕ) / 128 = (j1 : ℕ) / 128
    omega

/-- A sink read from its staged block. -/
theorem sink_ld (c : Dev nD) (t : Fin cfg0.N) (off : Fin 1 → ℕ) (k : Fin 8) (e : off = ![(k : ℕ)]) (h) (hh) :
    View.ld (iblk m c 0 t) (Rect.unit (s := S8) off ![1] h) (Shape.Idx.first hh) = m ((c : Thread nD τ).loc main_arg1) (ix1 k) := by
  subst e
  pointwise
  blk_ext [iblk, V, idx_val t]

/-- The keys after the run: every head's row, normalised and weighted. -/
theorem final_7 (c : Dev nD) : (dats m 0 c).arrAt 7 (cfgs 0).N
    = fun j : S8192x256.Idx => keyAt (m ((c : Thread nD τ).loc main_arg0)) (m ((c : Thread nD τ).loc main_arg3)) (j 0) (j 1) := by
  refine (dats m 0 c).arrAt_eq_of_covers 7 _ (by decide +kernel) fun t hf y => ?_
  have ht : t.val < 16 := lt_of_lt_of_eq t.isLt N_0
  have e0 : ((((cfg0.win 7).blk t).view.emb y) 0 : ℕ) = t.val / 2 * 1024 + y 0 := by blk_simp [idx_val t]
  have e1 : ((((cfg0.win 7).blk t).view.emb y) 1 : ℕ) = t.val % 2 * 128 + y 1 := by blk_simp [idx_val t]
  generalize hj : (((cfg0.win 7).blk t).view.emb y) = j at *
  blk_simp; rw [after0_7]; unfold Gen.outsAt0; frame_out
  refine (congrArg (k0_pay1 (iblk m c 2 t) (iblk m c 5 t)) (eq_ix2 y)).trans ((key_at (iblk m c 2 t) (iblk m c 5 t) (y 0) (y 1)).trans ?_)
  have e5 := weight_at m c t
  have hy : (y 1 : ℕ) < 128 := (y 1).isLt
  unfold keyAt
  have ek : (⟨(j 1 : ℕ) % 128, by omega⟩ : Fin 128) = y 1 := Fin.ext (by show (j 1 : ℕ) % 128 = y 1; omega)
  rw [ek]
  refine congrArg₂ (fun f w => norm f w (y 1)) (funext fun l => ?_) (funext e5)
  blk_ext [iblk, V, idx_val t]

/-- The values after the run. -/
theorem final_8 (c : Dev nD) : (dats m 0 c).arrAt 8 (cfgs 0).N
    = fun j : S8192x256.Idx => valAt (m ((c : Thread nD τ).loc main_arg0)) (j 0) (j 1) := by
  refine (dats m 0 c).arrAt_eq_of_covers 8 _ (by decide +kernel) fun t hf y => ?_
  blk_simp [idx_val t]; rw [after0_8]; unfold Gen.outsAt0; frame_out
  show iblk m c 3 t y = valAt _ _ _
  unfold valAt
  blk_ext [iblk, V, idx_val t]
end Cert.KernelIdeal.Value
-- ==== Proof.ValueOut.lean ====
/- The final array of the context attention's kernel. -/
module

public import proofs.«01_k».proof.Proof.ValueCtx

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)

theorem head_off {T g y o x : ℕ} (ho : o = 128 * g) (h : y = o + x) (hx : x < 128) : T + g = T + y / 128 := by omega

set_option maxHeartbeats 1600000 in
/-- The attention's result after the run. -/
theorem final_6 (c : Dev nD) : (dats m 0 c).arrAt 6 (cfgs 0).N
    = fun j : S8192x1024.Idx => ctxAt (m ((c : Thread nD τ).loc main_arg0)) (m ((c : Thread nD τ).loc main_arg1)) (m ((c : Thread nD τ).loc main_arg2)) (m ((c : Thread nD τ).loc main_arg3)) (j 0) (j 1) := by
  refine (dats m 0 c).arrAt_eq_of_covers 6 _ (by decide +kernel) fun t hf y => ?_
  have ht : t.val < 16 := lt_of_lt_of_eq t.isLt N_0
  have e0 : ((((cfg0.win 6).blk t).view.emb y) 0 : ℕ) = t.val / 2 * 1024 + y 0 := by blk_simp [idx_val t]
  have e1 : ((((cfg0.win 6).blk t).view.emb y) 1 : ℕ) = t.val % 2 * 512 + y 1 := by blk_simp [idx_val t]
  obtain ⟨o0, o1, o2, o3⟩ := off_val t
  generalize hj : (((cfg0.win 6).blk t).view.emb y) = j at *
  blk_simp; rw [after0_6]; unfold Gen.outsAt0; frame_out
  canon_tiles x h
  all_goals first | replace h0 : (y 0 : ℕ) = 0 + x 0 := h0.trans (Nat.zero_add _).symm | skip
  all_goals first | replace h1 : (y 1 : ℕ) = 0 + x 1 := h1.trans (Nat.zero_add _).symm | skip
  all_goals
    first
    | refine (tile0 (X0_1 m c t) _ _ _ _ _ _ _ _ _ _ _ _ _ _ _ _ (y 0) (y 1) x h0 (by omega) _ h1 (fun i k h => ?_)).trans (blk_ctx m c t (y 0) (y 1) _ _ _ e0 e1 (sink_ld m c t _ _ (o0.trans (congrArg (fun n => ![n]) ?_)) _ _))
    | refine (tile1 (X0_1 m c t) _ _ _ _ _ _ _ _ _ _ _ _ _ _ _ _ (y 0) (y 1) x h0 (by omega) _ h1 (fun i k h => ?_)).trans (blk_ctx m c t (y 0) (y 1) _ _ _ e0 e1 (sink_ld m c t _ _ (o1.trans (congrArg (fun n => ![n]) ?_)) _ _))
    | refine (tile2 (X0_1 m c t) _ _ _ _ _ _ _ _ _ _ _ _ _ _ _ _ (y 0) (y 1) x h0 (by omega) _ h1 (fun i k h => ?_)).trans (blk_ctx m c t (y 0) (y 1) _ _ _ e0 e1 (sink_ld m c t _ _ (o2.trans (congrArg (fun n => ![n]) ?_)) _ _))
    | refine (tile3 (X0_1 m c t) _ _ _ _ _ _ _ _ _ _ _ _ _ _ _ _ (y 0) (y 1) x h0 (by omega) _ h1 (fun i k h => ?_)).trans (blk_ctx m c t (y 0) (y 1) _ _ _ e0 e1 (sink_ld m c t _ _ (o3.trans (congrArg (fun n => ![n]) ?_)) _ _))
  all_goals first | exact head_off rfl h1 x1_lt | pointwise
end Cert.KernelIdeal.Value
-- ==== Proof.RefCtx.lean ====
/- The reference's attention read at an index. -/
module

public import proofs.«01_k».proof.Proof.Gen.ReferenceIdeal.Run
public import Idealize.ShloMosaic.Lib.Pointwise

@[expose] public section

set_option maxRecDepth 16384
noncomputable section
open Idealize.ShloMosaic Idealize.ShloMosaic.TcCoe Idealize.SL.Sem
namespace Cert.ReferenceIdeal.Value
open Cert.ReferenceIdeal Cert.ReferenceIdeal.Gen

/-- The context rows. -/
def rows (Z : FVec Ideal S16384x3840 .bf16) : FVec Ideal S8192x3840 .f32 :=
  extf .f32 (extractStridedSlice S8192x3840 ![0, 0] Z slices_S16384x3840_S8192x3840_0_0) bitsLt_bf16_f32

/-- The raw queries, keys and values by sequence, position and head. -/
def rawQ (Z : FVec Ideal S16384x3840 .bf16) : FVec Ideal S32x256x8x128 .f32 :=
  shapeCast _ (extractStridedSlice S8192x1024 ![0, 2048] (rows Z) slices_S8192x3840_S8192x1024_0_2048) shapeCasts_S8192x1024_S32x256x8x128
def rawK (Z : FVec Ideal S16384x3840 .bf16) : FVec Ideal S32x256x2x128 .f32 :=
  shapeCast _ (extractStridedSlice S8192x256 ![0, 3072] (rows Z) slices_S8192x3840_S8192x256_0_3072) shapeCasts_S8192x256_S32x256x2x128
def rawV (Z : FVec Ideal S16384x3840 .bf16) : FVec Ideal S32x256x2x128 .f32 :=
  shapeCast _ (extractStridedSlice S8192x256 ![0, 3328] (rows Z) slices_S8192x3840_S8192x256_0_3328) shapeCasts_S8192x256_S32x256x2x128

def normQ (x : FVec Ideal S32x256x8x128 .f32) (w : FVec Ideal S128 .f32) : FVec Ideal S32x256x8x128 .f32 :=
  mulf (mulf x (broadcastInDim S32x256x8x128 ![0, 1, 2, 3] bcast_S32x256x8x1_S32x256x8x128_0_1_2_3
    (Host.rsqrt (addf (Host.divf (broadcastInDim S32x256x8x1 ![0, 1, 2] bcast_S32x256x8_S32x256x8x1_0_1_2
      (Host.reduceAdd (mulf x x) (constant S_ .f32 0x00000000#32) reducesTo_S32x256x8x128_S32x256x8_d3 h_S_))
      (broadcastInDim S32x256x8x1 ![] bcast_S_S32x256x8x1 (constant S_ .f32 0x43000000#32)))
      (broadcastInDim S32x256x8x1 ![] bcast_S_S32x256x8x1 (constant S_ .f32 0x358637BD#32))))))
    (broadcastInDim S32x256x8x128 ![0, 1, 2, 3] bcast_S1x1x1x128_S32x256x8x128_0_1_2_3 (broadcastInDim S1x1x1x128 ![3] bcast_S128_S1x1x1x128_3 w))

def normK (x : FVec Ideal S32x256x2x128 .f32) (w : FVec Ideal S128 .f32) : FVec Ideal S32x256x2x128 .f32 :=
  mulf (mulf x (broadcastInDim S32x256x2x128 ![0, 1, 2, 3] bcast_S32x256x2x1_S32x256x2x128_0_1_2_3
    (Host.rsqrt (addf (Host.divf (broadcastInDim S32x256x2x1 ![0, 1, 2] bcast_S32x256x2_S32x256x2x1_0_1_2
      (Host.reduceAdd (mulf x x) (constant S_ .f32 0x00000000#32) reducesTo_S32x256x2x128_S32x256x2_d3 h_S_))
      (broadcastInDim S32x256x2x1 ![] bcast_S_S32x256x2x1 (constant S_ .f32 0x43000000#32)))
      (broadcastInDim S32x256x2x1 ![] bcast_S_S32x256x2x1 (constant S_ .f32 0x358637BD#32))))))
    (broadcastInDim S32x256x2x128 ![0, 1, 2, 3] bcast_S1x1x1x128_S32x256x2x128_0_1_2_3 (broadcastInDim S1x1x1x128 ![3] bcast_S128_S1x1x1x128_3 w))

/-- The scaled scores and, behind them, the sink. -/
def logits (K : FVec Ideal S32x256x2x128 .f32) (Q : FVec Ideal S32x256x8x128 .f32) (s : FVec Ideal S8 .f32) : FVec Ideal S32x2x4x256x257 .f32 :=
  concatenate S32x2x4x256x257 4 [⟨S32x2x4x256x256, (mulf (transpose S32x2x4x256x256 [0, 1, 4, 3, 2]
      (Host.dotGeneral dot_S32x256x2x128_S32x256x2x4x128_S32x2x256x256x4_3_4_1_13_02_02 none K
        (shapeCast _ Q shapeCasts_S32x256x8x128_S32x256x2x4x128)) transposes_S32x2x256x256x4_S32x2x4x256x256_0_1_4_3_2)
      (broadcastInDim S32x2x4x256x256 ![] bcast_S_S32x2x4x256x256 (constant S_ .f32 0x3DB504F3#32)))⟩,
    ⟨S32x2x4x256x1, (broadcastInDim S32x2x4x256x1 ![0, 1, 2, 3, 4] bcast_S1x2x4x1x1_S32x2x4x256x1_0_1_2_3_4
      (shapeCast _ s shapeCasts_S8_S1x2x4x1x1))⟩] concatenates_S32x2x4x256x256_S32x2x4x256x1_S32x2x4x256x257_d4

/-- The rows' maxima. -/
def tops (C : FVec Ideal S32x2x4x256x257 .f32) : FVec Ideal S32x2x4x256 .f32 :=
  maximumf (broadcastInDim S32x2x4x256 ![] bcast_S_S32x2x4x256 (constant S_ .f32 0xFF800000#32))
    (Host.reduce FloatOps.maximumf C (constant S_ .f32 0xFF800000#32) reducesTo_S32x2x4x256x257_S32x2x4x256_d4 h_S_)

/-- The exponentials of the logits under their row's maximum. -/
def numer (C : FVec Ideal S32x2x4x256x257 .f32) (M : FVec Ideal S32x2x4x256 .f32) : FVec Ideal S32x2x4x256x257 .f32 :=
  Host.exp (subf C (broadcastInDim S32x2x4x256x257 ![0, 1, 2, 3, 4] bcast_S32x2x4x256x1_S32x2x4x256x257_0_1_2_3_4
    (broadcastInDim S32x2x4x256x1 ![0, 1, 2, 3] bcast_S32x2x4x256_S32x2x4x256x1_0_1_2_3 M)))

/-- The rows' sums. -/
def denom (E : FVec Ideal S32x2x4x256x257 .f32) : FVec Ideal S32x2x4x256 .f32 :=
  Host.reduceAdd E (constant S_ .f32 0x00000000#32) reducesTo_S32x2x4x256x257_S32x2x4x256_d4 h_S_

/-- Exponentials over their row's sum, the sink's weight dropped. -/
def quot (E : FVec Ideal S32x2x4x256x257 .f32) (D : FVec Ideal S32x2x4x256 .f32) : FVec Ideal S32x2x4x256x256 .f32 :=
  extractStridedSlice S32x2x4x256x256 ![0, 0, 0, 0, 0] (Host.divf E
    (broadcastInDim S32x2x4x256x257 ![0, 1, 2, 3, 4] bcast_S32x2x4x256x1_S32x2x4x256x257_0_1_2_3_4
      (broadcastInDim S32x2x4x256x1 ![0, 1, 2, 3] bcast_S32x2x4x256_S32x2x4x256x1_0_1_2_3 D)))
    slices_S32x2x4x256x257_S32x2x4x256x256_0_0_0_0_0

/-- The softmax over scores and sink, the sink's weight dropped. -/
def weights (C : FVec Ideal S32x2x4x256x257 .f32) : FVec Ideal S32x2x4x256x256 .f32 :=
  quot (numer C (tops C)) (denom (numer C (tops C)))

/-- The weighted values, heads side by side. -/
def output (V : FVec Ideal S32x256x2x128 .f32) (P : FVec Ideal S32x2x4x256x256 .f32) : FVec Ideal S8192x1024 .bf16 :=
  truncf .bf16 (shapeCast _ (shapeCast _ (transpose S32x256x2x4x128 [0, 4, 1, 3, 2]
    (Host.dotGeneral dot_S32x256x2x128_S32x2x4x256x256_S32x2x128x4x256_1_4_3_23_02_01 none V P)
    transposes_S32x2x128x4x256_S32x256x2x4x128_0_4_1_3_2) shapeCasts_S32x256x2x4x128_S32x256x8x128) shapeCasts_S32x256x8x128_S8192x1024) bitsLt_bf16_f32

theorem res_eq (m : (ℓ : Loc nD τ sig) → Buf (Elt Ideal) ℓ) (c : Dev nD) :
    res_out0 m c = output (rawV (m ((c.tc : Thread nD τ).loc main_arg0)))
      (weights (logits (normK (rawK (m ((c.tc : Thread nD τ).loc main_arg0))) (m ((c.tc : Thread nD τ).loc main_arg3)))
        (normQ (rawQ (m ((c.tc : Thread nD τ).loc main_arg0))) (m ((c.tc : Thread nD τ).loc main_arg2)))
        (m ((c.tc : Thread nD τ).loc main_arg1)))) := rfl

theorem normQ_at (x w) (b : Fin 32) (i : Fin 256) (h : Fin 8) (d : Fin 128) : normQ x w (ix4 b i h d)
    = x (ix4 b i h d) * Ideal.rsqrt (Ideal.div (∑ l, x (ix4 b i h l) * x (ix4 b i h l)) (Ideal.ofBits .f32 0x43000000#32) + Ideal.ofBits .f32 0x358637BD#32) * w (ix1 d) := by
  pointwise [normQ]
theorem normK_at (x w) (b : Fin 32) (i : Fin 256) (h : Fin 2) (d : Fin 128) : normK x w (ix4 b i h d)
    = x (ix4 b i h d) * Ideal.rsqrt (Ideal.div (∑ l, x (ix4 b i h l) * x (ix4 b i h l)) (Ideal.ofBits .f32 0x43000000#32) + Ideal.ofBits .f32 0x358637BD#32) * w (ix1 d) := by
  pointwise [normK]
theorem logits_at (K Q s) (b : Fin 32) (h : Fin 2) (g : Fin 4) (i : Fin 256) (j : Fin 257) : logits K Q s (ix5 b h g i j)
    = if hj : (j : ℕ) < 256 then (∑ k, K (ix4 b ⟨j, hj⟩ h k) * Q (ix4 b i ⟨h * 4 + g, by omega⟩ k)) * Ideal.ofBits .f32 0x3DB504F3#32
      else s (ix1 ⟨h * 4 + g, by omega⟩) := by
  pointwise [logits]
/-- The maximum along the last of five axes, at an index of the four kept. -/
theorem reduce_max_last {n0 n1 n2 n3 n4 : ℕ} (x : FVec Ideal ⟨5, ![n0, n1, n2, n3, n4]⟩ .f32) (v : FVec Ideal ⟨0, ![]⟩ .f32)
    (h : (⟨5, ![n0, n1, n2, n3, n4]⟩ : Shape).ReducesTo [4] ⟨4, ![n0, n1, n2, n3]⟩) (hu) (a : Fin n0) (b : Fin n1) (c : Fin n2) (d : Fin n3) :
    Host.reduce FloatOps.maximumf x v h hu (ix4 a b c d) = Finset.univ.fold max (v ix0) fun j : Fin n4 => x (ix5 a b c d j) := by
  refine (Host.reduce_eq_fold ..).trans ?_
  refine (h.fold_fiber_r5_a4 ..).trans ?_
  rw [Subsingleton.elim (Shape.Idx.first hu) ix0]
  simp only [Ideal.maximumf_eq_max]; rfl

theorem red_at (C : FVec Ideal S32x2x4x256x257 .f32) (v : FVec Ideal S_ .f32) (b : Fin 32) (h : Fin 2) (g : Fin 4) (i : Fin 256) :
   Host.reduce FloatOps.maximumf C v reducesTo_S32x2x4x256x257_S32x2x4x256_d4 h_S_ (ix4 b h g i) = Finset.univ.fold max (v ix0) fun j => C (ix5 b h g i j) :=
  reduce_max_last (n0 := 32) (n1 := 2) (n2 := 4) (n3 := 256) (n4 := 257) C v _ _ b h g i
theorem bottom_at : constant (F := Ideal) S_ .f32 0xFF800000#32 ix0 = Ideal.ofBits .f32 0xFF800000#32 := by pointwise []

theorem max_at (v : FVec Ideal S_ .f32) (y : FVec Ideal S32x2x4x256 .f32) (b : Fin 32) (h : Fin 2) (g : Fin 4) (i : Fin 256) : maximumf (broadcastInDim S32x2x4x256 ![] bcast_S_S32x2x4x256 v) y (ix4 b h g i) = max (v ix0) (y (ix4 b h g i)) := by pointwise []

theorem max_red_at (C : FVec Ideal S32x2x4x256x257 .f32) (v : FVec Ideal S_ .f32) (b : Fin 32) (h : Fin 2) (g : Fin 4) (i : Fin 256) :
  max (v ix0) (Host.reduce FloatOps.maximumf C v reducesTo_S32x2x4x256x257_S32x2x4x256_d4 h_S_ (ix4 b h g i)) = max (v ix0) (Finset.univ.fold max (v ix0) fun j => C (ix5 b h g i j)) := congrArg (max _) (red_at C v b h g i)

theorem max_bcast_at (C : FVec Ideal S32x2x4x256x257 .f32) (v : FVec Ideal S_ .f32) (b : Fin 32) (h : Fin 2) (g : Fin 4) (i : Fin 256) :
    maximumf (broadcastInDim S32x2x4x256 ![] bcast_S_S32x2x4x256 v) (Host.reduce FloatOps.maximumf C v reducesTo_S32x2x4x256x257_S32x2x4x256_d4 h_S_) (ix4 b h g i)
      = max (v ix0) (Finset.univ.fold max (v ix0) fun j => C (ix5 b h g i j)) :=
  (max_at v _ b h g i).trans (max_red_at C v b h g i)

theorem tops_at (C) (b : Fin 32) (h : Fin 2) (g : Fin 4) (i : Fin 256) : tops C (ix4 b h g i)
    = max (constant (F := Ideal) S_ .f32 0xFF800000#32 ix0) (Finset.univ.fold max (constant (F := Ideal) S_ .f32 0xFF800000#32 ix0) fun j => C (ix5 b h g i j)) := by
  unfold tops; exact max_bcast_at C (constant S_ .f32 0xFF800000#32) b h g i
theorem numer_at (C M) (b : Fin 32) (h : Fin 2) (g : Fin 4) (i : Fin 256) (j : Fin 257) : numer C M (ix5 b h g i j)
    = Ideal.exp (C (ix5 b h g i j) - M (ix4 b h g i)) := by
  pointwise [numer]
theorem denom_at (E) (b : Fin 32) (h : Fin 2) (g : Fin 4) (i : Fin 256) : denom E (ix4 b h g i) = ∑ j, E (ix5 b h g i j) := by
  pointwise [denom]
theorem quot_at (E D) (b : Fin 32) (h : Fin 2) (g : Fin 4) (i : Fin 256) (j : Fin 256) : quot E D (ix5 b h g i j)
    = Ideal.div (E (ix5 b h g i ⟨j, by omega⟩)) (D (ix4 b h g i)) := by
  pointwise [quot]
theorem output_at (V P) (r : Fin 8192) (c : Fin 1024) : output V P (ix2 r c)
    = ∑ j : Fin 256, V (ix4 ⟨r / 256, by omega⟩ j ⟨c / 512, by omega⟩ ⟨c % 128, by omega⟩)
        * P (ix5 ⟨r / 256, by omega⟩ ⟨c / 512, by omega⟩ ⟨c / 128 % 4, by omega⟩ ⟨r % 256, by omega⟩ j) := by
  pointwise [output]
theorem rawQ_at (Z) (b : Fin 32) (i : Fin 256) (h : Fin 8) (d : Fin 128) : rawQ Z (ix4 b i h d)
    = Z (ix2 ⟨b * 256 + i, by omega⟩ ⟨2048 + (h * 128 + d), by omega⟩) := by
  pointwise [rawQ, rows]
theorem rawK_at (Z) (b : Fin 32) (i : Fin 256) (h : Fin 2) (d : Fin 128) : rawK Z (ix4 b i h d)
    = Z (ix2 ⟨b * 256 + i, by omega⟩ ⟨3072 + (h * 128 + d), by omega⟩) := by
  pointwise [rawK, rows]
theorem rawV_at (Z) (b : Fin 32) (i : Fin 256) (h : Fin 2) (d : Fin 128) : rawV Z (ix4 b i h d)
    = Z (ix2 ⟨b * 256 + i, by omega⟩ ⟨3328 + (h * 128 + d), by omega⟩) := by
  pointwise [rawV, rows]

/-- Keys and values, heads side by side. -/
def flat (x : FVec Ideal S32x256x2x128 .f32) : FVec Ideal S8192x256 .f32 := shapeCast _ x shapeCasts_S32x256x2x128_S8192x256
theorem flat_at (x) (r : Fin 8192) (c : Fin 256) : flat x (ix2 r c)
    = x (ix4 ⟨r / 256, by omega⟩ ⟨r % 256, by omega⟩ ⟨c / 128, by omega⟩ ⟨c % 128, by omega⟩) := by
  pointwise [flat]

end Cert.ReferenceIdeal.Value
-- ==== Proof.Soft.lean ====
/- The softmax with a sink, written as weights and as a quotient at the end, over extended reals. -/
module

public import proofs.«01_k».proof.Proof.Attend

@[expose] public section

noncomputable section
open Idealize.ShloMosaic
namespace Cert.KernelIdeal.Value

/-- A number is a real one. -/
def Real' (x : EReal) : Prop := ∃ r : ℝ, x = r

theorem Real'.mul {x y : EReal} : Real' x → Real' y → Real' (x * y)
  | ⟨a, ha⟩, ⟨b, hb⟩ => ⟨a * b, by rw [ha, hb, EReal.coe_mul]⟩
theorem Real'.add {x y : EReal} : Real' x → Real' y → Real' (x + y)
  | ⟨a, ha⟩, ⟨b, hb⟩ => ⟨a + b, by rw [ha, hb, EReal.coe_add]⟩
theorem Real'.sub {x y : EReal} : Real' x → Real' y → Real' (x - y)
  | ⟨a, ha⟩, ⟨b, hb⟩ => ⟨a - b, by rw [ha, hb, EReal.coe_sub]⟩
theorem Real'.sum {ι : Type} (s : Finset ι) {f : ι → EReal} (h : ∀ i, Real' (f i)) : Real' (∑ i ∈ s, f i) := by
  classical
  induction s using Finset.induction_on with
  | empty => exact ⟨0, by simp⟩
  | insert a s ha ih => rw [Finset.sum_insert ha]; exact (h a).add ih
theorem Real'.max {x y : EReal} (hx : Real' x) (hy : Real' y) : Real' (max x y) := by
  rcases max_choice x y with h | h <;> rw [h] <;> assumption

theorem square_nonneg (x : EReal) : 0 ≤ x * x := by
  rcases le_total 0 x with h | h
  · exact EReal.mul_nonneg h h
  · rw [← neg_mul_neg]; exact EReal.mul_nonneg (EReal.neg_nonneg.2 h) (EReal.neg_nonneg.2 h)

theorem ofBits_mean : Ideal.ofBits .f32 0x43000000#32 = ((128 : ℝ) : EReal) := by
  simp [Ideal.ofBits, Ideal.ieee, -EReal.coe_mul]; norm_num
theorem ofBits_eps : ∃ e : ℝ, 0 < e ∧ Ideal.ofBits .f32 0x358637BD#32 = (e : EReal) := by
  refine ⟨_, ?_, by simp [Ideal.ofBits, Ideal.ieee, -EReal.coe_mul]; rfl⟩
  positivity
theorem ofBits_scale : ∃ e : ℝ, 0 ≤ e ∧ Ideal.ofBits .f32 0x3DB504F3#32 = (e : EReal) := by
  refine ⟨_, ?_, by simp [Ideal.ofBits, Ideal.ieee, -EReal.coe_mul]; rfl⟩
  positivity
theorem ofBits_bot : Ideal.ofBits .f32 0xFF800000#32 = ⊥ := by
  simp [Ideal.ofBits, Ideal.ieee]

/-- A normalised entry is a real number whatever the row holds, as long as its weight is one. -/
theorem norm_real (f w : Fin 128 → EReal) (k : Fin 128) (hw : Real' (w k)) : Real' (norm f w k) := by
  refine Real'.mul ?_ hw
  obtain ⟨e, he, hE⟩ := ofBits_eps
  rw [hE, ofBits_mean, Ideal.div_coe (by norm_num)]
  have h0 : 0 ≤ ∑ l, f l * f l := Finset.sum_nonneg fun l _ => square_nonneg _
  have hk : f k * f k ≤ ∑ l, f l * f l := Finset.single_le_sum (fun l _ => square_nonneg (f l)) (Finset.mem_univ k)
  generalize (∑ l, f l * f l) = S at h0 hk ⊢
  induction S using EReal.rec with
  | bot => simp at h0
  | top =>
    rw [EReal.top_mul_coe_of_pos (by norm_num), EReal.top_add_coe]
    exact ⟨0, by show f k * (0 : EReal) = _; simp⟩
  | coe s =>
    have hs : 0 ≤ s := by exact_mod_cast h0
    have hp : 0 < s * (1 / 128) + e := by positivity
    rw [← EReal.coe_mul, ← EReal.coe_add]
    refine Real'.mul ?_ ⟨(Real.sqrt (s * (1 / 128) + e))⁻¹, ?_⟩
    · generalize f k = x at hk
      induction x using EReal.rec with
      | bot => simp at hk
      | top => simp at hk
      | coe r => exact ⟨r, rfl⟩
    · show (if _ then _ else if _ then _ else _) = _
      rw [if_neg (not_lt.2 hp.le), if_neg hp.ne']

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor moves out of a contraction of real numbers. -/
theorem scale_out {n : ℕ} (c : EReal) (q K : Fin n → EReal) (hc : Real' c) (hq : ∀ k, Real' (q k)) (hK : ∀ k, Real' (K k)) :
    ∑ k, q k * c * K k = (∑ k, K k * q k) * c := by
  obtain ⟨c, rfl⟩ := hc
  choose a ha using hq
  choose b hb using hK
  simp only [ha, hb, ← EReal.coe_mul]
  rw [← coe_sum, ← coe_sum, ← EReal.coe_mul, Finset.sum_mul]
  exact congrArg _ (Finset.sum_congr rfl fun k _ => by ring)

/-- A nonnegative real factor moves out of any sum. -/
theorem sum_mul_real {ι : Type} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih]
    exact (EReal.right_distrib_of_nonneg_of_ne_top (by exact_mod_cast hc) (EReal.coe_ne_top _) _ _).symm

/-- The logits of one row: the scores, then the sink. -/
def logit (sc : Fin 256 → EReal) (s : EReal) (j : Fin 257) : EReal := if h : (j : ℕ) < 256 then sc ⟨j, h⟩ else s

theorem logit_max (sc : Fin 256 → EReal) (s : EReal) :
    max (Ideal.ofBits .f32 0xFF800000#32) (Finset.univ.fold max (Ideal.ofBits .f32 0xFF800000#32) (logit sc s)) = top sc s := by
  rw [top, ofBits_bot, max_eq_right bot_le]
  refine le_antisymm (Finset.fold_max_le _ |>.2 ⟨bot_le, fun j _ => ?_⟩) (max_le (Finset.fold_max_le _ |>.2 ⟨bot_le, fun j _ => ?_⟩) ?_)
  · unfold logit; split
    · exact le_max_of_le_left (Finset.le_fold_max _ |>.2 (.inr ⟨_, Finset.mem_univ _, le_rfl⟩))
    · exact le_max_right _ _
  · refine Finset.le_fold_max _ |>.2 (.inr ⟨⟨j, by omega⟩, Finset.mem_univ _, ?_⟩)
    simp [logit]
  · refine Finset.le_fold_max _ |>.2 (.inr ⟨⟨256, by omega⟩, Finset.mem_univ _, ?_⟩)
    simp [logit]

theorem logit_sum (sc : Fin 256 → EReal) (s : EReal) (g : EReal → EReal) : ∑ j, g (logit sc s j) = (∑ j, g (sc j)) + g s := by
  rw [Fin.sum_univ_castSucc]
  refine congrArg₂ (· + ·) (Finset.sum_congr rfl fun j _ => ?_) ?_
  · exact congrArg g (dif_pos j.isLt)
  · exact congrArg g (dif_neg (by simp))

theorem top_real (sc : Fin 256 → EReal) (s : EReal) (hsc : ∀ j, Real' (sc j)) (hs : Real' s) : Real' (top sc s) := by
  obtain ⟨t, rfl⟩ := hs
  choose a ha using hsc
  have e : top sc t = ((Finset.univ.fold max t a : ℝ) : EReal) := by
    have hc : ∀ u : Finset (Fin 256), max (u.fold max ⊥ sc) (t : EReal) = ((u.fold max t a : ℝ) : EReal) := by
      classical
      intro u
      induction u using Finset.induction_on with
      | empty => simp
      | insert x u hx ih => rw [Finset.fold_insert hx, Finset.fold_insert hx, max_assoc, ih, ha]; exact (EReal.coe_strictMono.monotone.map_max).symm
    rw [top, ofBits_bot]; exact hc _
  exact ⟨_, e⟩

/-- The softmax's weights over the values are the exponentials over the values, times the reciprocal of the sum. -/
theorem soft_eq (sc V : Fin 256 → EReal) (s : EReal) (hsc : ∀ j, Real' (sc j)) (hs : Real' s) :
    (∑ j, V j * Ideal.div (Ideal.exp (sc j - top sc s)) (∑ i, Ideal.exp (logit sc s i - top sc s)))
      = (∑ j, Ideal.exp (sc j - top sc s) * V j)
          * Ideal.div 1 ((∑ j, Ideal.exp (sc j - top sc s)) + Ideal.exp (s - top sc s)) := by
  rw [logit_sum sc s fun x => Ideal.exp (x - top sc s)]
  obtain ⟨M, hM⟩ := top_real sc s hsc hs
  rw [hM]
  obtain ⟨t, rfl⟩ := hs
  choose a ha using hsc
  have e : ∀ r : ℝ, Ideal.exp ((r : EReal) - M) = ((Real.exp (r - M) : ℝ) : EReal) := fun r => by rw [← EReal.coe_sub]; rfl
  have hD : (∑ j, Ideal.exp (sc j - M)) + Ideal.exp (t - M) = (((∑ j, Real.exp (a j - M)) + Real.exp (t - M) : ℝ) : EReal) := by
    rw [EReal.coe_add, coe_sum, e]; simp only [ha, e]
  have hp : 0 < (∑ j, Real.exp (a j - M)) + Real.exp (t - M) :=
    add_pos_of_nonneg_of_pos (Finset.sum_nonneg fun _ _ => (Real.exp_pos _).le) (Real.exp_pos _)
  rw [hD, Ideal.div_coe hp.ne', one_mul, ← sum_mul_real _ _ (by positivity)]
  refine Finset.sum_congr rfl fun j _ => ?_
  rw [Ideal.div_coe hp.ne', ← mul_assoc, mul_comm (V j)]

end Cert.KernelIdeal.Value
-- ==== Proof.RefEq.lean ====
/- The reference's attention is the kernel's. -/
module

public import proofs.«01_k».proof.Proof.RefCtx
public import proofs.«01_k».proof.Proof.Soft

@[expose] public section

set_option maxRecDepth 16384
noncomputable section
open Idealize.ShloMosaic Idealize.ShloMosaic.TcCoe Idealize.SL.Sem
namespace Cert.ReferenceIdeal.Value
open Cert.ReferenceIdeal Cert.ReferenceIdeal.Gen
open Cert.KernelIdeal.Value (Real' norm norm_real att top logit logit_max soft_eq scale_out ofBits_scale ctxAt keyAt valAt)

/-- The softmax's weight at an index, from the row of logits. -/
theorem weights_at (C) (b : Fin 32) (h : Fin 2) (g : Fin 4) (i : Fin 256) (sc : Fin 256 → EReal) (s : EReal)
    (hC : ∀ j : Fin 257, C (ix5 b h g i j) = logit sc s j) (j : Fin 256) : weights C (ix5 b h g i j)
    = Ideal.div (Ideal.exp (sc j - top sc s)) (∑ l, Ideal.exp (logit sc s l - top sc s)) := by
  have hM : tops C (ix4 b h g i) = top sc s := by
    refine (tops_at C b h g i).trans (Eq.trans ?_ (logit_max sc s))
    rw [bottom_at, funext hC]
  have hE : ∀ l : Fin 257, numer C (tops C) (ix5 b h g i l) = Ideal.exp (logit sc s l - top sc s) := fun l => by
    rw [numer_at, hC, hM]
  unfold weights
  rw [quot_at, denom_at, hE, Finset.sum_congr rfl fun l _ => hE l]
  exact congrArg (fun x => Ideal.div (Ideal.exp (x - top sc s)) _) (dif_pos j.isLt)

theorem queryAt (Z : FVec Ideal S16384x3840 .bf16) (w : FVec Ideal S128 .f32) (r : Fin 8192) (c : Fin 1024) (k : Fin 128) :
    normQ (rawQ Z) w (ix4 ⟨r / 256, by omega⟩ ⟨r % 256, by omega⟩ ⟨c / 512 * 4 + c / 128 % 4, by omega⟩ k)
      = norm (fun l => Z (ix2 (⟨r, by omega⟩ : Fin 16384) (⟨2048 + (c / 128 * 128 + l), by omega⟩ : Fin 3840))) (fun l => w (ix1 l)) k := by
  have e : ∀ l : Fin 128, rawQ Z (ix4 ⟨r / 256, by omega⟩ ⟨r % 256, by omega⟩ ⟨c / 512 * 4 + c / 128 % 4, by omega⟩ l)
      = Z (ix2 (⟨r, by omega⟩ : Fin 16384) (⟨2048 + (c / 128 * 128 + l), by omega⟩ : Fin 3840)) := fun l => by
    rw [rawQ_at]
    exact congrArg Z (congrArg₂ ix2 (Fin.ext (by show (r : ℕ) / 256 * 256 + r % 256 = r; omega))
      (Fin.ext (by show 2048 + (((c : ℕ) / 512 * 4 + c / 128 % 4) * 128 + l) = 2048 + (c / 128 * 128 + l); omega)))
  rw [normQ_at]; simp only [e]; rfl

theorem keysAt (Z : FVec Ideal S16384x3840 .bf16) (w : FVec Ideal S128 .f32) (b : Fin 32) (h : Fin 2) (j : Fin 256) (k : Fin 128) :
    normK (rawK Z) w (ix4 b j h k)
      = norm (fun l => Z (ix2 (⟨b * 256 + j, by omega⟩ : Fin 16384) (⟨3072 + (h * 128 + l), by omega⟩ : Fin 3840))) (fun l => w (ix1 l)) k := by
  rw [normK_at]; simp only [rawK_at]; rfl

theorem out_eq (Z : FVec Ideal S16384x3840 .bf16) (s : FVec Ideal S8 .f32) (qw kw : FVec Ideal S128 .f32)
    (hs : ∀ i, Real' (s i)) (hq : ∀ i, Real' (qw i)) (hk : ∀ i, Real' (kw i)) (r : Fin 8192) (c : Fin 1024) :
    output (rawV Z) (weights (logits (normK (rawK Z) kw) (normQ (rawQ Z) qw) s)) (ix2 r c) = ctxAt Z s qw kw r c := by
  obtain ⟨e, he, hE⟩ := ofBits_scale
  have hc : Real' (Ideal.ofBits .f32 0x3DB504F3#32) := ⟨e, hE⟩
  rw [output_at]
  unfold ctxAt att
  refine Eq.trans ?_ (soft_eq _ _ _ (fun j => Real'.sum _ fun k => ((norm_real _ _ k (hq _)).mul hc).mul (norm_real _ _ k (hk _))) (hs _))
  refine Finset.sum_congr rfl fun j _ => congrArg₂ (· * ·) (rawV_at ..) (weights_at _ _ _ _ _ _ _ (fun l => ?_) j)
  rw [logits_at]
  unfold logit
  split
  · refine Eq.trans ?_ (scale_out _ (norm _ fun l => qw (ix1 l)) (norm _ fun l => kw (ix1 l)) hc (fun k => norm_real _ _ k (hq _)) (fun k => norm_real _ _ k (hk _))).symm
    refine congrArg (· * _) (Finset.sum_congr rfl fun k _ => congrArg₂ (· * ·) (keysAt ..) (queryAt ..))
  · exact congrArg s (congrArg ix1 (Fin.ext (by show (c : ℕ) / 512 * 4 + c / 128 % 4 = c / 128; omega)))

theorem key_eq (Z : FVec Ideal S16384x3840 .bf16) (kw : FVec Ideal S128 .f32) (r : Fin 8192) (c : Fin 256) :
    flat (normK (rawK Z) kw) (ix2 r c) = keyAt Z kw r c := by
  rw [flat_at, keysAt]
  unfold keyAt
  refine congrArg (fun f => norm f _ _) (funext fun l => congrArg Z (congrArg₂ ix2 (Fin.ext ?_) rfl))
  show (r : ℕ) / 256 * 256 + r % 256 = r; omega

theorem val_eq (Z : FVec Ideal S16384x3840 .bf16) (r : Fin 8192) (c : Fin 256) : flat (rawV Z) (ix2 r c) = valAt Z r c := by
  rw [flat_at, rawV_at]
  unfold valAt
  refine congrArg Z (congrArg₂ ix2 (Fin.ext ?_) (Fin.ext ?_))
  · show (r : ℕ) / 256 * 256 + r % 256 = r; omega
  · show 3328 + ((c : ℕ) / 128 * 128 + c % 128) = 3328 + c; omega

/-- The three results over the arguments. -/
theorem res_6 (m : (ℓ : Loc nD τ sig) → Buf (Elt Ideal) ℓ) (c : Dev nD)
    (hp : (∀ i, Real' (m ((c.tc : Thread nD τ).loc main_arg1) i)) ∧ (∀ i, Real' (m ((c.tc : Thread nD τ).loc main_arg2) i)) ∧ ∀ i, Real' (m ((c.tc : Thread nD τ).loc main_arg3) i)) :
    res_out0 m c = fun j : S8192x1024.Idx => ctxAt (m ((c.tc : Thread nD τ).loc main_arg0)) (m ((c.tc : Thread nD τ).loc main_arg1))
      (m ((c.tc : Thread nD τ).loc main_arg2)) (m ((c.tc : Thread nD τ).loc main_arg3)) (j 0) (j 1) := by
  rw [res_eq]
  funext j
  exact (congrArg _ (eq_ix2 j)).trans (out_eq _ _ _ _ hp.1 hp.2.1 hp.2.2 (j 0) (j 1))

theorem res_7 (Z : FVec Ideal S16384x3840 .bf16) (kw : FVec Ideal S128 .f32) :
    flat (normK (rawK Z) kw) = fun j : S8192x256.Idx => keyAt Z kw (j 0) (j 1) := by
  funext j
  exact (congrArg _ (eq_ix2 j)).trans (key_eq _ _ (j 0) (j 1))

theorem res_8 (Z : FVec Ideal S16384x3840 .bf16) : flat (rawV Z) = fun j : S8192x256.Idx => valAt Z (j 0) (j 1) := by
  funext j
  exact (congrArg _ (eq_ix2 j)).trans (val_eq _ (j 0) (j 1))

end Cert.ReferenceIdeal.Value
-- ==== Proof.Pre.lean ====
/- What the precondition says of the arguments: the sinks and the norm weights are real numbers. -/
module

public import proofs.«01_k».proof.Defs
public import proofs.«01_k».proof.Proof.Gen.Pre_finite_weights
public import proofs.«01_k».proof.Proof.Soft
public import Idealize.ShloMosaic.Lib.Pointwise

@[expose] public section

noncomputable section
open Idealize.ShloMosaic Idealize.ShloMosaic.TcCoe
namespace Cert.Pre_finite_weights
open Cert.KernelIdeal.Value (Real')

theorem real_of_abs_lt {x : EReal} (h : max x (-x) < ⊤) : Real' x := by
  induction x using EReal.rec with
  | bot => simp at h
  | top => simp at h
  | coe r => exact ⟨r, rfl⟩

theorem and_fold {n : ℕ} (f : Fin n → BitVec 1) (b : BitVec 1) (h : Finset.univ.fold IntOp.andi b f = 1#1) (i : Fin n) : f i = 1#1 := by
  have key : ∀ s : Finset (Fin n), s.fold IntOp.andi b f = 1#1 → ∀ i ∈ s, f i = 1#1 := by
    classical
    intro s
    induction s using Finset.induction_on with
    | empty => simp
    | insert a s ha ih =>
      intro h i hi
      rw [Finset.fold_insert ha] at h
      obtain ⟨h1, h2⟩ : f a = 1#1 ∧ s.fold IntOp.andi b f = 1#1 := by
        revert h; generalize f a = u; generalize s.fold IntOp.andi b f = v; revert u v; decide
      rcases Finset.mem_insert.1 hi with rfl | hi
      · exact h1
      · exact ih h2 i hi
  exact key _ h i (Finset.mem_univ i)

theorem real_of_word {x : EReal} (h : BitVec.ofBool (decide (FloatOps.absf (F := Ideal) (φ := .f32) x < Ideal.ofBits .f32 0x7F800000#32)) = 1#1) :
    Real' x := by
  have ht : Ideal.ofBits .f32 0x7F800000#32 = ⊤ := by simp [Ideal.ofBits, Ideal.ieee]
  rw [ht] at h
  have h' : FloatOps.absf (F := Ideal) (φ := .f32) x < ⊤ := by
    by_contra hn
    rw [decide_eq_false hn] at h
    exact absurd h (by decide)
  exact real_of_abs_lt h'

theorem and_split {a b : BitVec 1} : IntOp.andi a b = 1#1 → a = 1#1 ∧ b = 1#1 := by revert a b; decide

theorem real_of_pre [Facts] (Z s qw kw) (h : fn (F := Ideal) Z s qw kw = fun _ => 1#1) :
    (∀ i, Real' (s i)) ∧ (∀ i, Real' (qw i)) ∧ ∀ i, Real' (kw i) := by
  have e := congrFun h ix0
  simp only [fn] at e
  pointwise at e
  obtain ⟨e1, e2⟩ := and_split e
  obtain ⟨e0, e1⟩ := and_split e1
  refine ⟨fun i => ?_, fun i => ?_, fun i => ?_⟩ <;> rw [eq_ix1 i] <;> refine real_of_word ?_
  · exact and_fold _ _ e0 (i 0)
  · exact and_fold _ _ e1 (i 0)
  · exact and_fold _ _ e2 (i 0)
end Cert.Pre_finite_weights
-- ==== Proof.InProj.lean ====
/- The input projection: what the kernel's array holds after the run. -/
module

public import proofs.«01_k».proof.Proof.Gen.Kernel2Ideal.Value
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen
variable (m : (ℓ : Loc nD τ sig) → Buf (Elt Ideal) ℓ)

/-- A row divided by its root mean square, weighted, scaled and shifted. -/
def normMod (f w sc sh : Fin 2048 → EReal) (k : Fin 2048) : EReal :=
  f k * Ideal.rsqrt (Ideal.div (∑ l, f l * f l) (Ideal.ofBits .f32 0x45000000#32) + Ideal.ofBits .f32 0x358637BD#32) * w k * (1 + sc k) + sh k

/-- The modulation of a token: the first for the context, the one of its request for a latent token. -/
def modRow (r : ℕ) : ℕ := if r < 8192 then 0 else 1 + (r - 8192) / 1024

/-- A token's activations. -/
def token (X Y : FVec Ideal S8192x2048 .f32) (r : Fin 16384) (l : Fin 2048) : EReal :=
  if h : (r : ℕ) < 8192 then X (ix2 (⟨r, h⟩ : Fin 8192) l) else Y (ix2 (⟨r - 8192, by omega⟩ : Fin 8192) l)

theorem modRow_lt (r : Fin 16384) : modRow r < 16 := by unfold modRow; split <;> omega

/-- An entry of the projected activations. -/
def projAt (X Y : FVec Ideal S8192x2048 .f32) (M : FVec Ideal S16x6x2048 .f32) (w : FVec Ideal S2048 .f32) (W : FVec Ideal S2048x3840 .bf16)
    (r : Fin 16384) (c : Fin 3840) : EReal :=
  ∑ k, normMod (token X Y r) (fun l => w (ix1 l)) (fun l => M (ix3 (⟨modRow r, modRow_lt r⟩ : Fin 16) 1 l))
    (fun l => M (ix3 (⟨modRow r, modRow_lt r⟩ : Fin 16) 0 l)) k * W (ix2 k c)

/-- One entry of the body's product. -/
theorem pay_at (i : grid0.Coords) (v1 v2 : FVec Ideal S512x2048 .f32) (v4 : FVec Ideal S1x2048 .f32) (v6 v8 : FVec Ideal S1x1x2048 .f32)
    (v29 : FVec Ideal S2048x3840 .bf16) (v : FVec Ideal S512x2048 .f32)
    (hv : Scalar.select (Scalar.cmpi .slt (BitVec.ofNat 32 (i 0).val) 16#32) v1 v2 = v) (r : Fin 512) (c : Fin 3840) :
    k0_pay1 (F := Ideal) i v1 v2 v4 v6 v8 v29 (ix2 r c)
      = ∑ k, normMod (fun l => v (ix2 r l)) (fun l => v4 (ix2 0 l)) (fun l => v6 (ix3 0 0 l)) (fun l => v8 (ix3 0 0 l)) k * v29 (ix2 k c) := by
  unfold k0_pay1
  dsimp only
  rw [hv]
  pointwise [normMod]

/-- Every window's block index, in the point's number. -/
theorem idx_val : ∀ t : Fin cfg0.N, win0_0.index t = ![min t.val 15, 0]
    ∧ win0_1.index t = ![t.val - 16, 0]
    ∧ win0_2.index t = ![if t.val < 16 then 0 else 1 + (t.val - 16) / 2, 0, 0]
    ∧ win0_3.index t = ![0, 0]
    ∧ win0_4.index t = ![0, 0]
    ∧ win0_5.index t = ![t.val, 0]
    ∧ Scalar.cmpi .slt (BitVec.ofNat 32 ((grid0.coords t) 0).val) 16#32 = if t.val < 16 then 1#1 else 0#1 :=
  (by decide +kernel : ∀ t : Fin grid0.N, _)

/-- The norm's weight read from its staged block. -/
theorem weight_at (c : Dev nD) (t : Fin cfg0.N) (l : Fin 2048) : iblk m c 3 t (ix2 0 l) = m ((c : Thread nD τ).loc main_arg3) (ix1 l) := by
  blk_point [iblk, idx_val t]

/-- A row of the block the body picks is the token's. -/
theorem picked_at (c : Dev nD) (t : Fin cfg0.N) (r : Fin 512) (j : Fin 16384) (hj : (j : ℕ) = t.val * 512 + r) (l : Fin 2048) :
    Scalar.select (Scalar.cmpi .slt (BitVec.ofNat 32 ((grid0.coords t) 0).val) 16#32) (iblk m c 0 t) (iblk m c 1 t) (ix2 r l)
      = token (m ((c : Thread nD τ).loc main_arg0)) (m ((c : Thread nD τ).loc main_arg1)) j l := by
  have ht : t.val < 32 := lt_of_lt_of_eq t.isLt N_0
  rw [(idx_val t).2.2.2.2.2.2]
  unfold token
  by_cases h : t.val < 16
  · rw [if_pos h, dif_pos (by omega)]
    show iblk m c 0 t (ix2 r l) = _
    have e : ∀ q : Fin 8192, (q : ℕ) = t.val * 512 + r → iblk m c 0 t (ix2 r l) = m ((c : Thread nD τ).loc main_arg0) (ix2 q l) := fun q hq => by
      blk_ext [iblk, V, idx_val t]
    exact e _ hj
  · rw [if_neg h, dif_neg (by omega)]
    show iblk m c 1 t (ix2 r l) = _
    have e : ∀ q : Fin 8192, (q : ℕ) = (t.val - 16) * 512 + r → iblk m c 1 t (ix2 r l) = m ((c : Thread nD τ).loc main_arg1) (ix2 q l) := fun q hq => by
      blk_ext [iblk, V, idx_val t]
    exact e _ (by show (j : ℕ) - 8192 = _; omega)

/-- A modulation's chunk read from its staged block. -/
theorem mod_at (c : Dev nD) (t : Fin cfg0.N) (q : Fin 16) (hq : (q : ℕ) = if t.val < 16 then 0 else 1 + (t.val - 16) / 2) (k : Fin 6) (l : Fin 2048) :
    iblk m c 2 t (ix3 0 k l) = m ((c : Thread nD τ).loc main_arg2) (ix3 q k l) := by
  blk_ext [iblk, V, idx_val t]

/-- The projection of all tokens. -/
def projAll (X Y : FVec Ideal S8192x2048 .f32) (M : FVec Ideal S16x6x2048 .f32) (w : FVec Ideal S2048 .f32) (W : FVec Ideal S2048x3840 .bf16) :
    FVec Ideal S16384x3840 .bf16 := fun j => projAt X Y M w W (j 0) (j 1)

/-- The projected activations after the run. -/
theorem final_5 (c : Dev nD) : (dats m 0 c).arrAt 5 (cfgs 0).N
    = projAll (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have ht : t.val < 32 := lt_of_lt_of_eq t.isLt N_0
  have e0 : ((((cfg0.win 5).blk t).view.emb y) 0 : ℕ) = t.val * 512 + y 0 := by blk_simp [idx_val t]
  have e1 : ((((cfg0.win 5).blk t).view.emb y) 1 : ℕ) = y 1 := by blk_simp [idx_val t]
  generalize hj : (((cfg0.win 5).blk t).view.emb y) = j at *
  have hy : (y 0 : ℕ) < 512 := (y 0).isLt
  blk_simp; rw [after0_5]; unfold Gen.out0_5; frame_out
  rw [eq_ix2 y]
  refine (pay_at _ _ _ _ _ _ _ _ rfl (y 0) (y 1)).trans ?_
  show _ = projAt _ _ _ _ _ (j 0) (j 1)
  unfold projAt
  have eq : (if t.val < 16 then 0 else 1 + (t.val - 16) / 2) = modRow (j 0) := by unfold modRow; split <;> split <;> omega
  refine Finset.sum_congr rfl fun k _ => congrArg₂ (· * ·) ?_ ?_
  · have p := fun l => picked_at m c t (y 0) (j 0) e0 l
    have s1 : ∀ l, View.ld (iblk m c 2 t) r0_2 (ix3 0 0 l) = m ((c : Thread nD τ).loc main_arg2) (ix3 ⟨modRow (j 0), modRow_lt (j 0)⟩ 1 l) := fun l => by
      refine Eq.trans ?_ (mod_at m c t ⟨modRow (j 0), modRow_lt (j 0)⟩ eq.symm 1 l); pointwise
    have s0 : ∀ l, View.ld (iblk m c 2 t) r0_3 (ix3 0 0 l) = m ((c : Thread nD τ).loc main_arg2) (ix3 ⟨modRow (j 0), modRow_lt (j 0)⟩ 0 l) := fun l => by
      refine Eq.trans ?_ (mod_at m c t ⟨modRow (j 0), modRow_lt (j 0)⟩ eq.symm 0 l); pointwise
    rw [funext p, funext s1, funext s0, funext (weight_at m c t)]
  · have e : iblk m c 4 t (ix2 k (y 1)) = m ((c : Thread nD τ).loc main_arg4) (ix2 k (j 1)) := by
      blk_ext [iblk, V, idx_val t]
    refine Eq.trans ?_ e; pointwise

end Cert.Kernel2Ideal.Value
-- ==== Proof.RefIn.lean ====
/- The reference's input projection read at an index. -/
module

public import proofs.«01_k».proof.Proof.Gen.Reference2Ideal.Run
public import proofs.«01_k».proof.Proof.InProj

@[expose] public section

set_option maxRecDepth 16384
noncomputable section
open Idealize.ShloMosaic Idealize.ShloMosaic.TcCoe Idealize.SL.Sem
namespace Cert.Reference2Ideal.Value
open Cert.Reference2Ideal Cert.Reference2Ideal.Gen
open Cert.Kernel2Ideal.Value (normMod modRow modRow_lt token projAt)

/-- The context tokens' modulated norm. -/
def ctxH (X : FVec Ideal S8192x2048 .f32) (w : FVec Ideal S2048 .f32) (M : FVec Ideal S16x6x2048 .f32) : FVec Ideal S8192x2048 .f32 :=
  addf (mulf (mulf (mulf X (broadcastInDim S8192x2048 ![0, 1] bcast_S8192x1_S8192x2048_0_1 (Host.rsqrt (addf (Host.divf
      (broadcastInDim S8192x1 ![0] bcast_S8192_S8192x1_0 (Host.reduceAdd (mulf X X) (constant S_ .f32 0x00000000#32) reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 w)))
    (broadcastInDim S8192x2048 ![0, 1] bcast_S1x2048_S8192x2048_0_1 (broadcastInDim S1x2048 ![1] bcast_S2048_S1x2048_1
      (addf (broadcastInDim S2048 ![] bcast_S_S2048 (constant S_ .f32 0x3F800000#32))
        (shapeCast _ (extractStridedSlice S1x1x2048 ![0, 1, 0] M slices_S16x6x2048_S1x1x2048_0_1_0) shapeCasts_S1x1x2048_S2048)))))
    (broadcastInDim S8192x2048 ![0, 1] bcast_S1x2048_S8192x2048_0_1 (broadcastInDim S1x2048 ![1] bcast_S2048_S1x2048_1
      (shapeCast _ (extractStridedSlice S1x1x2048 ![0, 0, 0] M slices_S16x6x2048_S1x1x2048_0_0_0) shapeCasts_S1x1x2048_S2048)))

/-- The latent tokens by request and position. -/
def latX (Y : FVec Ideal S8192x2048 .f32) : FVec Ideal S8x1024x2048 .f32 := shapeCast _ Y shapeCasts_S8192x2048_S8x1024x2048

/-- The latent tokens' modulated norm. -/
def latH (Y : FVec Ideal S8x1024x2048 .f32) (w : FVec Ideal S2048 .f32) (M : FVec Ideal S16x6x2048 .f32) : FVec Ideal S8x1024x2048 .f32 :=
  addf (mulf (mulf (mulf Y (broadcastInDim S8x1024x2048 ![0, 1, 2] bcast_S8x1024x1_S8x1024x2048_0_1_2 (Host.rsqrt (addf (Host.divf
      (broadcastInDim S8x1024x1 ![0, 1] bcast_S8x1024_S8x1024x1_0_1 (Host.reduceAdd (mulf Y Y) (constant S_ .f32 0x00000000#32) reducesTo_S8x1024x2048_S8x1024_d2 h_S_))
      (broadcastInDim S8x1024x1 ![] bcast_S_S8x1024x1 (constant S_ .f32 0x45000000#32)))
      (broadcastInDim S8x1024x1 ![] bcast_S_S8x1024x1 (constant S_ .f32 0x358637BD#32))))))
    (broadcastInDim S8x1024x2048 ![0, 1, 2] bcast_S1x1x2048_S8x1024x2048_0_1_2 (broadcastInDim S1x1x2048 ![2] bcast_S2048_S1x1x2048_2 w)))
    (broadcastInDim S8x1024x2048 ![0, 1, 2] bcast_S8x1x2048_S8x1024x2048_0_1_2 (addf (broadcastInDim S8x1x2048 ![] bcast_S_S8x1x2048 (constant S_ .f32 0x3F800000#32))
      (broadcastInDim S8x1x2048 ![0, 2] bcast_S8x2048_S8x1x2048_0_2
        (shapeCast _ (extractStridedSlice S8x1x2048 ![1, 1, 0] M slices_S16x6x2048_S8x1x2048_1_1_0) shapeCasts_S8x1x2048_S8x2048)))))
    (broadcastInDim S8x1024x2048 ![0, 1, 2] bcast_S8x1x2048_S8x1024x2048_0_1_2 (broadcastInDim S8x1x2048 ![0, 2] bcast_S8x2048_S8x1x2048_0_2
      (shapeCast _ (extractStridedSlice S8x1x2048 ![1, 0, 0] M slices_S16x6x2048_S8x1x2048_1_0_0) shapeCasts_S8x1x2048_S8x2048)))

/-- A group's product with the weights. -/
def proj (H : FVec Ideal S8192x2048 .f32) (W : FVec Ideal S2048x3840 .bf16) : FVec Ideal S8192x3840 .f32 :=
  Host.dotGeneral dot_S8192x2048_S2048x3840_S8192x3840_1_0_0_1_n_n none H (extf .f32 W bitsLt_bf16_f32)

/-- Both groups' tokens, the context on top. -/
def both (a b : FVec Ideal S8192x3840 .f32) : FVec Ideal S16384x3840 .bf16 :=
  truncf .bf16 (concatenate S16384x3840 0 [⟨S8192x3840, a⟩, ⟨S8192x3840, b⟩] concatenates_S8192x3840_S8192x3840_S16384x3840_d0) bitsLt_bf16_f32

theorem ctxH_at (X w M) (r : Fin 8192) (k : Fin 2048) : ctxH X w M (ix2 r k)
    = normMod (fun l => X (ix2 r l)) (fun l => w (ix1 l)) (fun l => M (ix3 0 1 l)) (fun l => M (ix3 0 0 l)) k := by
  pointwise [ctxH, normMod]
theorem latX_at (Y) (b : Fin 8) (i : Fin 1024) (k : Fin 2048) : latX Y (ix3 b i k) = Y (ix2 ⟨b * 1024 + i, by omega⟩ k) := by
  pointwise [latX]
theorem latH_at (Y w M) (b : Fin 8) (i : Fin 1024) (k : Fin 2048) : latH Y w M (ix3 b i k)
    = normMod (fun l => Y (ix3 b i l)) (fun l => w (ix1 l)) (fun l => M (ix3 ⟨1 + b, by omega⟩ 1 l)) (fun l => M (ix3 ⟨1 + b, by omega⟩ 0 l)) k := by
  pointwise [latH, normMod]
theorem proj_at (H W) (r : Fin 8192) (c : Fin 3840) : proj H W (ix2 r c) = ∑ k, H (ix2 r k) * W (ix2 k c) := by
  pointwise [proj]
theorem both_at (a b) (r : Fin 16384) (c : Fin 3840) : both a b (ix2 r c)
    = if h : (r : ℕ) < 8192 then a (ix2 ⟨r, h⟩ c) else b (ix2 ⟨r - 8192, by omega⟩ c) := by
  pointwise [both]
/-- The latent tokens' rows on top of each other. -/
def flatL (H : FVec Ideal S8x1024x2048 .f32) : FVec Ideal S8192x2048 .f32 := shapeCast _ H shapeCasts_S8x1024x2048_S8192x2048
theorem flatL_at (H) (r : Fin 8192) (k : Fin 2048) : flatL H (ix2 r k) = H (ix3 ⟨r / 1024, by omega⟩ ⟨r % 1024, by omega⟩ k) := by
  pointwise [flatL]

theorem res_at (X Y : FVec Ideal S8192x2048 .f32) (M : FVec Ideal S16x6x2048 .f32) (w : FVec Ideal S2048 .f32) (W : FVec Ideal S2048x3840 .bf16) (r : Fin 16384) (c : Fin 3840) :
    both (proj (ctxH X w M) W) (proj (flatL (latH (latX Y) w M)) W) (ix2 r c) = projAt X Y M w W r c := by
  rw [both_at]
  unfold projAt
  split
  · rename_i h
    rw [proj_at]
    refine Finset.sum_congr rfl fun k _ => congrArg₂ (· * ·) ?_ rfl
    rw [ctxH_at]
    have e : (⟨modRow r, modRow_lt r⟩ : Fin 16) = 0 := Fin.ext (if_pos h)
    have e' : ∀ l, token X Y r l = X (ix2 ⟨r, h⟩ l) := fun l => dif_pos h
    rw [e, funext e']
  · rename_i h
    rw [proj_at]
    refine Finset.sum_congr rfl fun k _ => congrArg₂ (· * ·) ?_ rfl
    rw [flatL_at, latH_at]
    have e : (⟨modRow r, modRow_lt r⟩ : Fin 16) = ⟨1 + ((r : ℕ) - 8192) / 1024, by omega⟩ := Fin.ext (if_neg h)
    have e' : ∀ l, token X Y r l = latX Y (ix3 ⟨((r : ℕ) - 8192) / 1024, by omega⟩ ⟨((r : ℕ) - 8192) % 1024, by omega⟩ l) := fun l => by
      rw [latX_at]
      refine (dif_neg h).trans (congrArg (fun i => Y (ix2 i l)) (Fin.ext ?_))
      show (r : ℕ) - 8192 = ((r : ℕ) - 8192) / 1024 * 1024 + ((r : ℕ) - 8192) % 1024
      omega
    rw [e, funext e']

/-- The reference's result over its arguments. -/
theorem res_5 (X Y : FVec Ideal S8192x2048 .f32) (M : FVec Ideal S16x6x2048 .f32) (w : FVec Ideal S2048 .f32) (W : FVec Ideal S2048x3840 .bf16) :
    both (proj (ctxH X w M) W) (proj (flatL (latH (latX Y) w M)) W) = Cert.Kernel2Ideal.Value.projAll X Y M w W :=
  funext fun j => (congrArg _ (eq_ix2 j)).trans (res_at X Y M w W (j 0) (j 1))

end Cert.Reference2Ideal.Value
-- ==== Proof.FfnRun.lean ====
/-
  The dense feed-forward's body at one grid point: a point below 11 stores one slice of the activations in the scratch, a
  later one reads the whole scratch and stores one block of the output.
-/
module

public import proofs.«01_k».proof.Proof.Gen.Kernel3Ideal.Skeleton
public import proofs.«01_k».proof.Proof.Gen.Kernel3Ideal.Frame
public import Idealize.ShloMosaic.Lib.VecWindow
public import Idealize.ShloMosaic.Lib.WritesUnit
public import Idealize.ShloMosaic.Lib.Pipeline.ValueKit

@[expose] public section

set_option maxRecDepth 16384

noncomputable section

namespace Cert.Kernel3Ideal.Ffn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test for the slice `k`, on the second grid coordinate. -/
abbrev cond (k : ℕ) (i : grid0.Coords) : Prop :=
  (Scalar.cmpi .ne (Scalar.extui (Scalar.cmpi .eq (BitVec.ofNat 32 (i 1).val) (BitVec.ofNat 32 k))) 0#32) = 1#1

/-- The body's test for the storing points. -/
abbrev condUp (i : grid0.Coords) : Prop :=
  (Scalar.cmpi .ne (Scalar.extui (Scalar.cmpi .slt (BitVec.ofNat 32 (i 1).val) 11#32)) 0#32) = 1#1

theorem cond_iff (i : grid0.Coords) : ∀ k : Fin 11, cond k.val i ↔ (i 1).val = k.val := by
  unfold cond
  generalize (i 1) = s
  revert s
  decide +kernel

theorem condUp_iff (i : grid0.Coords) : condUp i ↔ (i 1).val < 11 := by
  unfold condUp
  generalize (i 1) = s
  revert s
  decide +kernel

theorem condDown_iff (i : grid0.Coords) : k0_cond13 i = 1#1 ↔ ¬ (i 1).val < 11 := by
  unfold k0_cond13
  generalize (i 1) = s
  revert s
  decide +kernel

/-- The scratch `d` with slice `s` replaced by `g`. -/
def setSlice (s : ℕ) (d : Vec F S1024x5632 .bf16) (g : Vec F S1024x512 .bf16) : Vec F S1024x5632 .bf16 := fun y =>
  if (y 1).val / 512 = s then g (ix2 (⟨(y 0).val, (y 0).isLt⟩ : Fin 1024) (⟨(y 1).val % 512, Nat.mod_lt _ (by decide)⟩ : Fin 512)) else d y

/-- A store of 512 columns from column `512 * s` on replaces slice `s`. -/
theorem read_slice {arg9 : Memref sig .tc .vmem S1024x5632 .bf16} (harg9 : arg9.IsWhole) (s : ℕ) {off : Fin 2 → ℕ}
    (hoff : off = ![0, 512 * s]) (inb : ∀ a, off a + S1024x512.size a ≤ S1024x5632.size a)
    (w g : Vec F S1024x512 .bf16) (hw : w = g) (d : Vec F S1024x5632 .bf16) :
    arg9.view.read (Elt F) (arg9.view.writes (Elt F) (harg9.unread d) [⟨Rect.unit (s := S1024x5632) off S1024x512.size inb, w⟩])
      = setSlice s d g := by
  subst hw
  funext y
  unfold setSlice
  have h1 : (y 1).val < 5632 := (y 1).isLt
  split
  · next h =>
    refine View.read_writes_cons_unit_of_mem _ _ inb w [] y (ix2 (⟨(y 0).val, (y 0).isLt⟩ : Fin 1024) (⟨(y 1).val % 512, Nat.mod_lt _ (by decide)⟩ : Fin 512)) hoff
      (Fin.forall_fin_two.mpr ⟨?_, ?_⟩)
    · show (y 0).val = 0 + (y 0).val
      omega
    · show (y 1).val = 512 * s + (y 1).val % 512
      omega
  · next h =>
    rw [View.read_writes_cons_unit_of_not_mem _ _ inb w [] y hoff 1 (by
      show (y 1).val < 512 * s ∨ 512 * s + 512 ≤ (y 1).val
      omega), View.writes_nil, harg9.read_unread]

/-- The stored slice, from the blocks that the point reads. -/
theorem pay_slice {arg2 : Memref sig .tc .vmem S1024x2048 .bf16} (harg2 : arg2.IsWhole) {arg3 : Memref sig .tc .vmem S2048x512 .bf16} (harg3 : arg3.IsWhole) {arg4 : Memref sig .tc .vmem S2048x512 .bf16} (harg4 : arg4.IsWhole)
    (x0 : Vec F S1024x2048 .bf16) (x1 x2 : Vec F S2048x512 .bf16) :
    shapeCast S1024x512 (k0_pay7
      (View.readAt (Elt F) arg2.view (Rect.unit (s := S1024x2048) ![0, 0] S1024x2048.size inb_S1024x2048_S1024x2048_0_0).toLoadRect (harg2.unread x0))
      (View.readAt (Elt F) arg3.view (Rect.unit (s := S2048x512) ![0, 0] S2048x512.size inb_S2048x512_S2048x512_0_0).toLoadRect (harg3.unread x1))
      (View.readAt (Elt F) arg4.view (Rect.unit (s := S2048x512) ![0, 0] S2048x512.size inb_S2048x512_S2048x512_0_0).toLoadRect (harg4.unread x2)))
      shapeCasts_S1024x512_S1024x512 = k0_pay7 x0 x1 x2 := by
  rw [shapeCast_self, View.readAt_full, View.readAt_full, View.readAt_full, harg2.read_unread, harg3.read_unread, harg4.read_unread]

set_option maxHeartbeats 1000000 in
/-- The body at a point of the first product: it reads three blocks and replaces one slice of the scratch. -/
theorem store_slice (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S5632x512 .bf16) (harg5 : arg5.IsWhole) (arg6 : Memref sig .tc .vmem S1024x512 .f32) (harg6 : arg6.IsWhole) (arg7 : Memref sig .tc .vmem S1x6x512 .f32) (harg7 : arg7.IsWhole) (arg8 : Memref sig .tc .vmem S1024x512 .f32) (harg8 : arg8.IsWhole) (arg9 : Memref sig .tc .vmem S1024x5632 .bf16) (harg9 : arg9.IsWhole)
    (s : ℕ) (hs : s < 11) (hi : (i 1).val = s) (x0 : Vec F S1024x2048 .bf16) (x1 x2 : Vec F S2048x512 .bf16) (d : Vec F S1024x5632 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg9 fullShare d
            ∗ (iprop(owns (c : Thread nD τ) arg2 fullShare x0 ∗ owns (c : Thread nD τ) arg3 fullShare x1 ∗ owns (c : Thread nD τ) arg4 fullShare x2 ∗ owns (c : Thread nD τ) arg9 fullShare (setSlice s d (k0_pay7 x0 x1 x2))) -∗ K ⟨⟩))
          ⊢ wp frame (wpE (defs₀ (F := F)) Variants.none c none) E (cc0_ffn_dense i arg2 harg2 arg3 harg3 arg4 harg4 arg5 harg5 arg6 harg6 arg7 harg7 arg8 harg8 arg9 harg9) K := by
  intro E K
  have hu : condUp i := (condUp_iff i).mpr (hi ▸ hs)
  have hd : ¬ (k0_cond13 i = 1#1) := fun h => (condDown_iff i).mp h (hi ▸ hs)
  have p0 : cond 0 i ↔ s = 0 := hi ▸ cond_iff i 0
  have p1 : cond 1 i ↔ s = 1 := hi ▸ cond_iff i 1
  have p2 : cond 2 i ↔ s = 2 := hi ▸ cond_iff i 2
  have p3 : cond 3 i ↔ s = 3 := hi ▸ cond_iff i 3
  have p4 : cond 4 i ↔ s = 4 := hi ▸ cond_iff i 4
  have p5 : cond 5 i ↔ s = 5 := hi ▸ cond_iff i 5
  have p6 : cond 6 i ↔ s = 6 := hi ▸ cond_iff i 6
  have p7 : cond 7 i ↔ s = 7 := hi ▸ cond_iff i 7
  have p8 : cond 8 i ↔ s = 8 := hi ▸ cond_iff i 8
  have p9 : cond 9 i ↔ s = 9 := hi ▸ cond_iff i 9
  have p10 : cond 10 i ↔ s = 10 := hi ▸ cond_iff i 10
  simp only [cc0_ffn_dense_eq_skeleton]; unfold cc0_ffn_dense_skel
  simp only [k0_part1_eq_skeleton]
  unfold owns
  iintro ⟨⟨%f0, %hf0, H0⟩, ⟨%f1, %hf1, H1⟩, ⟨%f2, %hf2, H2⟩, ⟨%fs0, %hfs, HS0⟩, Hk⟩
  obtain rfl := harg2.eq_unread hf0; obtain rfl := harg3.eq_unread hf1; obtain rfl := harg4.eq_unread hf2
  obtain rfl := harg9.eq_unread hfs
  clear hi
  have hs' : s = 0 ∨ s = 1 ∨ s = 2 ∨ s = 3 ∨ s = 4 ∨ s = 5 ∨ s = 6 ∨ s = 7 ∨ s = 8 ∨ s = 9 ∨ s = 10 := by omega
  rcases hs' with rfl | rfl | rfl | rfl | rfl | rfl | rfl | rfl | rfl | rfl | rfl
  all_goals
    sl_exec (disch := first | sl_exact hu | sl_exact hd | sl_exact (p0.mpr rfl) | sl_exact (mt p0.mp (by decide)) | sl_exact (p1.mpr rfl) | sl_exact (mt p1.mp (by decide)) | sl_exact (p2.mpr rfl) | sl_exact (mt p2.mp (by decide)) | sl_exact (p3.mpr rfl) | sl_exact (mt p3.mp (by decide)) | sl_exact (p4.mpr rfl) | sl_exact (mt p4.mp (by decide)) | sl_exact (p5.mpr rfl) | sl_exact (mt p5.mp (by decide)) | sl_exact (p6.mpr rfl) | sl_exact (mt p6.mp (by decide)) | sl_exact (p7.mpr rfl) | sl_exact (mt p7.mp (by decide)) | sl_exact (p8.mpr rfl) | sl_exact (mt p8.mp (by decide)) | sl_exact (p9.mpr rfl) | sl_exact (mt p9.mp (by decide)) | sl_exact (p10.mpr rfl) | sl_exact (mt p10.mp (by decide)))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr; swap; · iexact HS0
    ipureintro
    refine read_slice harg9 _ ?_ _ _ _ ?_ d
    · rfl
    · exact pay_slice harg2 harg3 harg4 x0 x1 x2

/-- The row of the modulation that the block takes. -/
def gateRow (x5 : Vec F S1x6x512 .f32) : Vec F S1x1x512 .f32 :=
  View.ld x5 (Rect.unit (s := S1x6x512) ![0, 5, 0] S1x1x512.size inb_S1x6x512_S1x1x512_0_5_0)

/-- The block that a later point stores. -/
def outBlk (d : Vec F S1024x5632 .bf16) (x3 : Vec F S5632x512 .bf16) (x4 : Vec F S1024x512 .f32) (x5 : Vec F S1x6x512 .f32) : Vec F S1024x512 .f32 :=
  k0_pay6 x4 (gateRow x5) d x3

theorem pay_out {arg5 : Memref sig .tc .vmem S5632x512 .bf16} (harg5 : arg5.IsWhole) {arg6 : Memref sig .tc .vmem S1024x512 .f32} (harg6 : arg6.IsWhole) {arg7 : Memref sig .tc .vmem S1x6x512 .f32} (harg7 : arg7.IsWhole) {arg9 : Memref sig .tc .vmem S1024x5632 .bf16} (harg9 : arg9.IsWhole)
    (d : Vec F S1024x5632 .bf16) (x3 : Vec F S5632x512 .bf16) (x4 : Vec F S1024x512 .f32) (x5 : Vec F S1x6x512 .f32) :
    k0_pay6
      (View.readAt (Elt F) arg6.view (Rect.unit (s := S1024x512) ![0, 0] S1024x512.size inb_S1024x512_S1024x512_0_0).toLoadRect (harg6.unread x4))
      (View.readAt (Elt F) arg7.view (Rect.unit (s := S1x6x512) ![0, 5, 0] S1x1x512.size inb_S1x6x512_S1x1x512_0_5_0).toLoadRect (harg7.unread x5))
      (View.readAt (Elt F) arg9.view (Rect.unit (s := S1024x5632) ![0, 0] S1024x5632.size inb_S1024x5632_S1024x5632_0_0).toLoadRect (harg9.unread d))
      (View.readAt (Elt F) arg5.view (Rect.unit (s := S5632x512) ![0, 0] S5632x512.size inb_S5632x512_S5632x512_0_0).toLoadRect (harg5.unread x3))
      = outBlk d x3 x4 x5 := by
  unfold outBlk gateRow
  rw [View.readAt_full, View.readAt_full, View.readAt_full, View.readAt_eq_ld, harg6.read_unread, harg7.read_unread, harg9.read_unread, harg5.read_unread]

set_option maxHeartbeats 1000000 in
/-- The body at a point of the second product. -/
theorem store_out (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S5632x512 .bf16) (harg5 : arg5.IsWhole) (arg6 : Memref sig .tc .vmem S1024x512 .f32) (harg6 : arg6.IsWhole) (arg7 : Memref sig .tc .vmem S1x6x512 .f32) (harg7 : arg7.IsWhole) (arg8 : Memref sig .tc .vmem S1024x512 .f32) (harg8 : arg8.IsWhole) (arg9 : Memref sig .tc .vmem S1024x5632 .bf16) (harg9 : arg9.IsWhole)
    (hi : ¬ (i 1).val < 11) (x3 : Vec F S5632x512 .bf16) (x4 : Vec F S1024x512 .f32) (x5 : Vec F S1x6x512 .f32) (d : Vec F S1024x5632 .bf16) :
      ∀ (E : Set ℕ) (K : PUnit → sProp 𝕄),
        iprop(owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d
            ∗ (iprop(owns (c : Thread nD τ) arg5 fullShare x3 ∗ owns (c : Thread nD τ) arg6 fullShare x4 ∗ owns (c : Thread nD τ) arg7 fullShare x5 ∗ owns (c : Thread nD τ) arg8 fullShare (outBlk d x3 x4 x5) ∗ owns (c : Thread nD τ) arg9 fullShare d) -∗ K ⟨⟩))
          ⊢ wp frame (wpE (defs₀ (F := F)) Variants.none c none) E (cc0_ffn_dense i arg2 harg2 arg3 harg3 arg4 harg4 arg5 harg5 arg6 harg6 arg7 harg7 arg8 harg8 arg9 harg9) K := by
  intro E K
  have hu : ¬ condUp i := fun h => hi ((condUp_iff i).mp h)
  have hd : k0_cond13 i = 1#1 := (condDown_iff i).mpr hi
  simp only [cc0_ffn_dense_eq_skeleton]; unfold cc0_ffn_dense_skel
  unfold owns
  iintro ⟨⟨%f3, %hf3, H3⟩, ⟨%f4, %hf4, H4⟩, ⟨%f5, %hf5, H5⟩, ⟨%d6, %f6, -, H6⟩, ⟨%fs0, %hfs, HS0⟩, Hk⟩
  obtain rfl := harg5.eq_unread hf3; obtain rfl := harg6.eq_unread hf4; obtain rfl := harg7.eq_unread hf5
  obtain rfl := harg9.eq_unread hfs
  sl_exec (disch := first | sl_exact hu | sl_exact hd)
  sl_step
  iapply Hk
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact (View.read_writes_full arg8.view f6 inb_S1024x512_S1024x512_0_0 _ []).trans (pay_out harg5 harg6 harg7 harg9 d x3 x4 x5)
  iexists _; isplitr; · ipureintro; exact harg9.read_unread _
  iexact HS0

end Cert.Kernel3Ideal.Ffn

end
-- ==== Proof.FfnFrame.lean ====
/-
  The dense feed-forward's run: what the scratch holds from point to point, and what every array holds after the run.
-/
module

public import proofs.«01_k».proof.Proof.FfnRun
public import Idealize.ShloMosaic.Lib.Claim

@[expose] public section

set_option maxRecDepth 16384

noncomputable section

namespace Cert.Kernel3Ideal.Ffn

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 240 := lt_of_lt_of_eq t.isLt (show cfg0.N = 240 from N_0)

/-- The point of row block `b` that stores slice `k`. -/
def pt (b k : ℕ) : Fin cfg0.N := ⟨min (b * 15 + k) 239, lt_of_lt_of_eq (by omega : min (b * 15 + k) 239 < 240) N_0.symm⟩

theorem pt_self (t : Fin cfg0.N) : pt (t.val / 15) (t.val % 15) = t := Fin.ext (by
  have := lt_N t
  show min (t.val / 15 * 15 + t.val % 15) 239 = t.val
  omega)

/-- The slice that point `t` stores. -/
def slice (c : Dev nD) (t : Fin cfg0.N) : Vec F S1024x512 .bf16 := k0_pay7 (iblk m c 0 t) (iblk m c 1 t) (iblk m c 2 t)

/-- The activations of row block `b`: every slice as its point stores it. -/
def act (c : Dev nD) (b : ℕ) : Vec F S1024x5632 .bf16 := fun y =>
  slice m c (pt b ((y 1).val / 512)) (ix2 (⟨(y 0).val, (y 0).isLt⟩ : Fin 1024) (⟨(y 1).val % 512, Nat.mod_lt _ (by decide)⟩ : Fin 512))

/-- Before point `t` the scratch holds the slices stored so far. -/
def Filled (c : Dev nD) (t : ℕ) (d : Vec F S1024x5632 .bf16) : Prop :=
  ∀ y : S1024x5632.Idx, (y 1).val / 512 < t % 15 → d y = act m c (t / 15) y

theorem filled_slice (c : Dev nD) (t : Fin cfg0.N) (hs : t.val % 15 < 11) (d : Vec F S1024x5632 .bf16) (h : Filled m c t.val d) :
    Filled m c (t.val + 1) (setSlice (t.val % 15) d (slice m c t)) := by
  intro y hy
  have e1 : (t.val + 1) % 15 = t.val % 15 + 1 := by omega
  have e2 : (t.val + 1) / 15 = t.val / 15 := by omega
  rw [e1] at hy
  rw [e2]
  unfold setSlice
  split
  · next hk =>
    unfold act
    rw [hk, pt_self]
  · next hk => exact h y (by omega)

theorem filled_all (c : Dev nD) (t : ℕ) (hs : ¬ t % 15 < 11) (d : Vec F S1024x5632 .bf16) (h : Filled m c t d) : d = act m c (t / 15) := by
  funext y
  have : (y 1).val < 5632 := (y 1).isLt
  exact h y (by omega)

theorem filled_next (c : Dev nD) (t : ℕ) (hs : ¬ t % 15 < 11) (d : Vec F S1024x5632 .bf16) (h : Filled m c t d) : Filled m c (t + 1) d := by
  intro y hy
  have : (y 1).val < 5632 := (y 1).isLt
  have e2 : (t + 1) / 15 = t / 15 := by omega
  rw [e2]
  exact h y (by omega)

/-- The current staging buffers. -/
abbrev ms0 (t : Fin cfg0.N) : Memref sig .tc .vmem S1024x2048 .bf16 := win0_0.stage (cfg0.slots t 0)
abbrev ms1 (t : Fin cfg0.N) : Memref sig .tc .vmem S2048x512 .bf16 := win0_1.stage (cfg0.slots t 1)
abbrev ms2 (t : Fin cfg0.N) : Memref sig .tc .vmem S2048x512 .bf16 := win0_2.stage (cfg0.slots t 2)
abbrev ms3 (t : Fin cfg0.N) : Memref sig .tc .vmem S5632x512 .bf16 := win0_3.stage (cfg0.slots t 3)
abbrev ms4 (t : Fin cfg0.N) : Memref sig .tc .vmem S1024x512 .f32 := win0_4.stage (cfg0.slots t 4)
abbrev ms5 (t : Fin cfg0.N) : Memref sig .tc .vmem S1x6x512 .f32 := win0_5.stage (cfg0.slots t 5)
abbrev ms6 (t : Fin cfg0.N) : Memref sig .tc .vmem S1024x512 .f32 := win0_6.stage (cfg0.slots t 6)
/-- The scratch. -/
abbrev scM : Memref sig .tc .vmem S1024x5632 .bf16 := Memref.whole cc0_scratch0

/-- The invariant: the scratch at contents filled so far, and the generator register. -/
def inv (c : Dev nD) (t : ℕ) : sProp 𝕄 :=
  iprop((∃ d, ⌜Filled m c t d⌝ ∗ owns (c : Thread nD τ) scM fullShare d) ∗ (∃ r, prngReg c r))

theorem rest_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data: the inputs' buffers at their blocks, the output's at the block that the point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (act m c (t.val / 15)) (iblk m c 3 t) (iblk m c 4 t) (iblk m c 5 t)
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = outBlk (act m c (t.val / 15)) (iblk m c 3 t) (iblk m c 4 t) (iblk m c 5 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- An input's buffer is left at its block. -/
theorem leaves_in (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem coord_val (t : Fin cfg0.N) : (grid0.coords t 1).val = t.val % 15 :=
  (Pipeline.Grid.coords_val (G := grid0) (S := 1) (B := 15) t 1 (by decide) rfl).trans (by rw [Nat.div_one])

theorem idle_out (t : Fin cfg0.N) (hs : t.val % 15 < 11) : cfg0.idle 6 (cfg0.grid.coords t) = true := by
  have hd : ¬ (k0_cond13 (grid0.coords t) = 1#1) := fun h => (condDown_iff _).mp h (by rw [coord_val]; exact hs)
  show (!(k0_cond13 (grid0.coords t) == 1#1)) = true
  simpa using hd

theorem live_out (t : Fin cfg0.N) (hs : ¬ t.val % 15 < 11) : cfg0.idle 6 (cfg0.grid.coords t) = false := by
  have hd : k0_cond13 (grid0.coords t) = 1#1 := (condDown_iff _).mpr (by rw [coord_val]; exact hs)
  show (!(k0_cond13 (grid0.coords t) == 1#1)) = false
  simpa using hd

theorem flush_out : ∀ t : Fin cfg0.N, (cfg0.win 6).flush t = true ↔ ¬ t.val % 15 < 11 :=
  (by decide +kernel : ∀ t : Fin grid0.N, win0_6.flush t = true ↔ ¬ t.val % 15 < 11)

theorem keep_out (t : Fin cfg0.N) (hs : t.val % 15 < 11) : (cfg0.win 6).flush t = false := by
  have := (flush_out t)
  cases h : (cfg0.win 6).flush t
  · rfl
  · exact absurd hs (this.mp h)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.castSucc = inv m c t.val from rfl, show (dats m 0 c).Φ t.succ = inv m c (t.val + 1) from rfl,
    leaves_in m c 0 t rfl, leaves_in m c 1 t rfl, leaves_in m c 2 t rfl, leaves_in m c 3 t rfl, leaves_in m c 4 t rfl, leaves_in m c 5 t rfl,
    after_0, after_1, after_2, after_3, after_4, after_5]
  unfold inv
  by_cases hs : t.val % 15 < 11
  · rw [(dats m 0 c).leavesExact_idle 6 t (idle_out t hs) (keep_out t hs)]
    iintro ⟨⟨⟨%d, %hd, HS⟩, Hg⟩, Ho, ⟨%d0, H0⟩, ⟨%d1, H1⟩, ⟨%d2, H2⟩, ⟨%d3, H3⟩, ⟨%d4, H4⟩, ⟨%d5, H5⟩, H6⟩
    iapply ((store_slice c (grid0.coords t) _ _ _ _ _ _ _ _ _ _ _ _ _ _ _ _ (t.val % 15) hs (coord_val t) (iblk m c 0 t) (iblk m c 1 t) (iblk m c 2 t) d) Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _
        isplitr; swap; · iexact HS
        ipureintro
        exact filled_slice m c t hs d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [leaves_in m c 6 t (live_out t hs), after_6]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((store_out c (grid0.coords t) _ _ _ _ _ _ _ _ _ _ _ _ _ _ _ _ (by rw [coord_val]; exact hs) (iblk m c 3 t) (iblk m c 4 t) (iblk m c 5 t) d) Set.univ _)
    isplitl [H3]; · iexact H3
    isplitl [H4]; · iexact H4
    isplitl [H5]; · iexact H5
    isplitl [H6]; · iexists _; iexact H6
    isplitl [HS]; · iexact HS
    iintro ⟨H3, H4, H5, H6, HS⟩
    isplitl [HS Hg]
    · isplitl [HS]
      · iexists _
        isplitr; swap; · iexact HS
        ipureintro
        exact filled_next m c t.val hs d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [← filled_all m c t.val hs d hd]
    iexact H6

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem inv_in (c : Dev nD) : (Pipeline.ΦA spec0 c : sProp 𝕄) ⊢ inv m c 0 := by
  rw [rest_eq]
  unfold inv
  iintro ⟨⟨%d, H⟩, Hg⟩
  isplitl [H]
  · iexists d
    isplitr; swap; · iexact H
    ipureintro
    intro y hy
    exact absurd hy (Nat.not_lt_zero _)
  iexact Hg

theorem inv_out (c : Dev nD) (t : ℕ) : inv m c t ⊢ (Pipeline.ΦA spec0 c : sProp 𝕄) := by
  rw [rest_eq]
  unfold inv
  iintro ⟨⟨%d, %hd, H⟩, Hg⟩
  isplitl [H]
  · iexists d; iexact H
  iexact Hg

set_option backward.isDefEq.respectTransparency.types false in
set_option maxHeartbeats 800000 in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

/-- The run with the output array named and the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 6, h.2 c⟩)
    (θ_run_and (run_main m ρ) (frame_of m ρ (dats m) (A_eq m) (run_main m ρ)))

end Cert.Kernel3Ideal.Ffn

end
-- ==== Proof.FfnPrinted.lean ====
/- The printed dense feed-forward: no operation was rewritten, so its run is the idealised copy's. -/
module

public import proofs.«01_k».proof.Proof.FfnFrame
public import proofs.«01_k».proof.Proof.Gen.Kernel3.Frame

@[expose] public section

set_option maxRecDepth 16384
noncomputable section
open Idealize.ShloMosaic Idealize.SL.Sem
namespace Cert.Kernel3.Ffn
variable {F : FTy → Type} [FloatOps F]

/-- The two body tables agree. -/
theorem body_eq : @Cert.Kernel3.defs₀ F _ _ = @Cert.Kernel3Ideal.defs₀ F _ _ := by
  unfold Cert.Kernel3.defs₀ Cert.Kernel3Ideal.defs₀
  refine congrArg Defs.onTc (funext fun l => ?_)
  match l with
  | 0 => rfl

/-- The two programs' tables agree. -/
theorem rows_eq : @Cert.Kernel3.defs F _ _ = @Cert.Kernel3Ideal.defs F _ _ :=
  congrArg (Pipeline.defs (Cert.Kernel3Ideal.pcfgs (F := F))) body_eq

variable (m : (ℓ : Loc nD τ sig) → Buf (Elt F) ℓ) (ρ : Dev nD → PrngReg)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := Cert.Kernel3Ideal.Ffn.frame (F := F) m ρ
  rw [← rows_eq] at h
  exact h

end Cert.Kernel3.Ffn

end
-- ==== Proof.FfnValue.lean ====
/- The dense feed-forward: what the kernel's array holds after the run. -/
module

public import proofs.«01_k».proof.Proof.FfnFrame
public import proofs.«01_k».proof.Proof.InProj
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.Kernel3Ideal.Ffn
open Cert.Kernel3Ideal Cert.Kernel3Ideal.Gen
open Cert.Kernel2Ideal.Value (modRow modRow_lt)
variable (m : (ℓ : Loc nD τ sig) → Buf (Elt Ideal) ℓ)

/-- A number times its logistic, as a quotient. -/
def silu (x : EReal) : EReal := Ideal.div x (1 + Ideal.exp (0 - x))

/-- An entry of the gated activations. -/
def hidden (H : FVec Ideal S16384x2048 .bf16) (W1 W3 : FVec Ideal S2048x5632 .bf16) (r : Fin 16384) (k : Fin 5632) : EReal :=
  silu (∑ l, H (ix2 r l) * W1 (ix2 l k)) * ∑ l, H (ix2 r l) * W3 (ix2 l k)

/-- An entry of the result: the token's entry and its modulated feed-forward. -/
def ffnAt (H : FVec Ideal S16384x2048 .bf16) (W1 W3 : FVec Ideal S2048x5632 .bf16) (W2 : FVec Ideal S5632x2048 .bf16)
    (X : FVec Ideal S16384x2048 .f32) (M : FVec Ideal S16x6x2048 .f32) (r : Fin 16384) (c : Fin 2048) : EReal :=
  X (ix2 r c) + M (ix3 (⟨modRow r, modRow_lt r⟩ : Fin 16) 5 c) * ∑ k, hidden H W1 W3 r k * W2 (ix2 k c)

/-- The result of all tokens. -/
def ffnAll (H : FVec Ideal S16384x2048 .bf16) (W1 W3 : FVec Ideal S2048x5632 .bf16) (W2 : FVec Ideal S5632x2048 .bf16)
    (X : FVec Ideal S16384x2048 .f32) (M : FVec Ideal S16x6x2048 .f32) : FVec Ideal S16384x2048 .f32 := fun j => ffnAt H W1 W3 W2 X M (j 0) (j 1)

/-- One entry of a stored slice. -/
theorem pay_at (v6 : FVec Ideal S1024x2048 .bf16) (v7 v15 : FVec Ideal S2048x512 .bf16) (r : Fin 1024) (k : Fin 512) :
    k0_pay7 (F := Ideal) v6 v7 v15 (ix2 r k) = silu (∑ l, v6 (ix2 r l) * v7 (ix2 l k)) * ∑ l, v6 (ix2 r l) * v15 (ix2 l k) := by
  pointwise [k0_pay7, silu]

/-- One entry of an output block. -/
theorem out_at (d : FVec Ideal S1024x5632 .bf16) (x3 : FVec Ideal S5632x512 .bf16) (x4 : FVec Ideal S1024x512 .f32) (x5 : FVec Ideal S1x6x512 .f32)
    (r : Fin 1024) (k : Fin 512) :
    outBlk (F := Ideal) d x3 x4 x5 (ix2 r k) = x4 (ix2 r k) + x5 (ix3 0 5 k) * ∑ l, d (ix2 r l) * x3 (ix2 l k) := by
  pointwise [outBlk, gateRow, k0_pay6]

/-- Every window's block index, in the point's number. -/
theorem idx_val : ∀ t : Fin cfg0.N, win0_0.index t = ![t.val / 15, 0]
    ∧ win0_1.index t = ![0, min (t.val % 15) 10]
    ∧ win0_2.index t = ![0, min (t.val % 15) 10]
    ∧ win0_3.index t = ![0, t.val % 15 - 11]
    ∧ win0_4.index t = ![t.val / 15, t.val % 15 - 11]
    ∧ win0_5.index t = ![if t.val / 15 < 8 then 0 else 1 + (t.val / 15 - 8), 0, t.val % 15 - 11]
    ∧ win0_6.index t = ![t.val / 15, t.val % 15 - 11] :=
  (by decide +kernel : ∀ t : Fin grid0.N, _)

/-- One entry of the scratch's full contents. -/
theorem act_at (c : Dev nD) (b : ℕ) (hb : b < 16) (r : Fin 1024) (k : Fin 5632) (j : Fin 16384) (hj : (j : ℕ) = b * 1024 + r) :
    act m c b (ix2 r k) = hidden (m ((c : Thread nD τ).loc main_arg0)) (m ((c : Thread nD τ).loc main_arg1)) (m ((c : Thread nD τ).loc main_arg2)) j k := by
  have hk : (k : ℕ) < 5632 := k.isLt
  have hp : (pt b ((k : ℕ) / 512)).val = b * 15 + (k : ℕ) / 512 := by
    show min (b * 15 + (k : ℕ) / 512) 239 = _
    omega
  show slice m c (pt b ((k : ℕ) / 512)) (ix2 (⟨r, _⟩ : Fin 1024) (⟨(k : ℕ) % 512, _⟩ : Fin 512)) = _
  generalize pt b ((k : ℕ) / 512) = t at hp
  have e1 : t.val / 15 = b := by omega
  have e2 : min (t.val % 15) 10 = (k : ℕ) / 512 := by omega
  unfold slice hidden
  rw [pay_at]
  have h0 : ∀ l : Fin 2048, iblk m c 0 t (ix2 r l) = m ((c : Thread nD τ).loc main_arg0) (ix2 j l) := fun l => by
    blk_ext [iblk, V, idx_val t]
  have h1 : ∀ (l : Fin 2048) (q : Fin 512), (q : ℕ) = (k : ℕ) % 512 → iblk m c 1 t (ix2 l q) = m ((c : Thread nD τ).loc main_arg1) (ix2 l k) := fun l q hq => by
    blk_ext [iblk, V, idx_val t]
  have h2 : ∀ (l : Fin 2048) (q : Fin 512), (q : ℕ) = (k : ℕ) % 512 → iblk m c 2 t (ix2 l q) = m ((c : Thread nD τ).loc main_arg2) (ix2 l k) := fun l q hq => by
    blk_ext [iblk, V, idx_val t]
  exact congrArg₂ (· * ·) (congrArg silu (Finset.sum_congr rfl fun l _ => congrArg₂ (· * ·) (h0 l) (h1 l _ rfl)))
    (Finset.sum_congr rfl fun l _ => congrArg₂ (· * ·) (h0 l) (h2 l _ rfl))

/-- The result after the run. -/
theorem final_6 (c : Dev nD) : (dats m 0 c).arrAt 6 (cfgs 0).N
    = ffnAll (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht : t.val < 240 := lt_N t
  have hs : ¬ t.val % 15 < 11 := (flush_out t).mp hf
  have e0 : ((((cfg0.win 6).blk t).view.emb y) 0 : ℕ) = t.val / 15 * 1024 + y 0 := by blk_simp [idx_val t]
  have e1 : ((((cfg0.win 6).blk t).view.emb y) 1 : ℕ) = (t.val % 15 - 11) * 512 + y 1 := by blk_simp [idx_val t]
  generalize hj : (((cfg0.win 6).blk t).view.emb y) = j at *
  have hy : (y 0 : ℕ) < 1024 := (y 0).isLt
  have hz : (y 1 : ℕ) < 512 := (y 1).isLt
  blk_simp; rw [after_6]
  rw [eq_ix2 y]
  refine (out_at _ _ _ _ (y 0) (y 1)).trans ?_
  show _ = ffnAt _ _ _ _ _ _ (j 0) (j 1)
  unfold ffnAt
  have eq : (if t.val / 15 < 8 then 0 else 1 + (t.val / 15 - 8)) = modRow (j 0) := by unfold modRow; split <;> split <;> omega
  have h4 : iblk m c 4 t (ix2 (y 0) (y 1)) = m ((c : Thread nD τ).loc main_arg4) (ix2 (j 0) (j 1)) := by
    blk_ext [iblk, V, idx_val t]
  have h5 : ∀ q : Fin 16, (q : ℕ) = (if t.val / 15 < 8 then 0 else 1 + (t.val / 15 - 8)) → iblk m c 5 t (ix3 0 5 (y 1)) = m ((c : Thread nD τ).loc main_arg5) (ix3 q 5 (j 1)) := fun q hq => by
    blk_ext [iblk, V, idx_val t]
  have h3 : ∀ k : Fin 5632, iblk m c 3 t (ix2 k (y 1)) = m ((c : Thread nD τ).loc main_arg3) (ix2 k (j 1)) := fun k => by
    blk_ext [iblk, V, idx_val t]
  exact congrArg₂ (· + ·) h4 (congrArg₂ (· * ·) (h5 ⟨modRow (j 0), modRow_lt (j 0)⟩ eq.symm)
    (Finset.sum_congr rfl fun k _ => congrArg₂ (· * ·) (act_at m c (t.val / 15) (by omega) (y 0) k (j 0) e0) (h3 k)))

end Cert.Kernel3Ideal.Ffn

end
-- ==== Proof.RefFfn.lean ====
/- The reference's dense feed-forward read at an index. -/
module

public import proofs.«01_k».proof.Proof.Gen.Reference3Ideal.Run
public import proofs.«01_k».proof.Proof.FfnValue
public import Idealize.ShloMosaic.Lib.IdealHost

@[expose] public section

set_option maxRecDepth 16384
noncomputable section
open Idealize.ShloMosaic Idealize.ShloMosaic.TcCoe Idealize.SL.Sem
namespace Cert.Reference3Ideal.Value
open Cert.Reference3Ideal Cert.Reference3Ideal.Gen
open Cert.Kernel2Ideal.Value (modRow modRow_lt)
open Cert.Kernel3Ideal.Ffn (silu hidden ffnAt ffnAll)

/-- All tokens' product with a weight of the first layer. -/
def up (H : FVec Ideal S16384x2048 .bf16) (W : FVec Ideal S2048x5632 .bf16) : FVec Ideal S16384x5632 .f32 :=
  Host.dotGeneral dot_S16384x2048_S2048x5632_S16384x5632_1_0_0_1_n_n none (extf .f32 H bitsLt_bf16_f32) (extf .f32 W bitsLt_bf16_f32)

/-- A number times its logistic. -/
def gate (Z : FVec Ideal S16384x5632 .f32) : FVec Ideal S16384x5632 .f32 :=
  mulf Z (Host.divf (broadcastInDim S16384x5632 ![] bcast_S_S16384x5632 (constant S_ .f32 0x3F800000#32))
    (addf (broadcastInDim S16384x5632 ![] bcast_S_S16384x5632 (constant S_ .f32 0x3F800000#32)) (Host.exp (Host.negf Z))))

/-- The feed-forward's output. -/
def down (A : FVec Ideal S16384x5632 .f32) (W2 : FVec Ideal S5632x2048 .bf16) : FVec Ideal S16384x2048 .f32 :=
  Host.dotGeneral dot_S16384x5632_S5632x2048_S16384x2048_1_0_0_1_n_n none A (extf .f32 W2 bitsLt_bf16_f32)

/-- The context tokens' result. -/
def ctxO (X : FVec Ideal S16384x2048 .f32) (M : FVec Ideal S16x6x2048 .f32) (f : FVec Ideal S16384x2048 .f32) : FVec Ideal S8192x2048 .f32 :=
  addf (extractStridedSlice S8192x2048 ![0, 0] X slices_S16384x2048_S8192x2048_0_0)
    (mulf (broadcastInDim S8192x2048 ![0, 1] bcast_S1x2048_S8192x2048_0_1 (broadcastInDim S1x2048 ![1] bcast_S2048_S1x2048_1
        (shapeCast _ (extractStridedSlice S1x1x2048 ![0, 5, 0] M slices_S16x6x2048_S1x1x2048_0_5_0) shapeCasts_S1x1x2048_S2048)))
      (extractStridedSlice S8192x2048 ![0, 0] f slices_S16384x2048_S8192x2048_0_0))

/-- The latent tokens by request and position. -/
def latF (f : FVec Ideal S16384x2048 .f32) : FVec Ideal S8x1024x2048 .f32 :=
  shapeCast _ (extractStridedSlice S8192x2048 ![8192, 0] f slices_S16384x2048_S8192x2048_8192_0) shapeCasts_S8192x2048_S8x1024x2048

/-- The latent tokens' result. -/
def latO (X : FVec Ideal S8x1024x2048 .f32) (M : FVec Ideal S16x6x2048 .f32) (f : FVec Ideal S8x1024x2048 .f32) : FVec Ideal S8x1024x2048 .f32 :=
  addf X (mulf (broadcastInDim S8x1024x2048 ![0, 1, 2] bcast_S8x1x2048_S8x1024x2048_0_1_2 (broadcastInDim S8x1x2048 ![0, 2] bcast_S8x2048_S8x1x2048_0_2
    (shapeCast _ (extractStridedSlice S8x1x2048 ![1, 5, 0] M slices_S16x6x2048_S8x1x2048_1_5_0) shapeCasts_S8x1x2048_S8x2048))) f)

/-- The latent tokens' rows on top of each other. -/
def flatO (H : FVec Ideal S8x1024x2048 .f32) : FVec Ideal S8192x2048 .f32 := shapeCast _ H shapeCasts_S8x1024x2048_S8192x2048

/-- Both groups' tokens, the context on top. -/
def stack (a b : FVec Ideal S8192x2048 .f32) : FVec Ideal S16384x2048 .f32 :=
  concatenate S16384x2048 0 [⟨S8192x2048, a⟩, ⟨S8192x2048, b⟩] concatenates_S8192x2048_S8192x2048_S16384x2048_d0

theorem exp_nonneg (x : EReal) : 0 ≤ Ideal.exp x := by
  induction x using EReal.rec with
  | bot => exact le_rfl
  | top => exact le_top
  | coe r => exact EReal.coe_nonneg.mpr (Real.exp_pos r).le

/-- The logistic's product is the quotient: the divisor is at least one. -/
theorem mul_logistic (x : EReal) : x * Ideal.div 1 (1 + Ideal.exp (-x)) = silu x := by
  have h : (1 : EReal) + Ideal.exp (-x) ≠ 0 := ne_of_gt (lt_of_lt_of_le zero_lt_one (le_add_of_nonneg_right (exp_nonneg _)))
  unfold silu
  rw [zero_sub]
  exact Ideal.mul_one_div h

theorem up_at (H W) (r : Fin 16384) (k : Fin 5632) : up H W (ix2 r k) = ∑ l, H (ix2 r l) * W (ix2 l k) := by
  pointwise [up]
theorem gate_at (Z) (r : Fin 16384) (k : Fin 5632) : gate Z (ix2 r k) = silu (Z (ix2 r k)) := by
  refine Eq.trans ?_ (mul_logistic _)
  pointwise [gate]
theorem down_at (A W2) (r : Fin 16384) (c : Fin 2048) : down A W2 (ix2 r c) = ∑ k, A (ix2 r k) * W2 (ix2 k c) := by
  pointwise [down]
theorem ctxO_at (X M f) (r : Fin 8192) (c : Fin 2048) : ctxO X M f (ix2 r c)
    = X (ix2 ⟨r, by omega⟩ c) + M (ix3 0 5 c) * f (ix2 ⟨r, by omega⟩ c) := by
  pointwise [ctxO]
theorem latF_at (f) (b : Fin 8) (i : Fin 1024) (c : Fin 2048) : latF f (ix3 b i c) = f (ix2 ⟨8192 + (b * 1024 + i), by omega⟩ c) := by
  pointwise [latF]
theorem latO_at (X M f) (b : Fin 8) (i : Fin 1024) (c : Fin 2048) : latO X M f (ix3 b i c)
    = X (ix3 b i c) + M (ix3 ⟨1 + b, by omega⟩ 5 c) * f (ix3 b i c) := by
  pointwise [latO]
theorem flatO_at (H) (r : Fin 8192) (k : Fin 2048) : flatO H (ix2 r k) = H (ix3 ⟨r / 1024, by omega⟩ ⟨r % 1024, by omega⟩ k) := by
  pointwise [flatO]
theorem stack_at (a b) (r : Fin 16384) (c : Fin 2048) : stack a b (ix2 r c)
    = if h : (r : ℕ) < 8192 then a (ix2 ⟨r, h⟩ c) else b (ix2 ⟨r - 8192, by omega⟩ c) := by
  pointwise [stack]

/-- An entry of the feed-forward's output. -/
theorem ffn_at (H W1 W3 W2) (r : Fin 16384) (c : Fin 2048) :
    down (mulf (gate (up H W1)) (up H W3)) W2 (ix2 r c) = ∑ k, hidden H W1 W3 r k * W2 (ix2 k c) := by
  rw [down_at]
  refine Finset.sum_congr rfl fun k _ => congrArg₂ (· * ·) ?_ rfl
  show gate (up H W1) (ix2 r k) * up H W3 (ix2 r k) = _
  rw [gate_at, up_at, up_at]
  rfl

/-- Both groups' results, an entry from the token's own and its request's modulation. -/
theorem out_at (X M f) (r : Fin 16384) (c : Fin 2048) :
    stack (ctxO X M f) (flatO (latO (latF X) M (latF f))) (ix2 r c) = X (ix2 r c) + M (ix3 ⟨modRow r, modRow_lt r⟩ 5 c) * f (ix2 r c) := by
  rw [stack_at]
  split
  · rename_i h
    rw [ctxO_at, show (⟨modRow r, modRow_lt r⟩ : Fin 16) = 0 from Fin.ext (if_pos h)]
  · rename_i h
    have hr : (r : ℕ) < 16384 := r.isLt
    have e : (⟨8192 + (((r : ℕ) - 8192) / 1024 * 1024 + ((r : ℕ) - 8192) % 1024), by omega⟩ : Fin 16384) = r := Fin.ext (by
      show 8192 + (((r : ℕ) - 8192) / 1024 * 1024 + ((r : ℕ) - 8192) % 1024) = r
      omega)
    rw [flatO_at, latO_at, latF_at, latF_at,
      show (⟨modRow r, modRow_lt r⟩ : Fin 16) = ⟨1 + ((r : ℕ) - 8192) / 1024, by omega⟩ from Fin.ext (if_neg h)]
    exact congrArg (fun q => X (ix2 q c) + M (ix3 ⟨1 + ((r : ℕ) - 8192) / 1024, by omega⟩ 5 c) * f (ix2 q c)) e

/-- The reference's result over its arguments. -/
def res (H : FVec Ideal S16384x2048 .bf16) (W1 W3 : FVec Ideal S2048x5632 .bf16) (W2 : FVec Ideal S5632x2048 .bf16)
    (X : FVec Ideal S16384x2048 .f32) (M : FVec Ideal S16x6x2048 .f32) : FVec Ideal S16384x2048 .f32 :=
  stack (ctxO X M (down (mulf (gate (up H W1)) (up H W3)) W2)) (flatO (latO (latF X) M (latF (down (mulf (gate (up H W1)) (up H W3)) W2))))

theorem res_at (H W1 W3 W2 X M) (r : Fin 16384) (c : Fin 2048) : res H W1 W3 W2 X M (ix2 r c) = ffnAt H W1 W3 W2 X M r c := by
  unfold res
  rw [out_at, ffn_at]
  rfl

theorem res_6 (H W1 W3 W2 X M) : res H W1 W3 W2 X M = ffnAll H W1 W3 W2 X M :=
  funext fun j => (congrArg _ (eq_ix2 j)).trans (res_at H W1 W3 W2 X M (j 0) (j 1))

end Cert.Reference3Ideal.Value

end
-- ==== Proof.OutProj.lean ====
/- The output projection: what the kernel's two arrays hold after the run. -/
module

public import proofs.«01_k».proof.Proof.Gen.Kernel4Ideal.Value
public import proofs.«01_k».proof.Proof.InProj

@[expose] public section

set_option maxRecDepth 16384
noncomputable section
open Idealize.ShloMosaic Idealize.ShloMosaic.TcCoe Idealize.SL.Sem
open Idealize.ShloMosaic.Pipeline (Dat)
namespace Cert.Kernel4Ideal.Value
open Cert.Kernel4Ideal Cert.Kernel4Ideal.Gen
open Cert.Kernel2Ideal.Value (normMod modRow modRow_lt)
variable (m : (ℓ : Loc nD τ sig) → Buf (Elt Ideal) ℓ)

/-- A token's entry: of the first group or of the second. -/
def pick (a b : Fin 8192 → EReal) (r : Fin 16384) : EReal := if h : (r : ℕ) < 8192 then a ⟨r, h⟩ else b ⟨r - 8192, by omega⟩

/-- An entry of the residual: the token's, and the gate times the product of the three mixers' outputs with the weight. -/
def resAt (A B : FVec Ideal S8192x512 .bf16) (C D : FVec Ideal S8192x512 .bf16) (P Q : FVec Ideal S8192x1024 .bf16) (W : FVec Ideal S2048x2048 .bf16)
    (X Y : FVec Ideal S8192x2048 .f32) (M : FVec Ideal S16x6x2048 .f32) (r : Fin 16384) (c : Fin 2048) : EReal :=
  pick (fun i => X (ix2 i c)) (fun i => Y (ix2 i c)) r + M (ix3 (⟨modRow r, modRow_lt r⟩ : Fin 16) 2 c)
    * ((∑ k : Fin 512, pick (fun i => A (ix2 i k)) (fun i => B (ix2 i k)) r * W (ix2 (⟨k, by omega⟩ : Fin 2048) c))
      + (∑ k : Fin 512, pick (fun i => C (ix2 i k)) (fun i => D (ix2 i k)) r * W (ix2 (⟨512 + k, by omega⟩ : Fin 2048) c))
      + ∑ k : Fin 1024, pick (fun i => P (ix2 i k)) (fun i => Q (ix2 i k)) r * W (ix2 (⟨1024 + k, by omega⟩ : Fin 2048) c))

/-- An entry of the normed tokens. -/
def hidAt (A B : FVec Ideal S8192x512 .bf16) (C D : FVec Ideal S8192x512 .bf16) (P Q : FVec Ideal S8192x1024 .bf16) (W : FVec Ideal S2048x2048 .bf16)
    (X Y : FVec Ideal S8192x2048 .f32) (M : FVec Ideal S16x6x2048 .f32) (w : FVec Ideal S2048 .f32) (r : Fin 16384) (c : Fin 2048) : EReal :=
  normMod (resAt A B C D P Q W X Y M r) (fun l => w (ix1 l)) (fun l => M (ix3 (⟨modRow r, modRow_lt r⟩ : Fin 16) 4 l))
    (fun l => M (ix3 (⟨modRow r, modRow_lt r⟩ : Fin 16) 3 l)) c

/-- One entry of the body's first store. -/
theorem pay1_at (v19 : FVec Ideal S512x2048 .f32) (v23 : FVec Ideal S512x2048 .f32) (v26 : FVec Ideal S512x2048 .f32) (r : Fin 512) (c : Fin 2048) :
    k0_pay1 (F := Ideal) v19 v23 v26 (ix2 r c) = v23 (ix2 r c) + v26 (ix2 r c) * v19 (ix2 r c) := by
  pointwise [k0_pay1]

/-- One entry of the body's second store. -/
theorem pay2_at (v19 v23 v26 : FVec Ideal S512x2048 .f32) (v30 : FVec Ideal S1x2048 .f32) (v32 v34 : FVec Ideal S1x1x2048 .f32) (r : Fin 512) (c : Fin 2048) :
    k0_pay2 (F := Ideal) v19 v23 v26 v30 v32 v34 (ix2 r c)
      = normMod (fun l => k0_pay1 (F := Ideal) v19 v23 v26 (ix2 r l)) (fun l => v30 (ix2 0 l)) (fun l => v32 (ix3 0 0 l)) (fun l => v34 (ix3 0 0 l)) c := by
  unfold k0_pay2
  dsimp only
  generalize k0_pay1 (F := Ideal) v19 v23 v26 = x
  pointwise [normMod]

/-- One entry of the body's product. -/
theorem pay3_at (i : grid0.Coords) (v1 v2 v5 v6 : FVec Ideal S512x512 .bf16) (v9 v10 : FVec Ideal S512x1024 .bf16) (v12 v14 : FVec Ideal S512x2048 .bf16)
    (v17 : FVec Ideal S1024x2048 .bf16) (va vb : FVec Ideal S512x512 .bf16) (vc : FVec Ideal S512x1024 .bf16)
    (ha : Scalar.select (Scalar.cmpi .slt (BitVec.ofNat 32 (i 0).val) 16#32) v1 v2 = va)
    (hb : Scalar.select (Scalar.cmpi .slt (BitVec.ofNat 32 (i 0).val) 16#32) v5 v6 = vb)
    (hc : Scalar.select (Scalar.cmpi .slt (BitVec.ofNat 32 (i 0).val) 16#32) v9 v10 = vc) (r : Fin 512) (c : Fin 2048) :
    k0_pay3 (F := Ideal) i v1 v2 v5 v6 v9 v10 v12 v14 v17 (ix2 r c)
      = (∑ k, va (ix2 r k) * v12 (ix2 k c)) + (∑ k, vb (ix2 r k) * v14 (ix2 k c)) + ∑ k, vc (ix2 r k) * v17 (ix2 k c) := by
  unfold k0_pay3
  dsimp only
  rw [ha, hb, hc]
  pointwise

/-- Every window's block index, in the point's number. -/
theorem idx_val : ∀ t : Fin cfg0.N, win0_0.index t = ![min t.val 15, 0]
    ∧ win0_1.index t = ![t.val - 16, 0]
    ∧ win0_2.index t = ![min t.val 15, 0]
    ∧ win0_3.index t = ![t.val - 16, 0]
    ∧ win0_4.index t = ![min t.val 15, 0]
    ∧ win0_5.index t = ![t.val - 16, 0]
    ∧ win0_6.index t = ![0, 0]
    ∧ win0_7.index t = ![min t.val 15, 0]
    ∧ win0_8.index t = ![t.val - 16, 0]
    ∧ win0_9.index t = ![if t.val < 16 then 0 else 1 + (t.val - 16) / 2, 0, 0]
    ∧ win0_10.index t = ![0, 0]
    ∧ win0_11.index t = ![t.val, 0]
    ∧ win0_12.index t = ![t.val, 0]
    ∧ Scalar.cmpi .slt (BitVec.ofNat 32 ((grid0.coords t) 0).val) 16#32 = if t.val < 16 then 1#1 else 0#1 :=
  (by decide +kernel : ∀ t : Fin grid0.N, _)

/-- The test of the point for the first group. -/
abbrev firstGroup (t : Fin cfg0.N) : BitVec 1 := Scalar.cmpi .slt (BitVec.ofNat 32 ((grid0.coords t) 0).val) 16#32

theorem firstGroup_eq (t : Fin cfg0.N) : firstGroup t = if t.val < 16 then 1#1 else 0#1 := (idx_val t).2.2.2.2.2.2.2.2.2.2.2.2.2

/-- A row of the block picked is the token's, given the rows of either block. -/
theorem picked {ι : Type} (t : Fin cfg0.N) (u v : ι → EReal) (x : ι) (a b : Fin 8192 → EReal) (r : Fin 512) (j : Fin 16384)
    (hj : (j : ℕ) = t.val * 512 + r) (hu : t.val < 16 → ∀ q : Fin 8192, (q : ℕ) = t.val * 512 + r → u x = a q)
    (hv : ¬ t.val < 16 → ∀ q : Fin 8192, (q : ℕ) = (t.val - 16) * 512 + r → v x = b q) : Scalar.select (firstGroup t) u v x = pick a b j := by
  rw [firstGroup_eq]
  unfold pick
  by_cases h : t.val < 16
  · rw [if_pos h, dif_pos (by omega)]
    exact hu h _ hj
  · rw [if_neg h, dif_neg (by omega)]
    exact hv h _ (by show (j : ℕ) - 8192 = _; omega)

theorem gla_at (c : Dev nD) (t : Fin cfg0.N) (r : Fin 512) (j : Fin 16384) (hj : (j : ℕ) = t.val * 512 + r) (l : Fin 512) :
    Scalar.select (firstGroup t) (iblk m c 0 t) (iblk m c 1 t) (ix2 r l)
      = pick (fun i => m ((c : Thread nD τ).loc main_arg0) (ix2 i l)) (fun i => m ((c : Thread nD τ).loc main_arg1) (ix2 i l)) j := by
  have ht : t.val < 32 := lt_of_lt_of_eq t.isLt N_0
  refine picked (ι := S512x512.Idx) t (iblk m c 0 t) (iblk m c 1 t) _ _ _ r j hj (fun h q hq => ?_) fun h q hq => ?_ <;> blk_ext [iblk, V, idx_val t]
theorem fft_at (c : Dev nD) (t : Fin cfg0.N) (r : Fin 512) (j : Fin 16384) (hj : (j : ℕ) = t.val * 512 + r) (l : Fin 512) :
    Scalar.select (firstGroup t) (iblk m c 2 t) (iblk m c 3 t) (ix2 r l)
      = pick (fun i => m ((c : Thread nD τ).loc main_arg2) (ix2 i l)) (fun i => m ((c : Thread nD τ).loc main_arg3) (ix2 i l)) j := by
  have ht : t.val < 32 := lt_of_lt_of_eq t.isLt N_0
  refine picked (ι := S512x512.Idx) t (iblk m c 2 t) (iblk m c 3 t) _ _ _ r j hj (fun h q hq => ?_) fun h q hq => ?_ <;> blk_ext [iblk, V, idx_val t]
theorem att_at (c : Dev nD) (t : Fin cfg0.N) (r : Fin 512) (j : Fin 16384) (hj : (j : ℕ) = t.val * 512 + r) (l : Fin 1024) :
    Scalar.select (firstGroup t) (iblk m c 4 t) (iblk m c 5 t) (ix2 r l)
      = pick (fun i => m ((c : Thread nD τ).loc main_arg4) (ix2 i l)) (fun i => m ((c : Thread nD τ).loc main_arg5) (ix2 i l)) j := by
  have ht : t.val < 32 := lt_of_lt_of_eq t.isLt N_0
  refine picked (ι := S512x1024.Idx) t (iblk m c 4 t) (iblk m c 5 t) _ _ _ r j hj (fun h q hq => ?_) fun h q hq => ?_ <;> blk_ext [iblk, V, idx_val t]
theorem tok_at (c : Dev nD) (t : Fin cfg0.N) (r : Fin 512) (j : Fin 16384) (hj : (j : ℕ) = t.val * 512 + r) (l : Fin 2048) :
    Scalar.select (firstGroup t) (iblk m c 7 t) (iblk m c 8 t) (ix2 r l)
      = pick (fun i => m ((c : Thread nD τ).loc main_arg7) (ix2 i l)) (fun i => m ((c : Thread nD τ).loc main_arg8) (ix2 i l)) j := by
  have ht : t.val < 32 := lt_of_lt_of_eq t.isLt N_0
  refine picked (ι := S512x2048.Idx) t (iblk m c 7 t) (iblk m c 8 t) _ _ _ r j hj (fun h q hq => ?_) fun h q hq => ?_ <;> blk_ext [iblk, V, idx_val t]

theorem weight_at (c : Dev nD) (t : Fin cfg0.N) (k l : Fin 2048) : iblk m c 6 t (ix2 k l) = m ((c : Thread nD τ).loc main_arg6) (ix2 k l) := by
  blk_ext [iblk, V, idx_val t]
theorem norm_at (c : Dev nD) (t : Fin cfg0.N) (l : Fin 2048) : iblk m c 10 t (ix2 0 l) = m ((c : Thread nD τ).loc main_arg10) (ix1 l) := by
  blk_point [iblk, idx_val t]
theorem mod_at (c : Dev nD) (t : Fin cfg0.N) (q : Fin 16) (hq : (q : ℕ) = if t.val < 16 then 0 else 1 + (t.val - 16) / 2) (k : Fin 6) (l : Fin 2048) :
    iblk m c 9 t (ix3 0 k l) = m ((c : Thread nD τ).loc main_arg9) (ix3 q k l) := by
  blk_ext [iblk, V, idx_val t]

theorem modRow_eq (t : Fin cfg0.N) (r : Fin 512) (j : Fin 16384) (hj : (j : ℕ) = t.val * 512 + r) :
    ((⟨modRow j, modRow_lt j⟩ : Fin 16) : ℕ) = if t.val < 16 then 0 else 1 + (t.val - 16) / 2 := by
  show modRow j = _
  unfold modRow; split <;> split <;> omega

theorem ld2 (v : Vec Ideal S2048x2048 .bf16) (k : Fin 512) (l : Fin 2048) : View.ld v r0_2 (ix2 k l) = v (ix2 (⟨k, by omega⟩ : Fin 2048) l) := by pointwise
theorem ld3 (v : Vec Ideal S2048x2048 .bf16) (k : Fin 512) (l : Fin 2048) : View.ld v r0_3 (ix2 k l) = v (ix2 (⟨512 + k, by omega⟩ : Fin 2048) l) := by pointwise
theorem ld4 (v : Vec Ideal S2048x2048 .bf16) (k : Fin 1024) (l : Fin 2048) : View.ld v r0_4 (ix2 k l) = v (ix2 (⟨1024 + k, by omega⟩ : Fin 2048) l) := by pointwise
theorem ld6 (v : Vec Ideal S1x6x2048 .f32) (l : Fin 2048) : View.ld v r0_6 (ix3 0 0 l) = v (ix3 0 2 l) := by pointwise
theorem ld8 (v : Vec Ideal S1x6x2048 .f32) (l : Fin 2048) : View.ld v r0_8 (ix3 0 0 l) = v (ix3 0 4 l) := by pointwise
theorem ld9 (v : Vec Ideal S1x6x2048 .f32) (l : Fin 2048) : View.ld v r0_9 (ix3 0 0 l) = v (ix3 0 3 l) := by pointwise

/-- The residual of all tokens. -/
def resAll (A B : FVec Ideal S8192x512 .bf16) (C D : FVec Ideal S8192x512 .bf16) (P Q : FVec Ideal S8192x1024 .bf16) (W : FVec Ideal S2048x2048 .bf16)
    (X Y : FVec Ideal S8192x2048 .f32) (M : FVec Ideal S16x6x2048 .f32) : FVec Ideal S16384x2048 .f32 := fun j => resAt A B C D P Q W X Y M (j 0) (j 1)

/-- The normed tokens, all of them. -/
def hidAll (A B : FVec Ideal S8192x512 .bf16) (C D : FVec Ideal S8192x512 .bf16) (P Q : FVec Ideal S8192x1024 .bf16) (W : FVec Ideal S2048x2048 .bf16)
    (X Y : FVec Ideal S8192x2048 .f32) (M : FVec Ideal S16x6x2048 .f32) (w : FVec Ideal S2048 .f32) : FVec Ideal S16384x2048 .bf16 :=
  fun j => hidAt A B C D P Q W X Y M w (j 0) (j 1)

/-- What a point stores first, entry by entry. -/
theorem store_at (c : Dev nD) (t : Fin cfg0.N) (r : Fin 512) (j : Fin 16384) (hj : (j : ℕ) = t.val * 512 + r) (l : Fin 2048) :
    k0_pay1 (F := Ideal)
      (k0_pay6 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
      (k0_pay7 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t))
      (k0_pay8 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r l)
      = resAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) j l := by
  rw [pay1_at]
  unfold resAt k0_pay6 k0_pay7 k0_pay8
  refine congrArg₂ (· + ·) ?_ (congrArg₂ (· * ·) ?_ ?_)
  · frame_out
    have e : k0_pay4 (F := Ideal) (grid0.coords t) (iblk m c 7 t) (iblk m c 8 t) (ix2 r l)
        = Scalar.select (firstGroup t) (iblk m c 7 t) (iblk m c 8 t) (ix2 r l) := rfl
    exact e.trans (tok_at m c t r j hj l)
  · have e : ∀ v, k0_pay5 (F := Ideal) v (ix2 r l) = v (ix3 0 0 l) := fun v => by pointwise [k0_pay5]
    rw [e, ld6]
    exact mod_at m c t _ (modRow_eq t r j hj) 2 l
  · frame_out
    refine (pay3_at _ _ _ _ _ _ _ _ _ _ _ _ _ rfl rfl rfl r l).trans ?_
    refine congrArg₂ (· + ·) (congrArg₂ (· + ·) ?_ ?_) ?_
    · exact Finset.sum_congr rfl fun k _ => congrArg₂ (· * ·) (gla_at m c t r j hj k) ((ld2 _ k l).trans (weight_at m c t _ l))
    · exact Finset.sum_congr rfl fun k _ => congrArg₂ (· * ·) (fft_at m c t r j hj k) ((ld3 _ k l).trans (weight_at m c t _ l))
    · exact Finset.sum_congr rfl fun k _ => congrArg₂ (· * ·) (att_at m c t r j hj k) ((ld4 _ k l).trans (weight_at m c t _ l))

/-- The residual after the run. -/
theorem final_11 (c : Dev nD) : (dats m 0 c).arrAt 11 (cfgs 0).N
    = resAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t hf y => ?_
  have ht : t.val < 32 := lt_of_lt_of_eq t.isLt N_0
  have e0 : ((((cfg0.win 11).blk t).view.emb y) 0 : ℕ) = t.val * 512 + y 0 := by blk_simp [idx_val t]
  have e1 : ((((cfg0.win 11).blk t).view.emb y) 1 : ℕ) = y 1 := by blk_simp [idx_val t]
  generalize hj : (((cfg0.win 11).blk t).view.emb y) = j at *
  have hy : (y 0 : ℕ) < 512 := (y 0).isLt
  blk_simp; rw [after0_11]; unfold Gen.out0_11; frame_out
  rw [eq_ix2 y]
  refine (store_at m c t (y 0) (j 0) e0 (y 1)).trans ?_
  show _ = resAt _ _ _ _ _ _ _ _ _ _ (j 0) (j 1)
  exact congrArg _ (Fin.ext e1.symm)

/-- The normed tokens after the run. -/
theorem final_12 (c : Dev nD) : (dats m 0 c).arrAt 12 (cfgs 0).N
    = hidAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  have ht : t.val < 32 := lt_of_lt_of_eq t.isLt N_0
  have e0 : ((((cfg0.win 12).blk t).view.emb y) 0 : ℕ) = t.val * 512 + y 0 := by blk_simp [idx_val t]
  have e1 : ((((cfg0.win 12).blk t).view.emb y) 1 : ℕ) = y 1 := by blk_simp [idx_val t]
  generalize hj : (((cfg0.win 12).blk t).view.emb y) = j at *
  have hy : (y 0 : ℕ) < 512 := (y 0).isLt
  blk_simp; rw [after0_12]; unfold Gen.out0_12; frame_out
  rw [eq_ix2 y]
  refine (pay2_at _ _ _ _ _ _ (y 0) (y 1)).trans ?_
  show _ = hidAt _ _ _ _ _ _ _ _ _ _ _ (j 0) (j 1)
  unfold hidAt
  have q1 := fun l => store_at m c t (y 0) (j 0) e0 l
  have q8 : ∀ l, View.ld (iblk m c 9 t) r0_8 (ix3 0 0 l) = m ((c : Thread nD τ).loc main_arg9) (ix3 ⟨modRow (j 0), modRow_lt (j 0)⟩ 4 l) := fun l =>
    (ld8 _ l).trans (mod_at m c t _ (modRow_eq t (y 0) (j 0) e0) 4 l)
  have q9 : ∀ l, View.ld (iblk m c 9 t) r0_9 (ix3 0 0 l) = m ((c : Thread nD τ).loc main_arg9) (ix3 ⟨modRow (j 0), modRow_lt (j 0)⟩ 3 l) := fun l =>
    (ld9 _ l).trans (mod_at m c t _ (modRow_eq t (y 0) (j 0) e0) 3 l)
  rw [funext q1, funext (norm_at m c t), funext q8, funext q9]
  exact congrArg _ (Fin.ext e1.symm)

end Cert.Kernel4Ideal.Value
-- ==== Proof.RefOut.lean ====
/- The reference's output projection read at an index. -/
module

public import proofs.«01_k».proof.Proof.Gen.Reference4Ideal.Run
public import proofs.«01_k».proof.Proof.OutProj

@[expose] public section

set_option maxRecDepth 16384
noncomputable section
open Idealize.ShloMosaic Idealize.ShloMosaic.TcCoe Idealize.SL.Sem
namespace Cert.Reference4Ideal.Value
open Cert.Reference4Ideal Cert.Reference4Ideal.Gen
open Cert.Kernel2Ideal.Value (normMod modRow modRow_lt)
open Cert.Kernel4Ideal.Value (pick resAt hidAt resAll hidAll)

/-- The three mixers' outputs side by side. -/
def mix (A C : FVec Ideal S8192x512 .bf16) (P : FVec Ideal S8192x1024 .bf16) : FVec Ideal S8192x2048 .bf16 :=
  concatenate S8192x2048 1 [⟨S8192x512, A⟩, ⟨S8192x512, C⟩, ⟨S8192x1024, P⟩] concatenates_S8192x512_S8192x512_S8192x1024_S8192x2048_d1

/-- A group's product with the weight. -/
def proj (H : FVec Ideal S8192x2048 .bf16) (W : FVec Ideal S2048x2048 .bf16) : FVec Ideal S8192x2048 .f32 :=
  Host.dotGeneral dot_S8192x2048_S2048x2048_S8192x2048_1_0_0_1_n_n none (extf .f32 H bitsLt_bf16_f32) (extf .f32 W bitsLt_bf16_f32)

/-- The context tokens' residual. -/
def ctxX (X : FVec Ideal S8192x2048 .f32) (M : FVec Ideal S16x6x2048 .f32) (p : FVec Ideal S8192x2048 .f32) : FVec Ideal S8192x2048 .f32 :=
  addf X (mulf (broadcastInDim S8192x2048 ![0, 1] bcast_S1x2048_S8192x2048_0_1 (broadcastInDim S1x2048 ![1] bcast_S2048_S1x2048_1
    (shapeCast _ (extractStridedSlice S1x1x2048 ![0, 2, 0] M slices_S16x6x2048_S1x1x2048_0_2_0) shapeCasts_S1x1x2048_S2048))) p)

/-- A group's rows by request and position. -/
def reqs (Y : FVec Ideal S8192x2048 .f32) : FVec Ideal S8x1024x2048 .f32 := shapeCast _ Y shapeCasts_S8192x2048_S8x1024x2048

/-- The latent tokens' modulations. -/
def latM (M : FVec Ideal S16x6x2048 .f32) : FVec Ideal S8x6x2048 .f32 := extractStridedSlice S8x6x2048 ![1, 0, 0] M slices_S16x6x2048_S8x6x2048_1_0_0

/-- The latent tokens' residual. -/
def latX (Y : FVec Ideal S8x1024x2048 .f32) (N : FVec Ideal S8x6x2048 .f32) (p : FVec Ideal S8x1024x2048 .f32) : FVec Ideal S8x1024x2048 .f32 :=
  addf Y (mulf (broadcastInDim S8x1024x2048 ![0, 1, 2] bcast_S8x1x2048_S8x1024x2048_0_1_2 (broadcastInDim S8x1x2048 ![0, 2] bcast_S8x2048_S8x1x2048_0_2
    (shapeCast _ (extractStridedSlice S8x1x2048 ![0, 2, 0] N slices_S8x6x2048_S8x1x2048_0_2_0) shapeCasts_S8x1x2048_S8x2048))) p)

/-- The context tokens' modulated norm. -/
def ctxH (X : FVec Ideal S8192x2048 .f32) (w : FVec Ideal S2048 .f32) (M : FVec Ideal S16x6x2048 .f32) : FVec Ideal S8192x2048 .f32 :=
  addf (mulf (mulf (mulf X (broadcastInDim S8192x2048 ![0, 1] bcast_S8192x1_S8192x2048_0_1 (Host.rsqrt (addf (Host.divf
      (broadcastInDim S8192x1 ![0] bcast_S8192_S8192x1_0 (Host.reduceAdd (mulf X X) (constant S_ .f32 0x00000000#32) reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 w)))
    (broadcastInDim S8192x2048 ![0, 1] bcast_S1x2048_S8192x2048_0_1 (broadcastInDim S1x2048 ![1] bcast_S2048_S1x2048_1
      (addf (broadcastInDim S2048 ![] bcast_S_S2048 (constant S_ .f32 0x3F800000#32))
        (shapeCast _ (extractStridedSlice S1x1x2048 ![0, 4, 0] M slices_S16x6x2048_S1x1x2048_0_4_0) shapeCasts_S1x1x2048_S2048)))))
    (broadcastInDim S8192x2048 ![0, 1] bcast_S1x2048_S8192x2048_0_1 (broadcastInDim S1x2048 ![1] bcast_S2048_S1x2048_1
      (shapeCast _ (extractStridedSlice S1x1x2048 ![0, 3, 0] M slices_S16x6x2048_S1x1x2048_0_3_0) shapeCasts_S1x1x2048_S2048)))

/-- The latent tokens' modulated norm. -/
def latH (Y : FVec Ideal S8x1024x2048 .f32) (w : FVec Ideal S2048 .f32) (N : FVec Ideal S8x6x2048 .f32) : FVec Ideal S8x1024x2048 .f32 :=
  addf (mulf (mulf (mulf Y (broadcastInDim S8x1024x2048 ![0, 1, 2] bcast_S8x1024x1_S8x1024x2048_0_1_2 (Host.rsqrt (addf (Host.divf
      (broadcastInDim S8x1024x1 ![0, 1] bcast_S8x1024_S8x1024x1_0_1 (Host.reduceAdd (mulf Y Y) (constant S_ .f32 0x00000000#32) reducesTo_S8x1024x2048_S8x1024_d2 h_S_))
      (broadcastInDim S8x1024x1 ![] bcast_S_S8x1024x1 (constant S_ .f32 0x45000000#32)))
      (broadcastInDim S8x1024x1 ![] bcast_S_S8x1024x1 (constant S_ .f32 0x358637BD#32))))))
    (broadcastInDim S8x1024x2048 ![0, 1, 2] bcast_S1x1x2048_S8x1024x2048_0_1_2 (broadcastInDim S1x1x2048 ![2] bcast_S2048_S1x1x2048_2 w)))
    (broadcastInDim S8x1024x2048 ![0, 1, 2] bcast_S8x1x2048_S8x1024x2048_0_1_2 (addf (broadcastInDim S8x1x2048 ![] bcast_S_S8x1x2048 (constant S_ .f32 0x3F800000#32))
      (broadcastInDim S8x1x2048 ![0, 2] bcast_S8x2048_S8x1x2048_0_2
        (shapeCast _ (extractStridedSlice S8x1x2048 ![0, 4, 0] N slices_S8x6x2048_S8x1x2048_0_4_0) shapeCasts_S8x1x2048_S8x2048)))))
    (broadcastInDim S8x1024x2048 ![0, 1, 2] bcast_S8x1x2048_S8x1024x2048_0_1_2 (broadcastInDim S8x1x2048 ![0, 2] bcast_S8x2048_S8x1x2048_0_2
      (shapeCast _ (extractStridedSlice S8x1x2048 ![0, 3, 0] N slices_S8x6x2048_S8x1x2048_0_3_0) shapeCasts_S8x1x2048_S8x2048)))

/-- The latent tokens' rows on top of each other. -/
def flatL (H : FVec Ideal S8x1024x2048 .f32) : FVec Ideal S8192x2048 .f32 := shapeCast _ H shapeCasts_S8x1024x2048_S8192x2048

/-- Both groups' tokens, the context on top. -/
def both (a b : FVec Ideal S8192x2048 .f32) : FVec Ideal S16384x2048 .f32 :=
  concatenate S16384x2048 0 [⟨S8192x2048, a⟩, ⟨S8192x2048, b⟩] concatenates_S8192x2048_S8192x2048_S16384x2048_d0

theorem mix_at (A C P) (r : Fin 8192) (k : Fin 2048) : mix A C P (ix2 r k)
    = if h : (k : ℕ) < 512 then A (ix2 r ⟨k, h⟩) else if h' : (k : ℕ) - 512 < 512 then C (ix2 r ⟨k - 512, by omega⟩) else P (ix2 r ⟨k - 512 - 512, by omega⟩) := by
  pointwise [mix]
theorem proj_at (H W) (r : Fin 8192) (c : Fin 2048) : proj H W (ix2 r c) = ∑ k, H (ix2 r k) * W (ix2 k c) := by
  pointwise [proj]
theorem ctxX_at (X M p) (r : Fin 8192) (k : Fin 2048) : ctxX X M p (ix2 r k) = X (ix2 r k) + M (ix3 0 2 k) * p (ix2 r k) := by
  pointwise [ctxX]
theorem reqs_at (Y) (b : Fin 8) (i : Fin 1024) (k : Fin 2048) : reqs Y (ix3 b i k) = Y (ix2 ⟨b * 1024 + i, by omega⟩ k) := by
  pointwise [reqs]
theorem latM_at (M) (b : Fin 8) (q : Fin 6) (k : Fin 2048) : latM M (ix3 b q k) = M (ix3 ⟨1 + b, by omega⟩ q k) := by
  pointwise [latM]
theorem latX_at (Y N p) (b : Fin 8) (i : Fin 1024) (k : Fin 2048) : latX Y N p (ix3 b i k) = Y (ix3 b i k) + N (ix3 b 2 k) * p (ix3 b i k) := by
  pointwise [latX]
theorem ctxH_at (X w M) (r : Fin 8192) (k : Fin 2048) : ctxH X w M (ix2 r k)
    = normMod (fun l => X (ix2 r l)) (fun l => w (ix1 l)) (fun l => M (ix3 0 4 l)) (fun l => M (ix3 0 3 l)) k := by
  pointwise [ctxH, normMod]
theorem latH_at (Y w N) (b : Fin 8) (i : Fin 1024) (k : Fin 2048) : latH Y w N (ix3 b i k)
    = normMod (fun l => Y (ix3 b i l)) (fun l => w (ix1 l)) (fun l => N (ix3 b 4 l)) (fun l => N (ix3 b 3 l)) k := by
  pointwise [latH, normMod]
theorem flatL_at (H) (r : Fin 8192) (k : Fin 2048) : flatL H (ix2 r k) = H (ix3 ⟨r / 1024, by omega⟩ ⟨r % 1024, by omega⟩ k) := by
  pointwise [flatL]
theorem both_at (a b) (r : Fin 16384) (c : Fin 2048) : both a b (ix2 r c) = pick (fun i => a (ix2 i c)) (fun i => b (ix2 i c)) r := by
  pointwise [both, pick]

/-- A sum over the mixers' columns is the sum of the three mixers'. -/
theorem sum_split (f : Fin 2048 → EReal) : ∑ k, f k
    = (∑ k : Fin 512, f ⟨k, by omega⟩) + (∑ k : Fin 512, f ⟨512 + k, by omega⟩) + ∑ k : Fin 1024, f ⟨1024 + k, by omega⟩ := by
  refine (Fin.sum_univ_add (a := 1024) (b := 1024) f).trans ?_
  refine congrArg₂ (· + ·) ?_ rfl
  exact Fin.sum_univ_add (a := 512) (b := 512) fun k : Fin 1024 => f ⟨k, by omega⟩

/-- A row of the product, mixer by mixer. -/
theorem row_at (A C P W) (r : Fin 8192) (c : Fin 2048) : proj (mix A C P) W (ix2 r c)
    = (∑ k : Fin 512, A (ix2 r k) * W (ix2 (⟨k, by omega⟩ : Fin 2048) c)) + (∑ k : Fin 512, C (ix2 r k) * W (ix2 (⟨512 + k, by omega⟩ : Fin 2048) c))
      + ∑ k : Fin 1024, P (ix2 r k) * W (ix2 (⟨1024 + k, by omega⟩ : Fin 2048) c) := by
  rw [proj_at, sum_split]
  refine congrArg₂ (· + ·) (congrArg₂ (· + ·) ?_ ?_) ?_ <;> refine Finset.sum_congr rfl fun k _ => congrArg (· * _) ?_
  · rw [mix_at, dif_pos (show (k : ℕ) < 512 from k.isLt)]
  · rw [mix_at, dif_neg (show ¬ 512 + (k : ℕ) < 512 by omega), dif_pos (show 512 + (k : ℕ) - 512 < 512 by omega)]
    exact congrArg (fun i => C (ix2 r i)) (Fin.ext (Nat.add_sub_cancel_left ..))
  · rw [mix_at, dif_neg (show ¬ 1024 + (k : ℕ) < 512 by omega), dif_neg (show ¬ 1024 + (k : ℕ) - 512 < 512 by omega)]
    exact congrArg (fun i => P (ix2 r i)) (Fin.ext (by show 1024 + (k : ℕ) - 512 - 512 = k; omega))

variable (A B C D : FVec Ideal S8192x512 .bf16) (P Q : FVec Ideal S8192x1024 .bf16) (W : FVec Ideal S2048x2048 .bf16)
  (X Y : FVec Ideal S8192x2048 .f32) (M : FVec Ideal S16x6x2048 .f32) (w : FVec Ideal S2048 .f32)

/-- The context group's residual at an entry. -/
theorem ctx_res (r : Fin 16384) (h : (r : ℕ) < 8192) (c : Fin 2048) : ctxX X M (proj (mix A C P) W) (ix2 ⟨r, h⟩ c) = resAt A B C D P Q W X Y M r c := by
  rw [ctxX_at, row_at]
  have e : (⟨modRow r, modRow_lt r⟩ : Fin 16) = 0 := Fin.ext (if_pos h)
  have e' : ∀ a b : Fin 8192 → EReal, pick a b r = a ⟨r, h⟩ := fun a b => dif_pos h
  unfold resAt
  simp only [e, e']

/-- The latent group's residual at an entry. -/
theorem lat_res (r : Fin 16384) (h : ¬ (r : ℕ) < 8192) (c : Fin 2048) :
    latX (reqs Y) (latM M) (reqs (proj (mix B D Q) W)) (ix3 ⟨((r : ℕ) - 8192) / 1024, by omega⟩ ⟨((r : ℕ) - 8192) % 1024, by omega⟩ c)
      = resAt A B C D P Q W X Y M r c := by
  rw [latX_at, latM_at, reqs_at, reqs_at, row_at]
  have e : (⟨modRow r, modRow_lt r⟩ : Fin 16) = ⟨1 + ((r : ℕ) - 8192) / 1024, by omega⟩ := Fin.ext (if_neg h)
  have e' : ∀ a b : Fin 8192 → EReal, pick a b r = b ⟨((r : ℕ) - 8192) / 1024 * 1024 + ((r : ℕ) - 8192) % 1024, by omega⟩ := fun a b =>
    (dif_neg h).trans (congrArg b (Fin.ext (by show (r : ℕ) - 8192 = ((r : ℕ) - 8192) / 1024 * 1024 + ((r : ℕ) - 8192) % 1024; omega)))
  unfold resAt
  simp only [e, e']

theorem res_11_at (r : Fin 16384) (c : Fin 2048) :
    both (ctxX X M (proj (mix A C P) W)) (flatL (latX (reqs Y) (latM M) (reqs (proj (mix B D Q) W)))) (ix2 r c) = resAt A B C D P Q W X Y M r c := by
  rw [both_at]
  by_cases h : (r : ℕ) < 8192
  · exact (dif_pos h).trans (ctx_res A B C D P Q W X Y M r h c)
  · exact (dif_neg h).trans ((flatL_at _ _ _).trans (lat_res A B C D P Q W X Y M r h c))

theorem res_12_at (r : Fin 16384) (c : Fin 2048) : both (ctxH (ctxX X M (proj (mix A C P) W)) w M)
      (flatL (latH (latX (reqs Y) (latM M) (reqs (proj (mix B D Q) W))) w (latM M))) (ix2 r c) = hidAt A B C D P Q W X Y M w r c := by
  rw [both_at]
  unfold hidAt
  by_cases h : (r : ℕ) < 8192
  · refine (dif_pos h).trans ((ctxH_at _ _ _ _ _).trans ?_)
    have e : (⟨modRow r, modRow_lt r⟩ : Fin 16) = 0 := Fin.ext (if_pos h)
    rw [e, funext (ctx_res A B C D P Q W X Y M r h)]
  · refine (dif_neg h).trans ((flatL_at _ _ _).trans ((latH_at _ _ _ _ _ _).trans ?_))
    have e : (⟨modRow r, modRow_lt r⟩ : Fin 16) = ⟨1 + ((r : ℕ) - 8192) / 1024, by omega⟩ := Fin.ext (if_neg h)
    rw [e, funext (lat_res A B C D P Q W X Y M r h)]
    simp only [latM_at]

/-- The reference's first result over its arguments. -/
theorem res_11 : both (ctxX X M (proj (mix A C P) W)) (flatL (latX (reqs Y) (latM M) (reqs (proj (mix B D Q) W)))) = resAll A B C D P Q W X Y M :=
  funext fun j => (congrArg _ (eq_ix2 j)).trans (res_11_at A B C D P Q W X Y M (j 0) (j 1))

/-- The reference's second result over its arguments. -/
theorem res_12 : (truncf .bf16 (both (ctxH (ctxX X M (proj (mix A C P) W)) w M)
      (flatL (latH (latX (reqs Y) (latM M) (reqs (proj (mix B D Q) W))) w (latM M)))) bitsLt_bf16_f32 : FVec Ideal S16384x2048 .bf16)
    = hidAll A B C D P Q W X Y M w :=
  funext fun j => (congrArg _ (eq_ix2 j)).trans (res_12_at A B C D P Q W X Y M w (j 0) (j 1))

end Cert.Reference4Ideal.Value
-- ==== Proof.MoeGather.lean ====
/-
  The experts' call: one part of a tile is gathered row by row. Two hundred and fifty-six copies are issued on one
  counter, each from the row that the table of sources names, and then waited for.
-/
module

public import proofs.«01_k».proof.Proof.Gen.Kernel5Ideal.Skeleton
public import proofs.«01_k».proof.Proof.Gen.Kernel5Ideal.Launch
public import Idealize.ShloMosaic.Lib.Batch
public import Idealize.ShloMosaic.Lib.Ring
public import Idealize.ShloMosaic.Lib.Tactic
public import Idealize.ShloMosaic.Lib.Pipeline.FrameBody
public import Idealize.ShloMosaic.Lib.VecWindow
public import Idealize.ShloMosaic.Lib.WritesUnit
public import Idealize.ShloMosaic.Lib.Pipeline.ValueKit

@[expose] public section

set_option maxRecDepth 16384

noncomputable section

namespace Cert.Kernel5Ideal.Moe

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table of sources, the rows, and the gathered part, each a whole buffer. -/
abbrev tabM : Memref sig .tc .smem S40960 .i32 := Memref.whole main_arg2
abbrev rowsM : Memref sig .tc .hbm S16384x2048 .f32 := Memref.whole main_arg3
abbrev partM : Memref sig .tc .vmem S256x2048 .f32 := Memref.whole cc0_scratch0

/-- One row of the rows, and one of the gathered part. -/
abbrev srcRow (off : Fin 2 → ℕ) (h : ∀ a, off a + S1x2048.size a ≤ S16384x2048.size a) : Memref sig .tc .hbm S1x2048 .f32 :=
  rowsM.slice (Rect.unit (s := S16384x2048) off S1x2048.size h) (fun _ => rfl)
abbrev dstRow (off : Fin 2 → ℕ) (h : ∀ a, off a + S1x2048.size a ≤ S256x2048.size a) : Memref sig .tc .vmem S1x2048 .f32 :=
  partM.slice (Rect.unit (s := S256x2048) off S1x2048.size h) (fun _ => rfl)

/-- One copy of a trip, then the rest `K`. -/
def issueOne (oA : Fin 1 → ℕ) (hA : ∀ a, oA a + S1.size a ≤ S40960.size a)
    (dA : Fin 2 → ℕ) (hdA : ∀ a, dA a + S1x2048.size a ≤ S256x2048.size a)
    (cA : BitVec 32 → Prop) (decA : ∀ v, Decidable (cA v))
    (hcA : ∀ v, cA v → ∀ a, (![v.toNat, 0] : Fin 2 → ℕ) a + S1x2048.size a ≤ S16384x2048.size a)
    (K : Prog (TpuEff nD τ sig (Elt F) Λ₀ .tc) Unit) : Prog (TpuEff nD τ sig (Elt F) Λ₀ .tc) Unit := do
  let v : Elt F .i32 ← smemLoad tabM (Rect.unit (s := S40960) oA S1.size hA) numel1_S1 rfl
  have hw : cA v := (← Prog.lift (TpuEff.assume (cA v) (decA v))).down
  Prog.lift (.enqueueDma (srcRow ![v.toNat, 0] (hcA v hw)) (.here (dstRow dA hdA)) (.dma cc0_scratch3.sem) (View.wordExact_bits rfl) (View.wordExact_bits rfl) ⟨Or.inl rfl, trivial⟩)
  K

/-- One wait. -/
def waitOne (dA : Fin 2 → ℕ) (hdA : ∀ a, dA a + S1x2048.size a ≤ S256x2048.size a) : Prog (TpuEff nD τ sig (Elt F) Λ₀ .tc) Unit :=
  .op (.waitDma2 cc0_scratch3.sem (srcRow ![0, 0] inb_S16384x2048_S1x2048_0_0) (dstRow dA hdA) (View.wordExact_bits rfl) (View.wordExact_bits rfl)) fun _ => pure ⟨⟩

/-- The same steps one after another. -/
theorem issueOne_eq (oA : Fin 1 → ℕ) (hA : ∀ a, oA a + S1.size a ≤ S40960.size a)
    (dA : Fin 2 → ℕ) (hdA : ∀ a, dA a + S1x2048.size a ≤ S256x2048.size a)
    (cA : BitVec 32 → Prop) (decA : ∀ v, Decidable (cA v))
    (hcA : ∀ v, cA v → ∀ a, (![v.toNat, 0] : Fin 2 → ℕ) a + S1x2048.size a ≤ S16384x2048.size a)
    (K : Prog (TpuEff nD τ sig (Elt F) Λ₀ .tc) Unit) :
    issueOne oA hA dA hdA cA decA hcA K
      = smemLoadElt tabM (Rect.unit (s := S40960) oA S1.size hA) (View.loads_smem_one rfl numel1_S1) (Shape.Idx.first (numel1_S1.symm ▸ Nat.one_pos))
          fun v => .op (.assume (cA v) (decA v)) fun h =>
            .op (.enqueueDma (srcRow ![v.toNat, 0] (hcA v h.down)) (.here (dstRow dA hdA)) (.dma cc0_scratch3.sem) (View.wordExact_bits rfl) (View.wordExact_bits rfl) ⟨Or.inl rfl, trivial⟩) fun _ => K := rfl

section Facts

/-- The rows' elements that one copy reads, and the part's that it writes. -/
theorem srcRow_set (off : Fin 2 → ℕ) (h) : (srcRow off h).view.set = (Rect.unit (s := S16384x2048) off S1x2048.size h).set :=
  View.set_slice_whole _ _
theorem dstRow_set (off : Fin 2 → ℕ) (h) : (dstRow off h).view.set = (Rect.unit (s := S256x2048) off S1x2048.size h).set :=
  View.set_slice_whole _ _

theorem inb_dst (t : Fin 256) : ∀ a, (![t.val, 0] : Fin 2 → ℕ) a + S1x2048.size a ≤ S256x2048.size a := by
  have := t.isLt
  exact Fin.forall_fin_two.mpr ⟨by show t.val + 1 ≤ 256; omega, by show 0 + 2048 ≤ 2048; omega⟩

/-- Row `t` of the part. -/
abbrev dstSet (t : Fin 256) : Finset S256x2048.Idx := (Rect.unit (s := S256x2048) ![t.val, 0] S1x2048.size (inb_dst t)).set

theorem mem_dstSet (t : Fin 256) (y : S256x2048.Idx) : y ∈ dstSet t ↔ (y 0).val = t.val := by
  rw [Rect.mem_set_unit]
  have h1 : (y 1).val < 2048 := (y 1).isLt
  constructor
  · intro H
    have a0 : t.val ≤ (y 0).val ∧ (y 0).val < t.val + 1 := H 0
    omega
  · intro H
    exact Fin.forall_fin_two.mpr ⟨by show t.val ≤ (y 0).val ∧ (y 0).val < t.val + 1; omega, by show 0 ≤ (y 1).val ∧ (y 1).val < 0 + 2048; omega⟩

/-- The gathered part: row `r` is the row of `fh` that `src r` names. -/
def gathered (src : Fin 256 → Fin 16384) (fh : S16384x2048.Idx → F .f32) : S256x2048.Idx → F .f32 := fun y =>
  fh (ix2 (src (y 0)) (y 1))

theorem inb_src (k : Fin 16384) : ∀ a, (![k.val, 0] : Fin 2 → ℕ) a + S1x2048.size a ≤ S16384x2048.size a := by
  have := k.isLt
  exact Fin.forall_fin_two.mpr ⟨by show k.val + 1 ≤ 16384; omega, by show 0 + 2048 ≤ 2048; omega⟩

/-- One copy writes the part's row. -/
theorem copy_row (src : Fin 256 → Fin 16384) (fh : S16384x2048.Idx → F .f32) (fd : S256x2048.Idx → F .f32) (t : Fin 256)
    (y : S256x2048.Idx) (hy : y ∈ dstSet t) :
    (dstRow ![t.val, 0] (inb_dst t)).view.write (Elt F) fd ((srcRow ![(src t).val, 0] (inb_src (src t))).view.read (Elt F) fh) Finset.univ y
      = gathered src fh y := by
  have hy0 : (y 0).val = t.val := (mem_dstSet t y).mp hy
  have he : y = (dstRow ![t.val, 0] (inb_dst t)).view.emb (ix2 (0 : Fin 1) (y 1) : S1x2048.Idx) := by
    funext a
    refine Fin.ext ?_
    fin_cases a
    · show (y 0).val = t.val + 1 * 0
      omega
    · show (y 1).val = 0 + 1 * (y 1).val
      omega
  rw [he, View.write_emb_of_mem _ _ (Finset.mem_univ _), ← he]
  show fh _ = fh _
  refine congrArg fh (funext fun a => Fin.ext ?_)
  have ht : src (y 0) = src t := congrArg src (Fin.ext hy0)
  fin_cases a
  · show (src t).val + 1 * 0 = (src (y 0)).val
    rw [ht]; omega
  · show 0 + 1 * (y 1).val = (y 1).val
    omega

end Facts

section Issue

variable (c : Dev nD) (src : Fin 256 → Fin 16384) (fh : S16384x2048.Idx → F .f32) (fd : S256x2048.Idx → F .f32)

/-- What copy `t` reads and writes, before it; what it hands back; and what it leaves beside. -/
abbrev item (t : Fin 256) : sProp 𝕄 :=
  iprop((rowsM.view.loc (c : Thread nD τ) ↦{Transfers.shareTokN fullShare t.val} fh) ∗ (partM.view.loc (c : Thread nD τ) ↦[dstSet t]{fullShare} fd))
abbrev srcSet (t : Fin 256) : Finset S16384x2048.Idx := (srcRow ![(src t).val, 0] (inb_src (src t))).view.set
abbrev given (t : Fin 256) : sProp 𝕄 :=
  iprop((partM.view.loc (c : Thread nD τ) ↦[dstSet t]{fullShare} gathered src fh)
    ∗ (rowsM.view.loc (c : Thread nD τ) ↦[srcSet src t]{Transfers.shareTokN fullShare t.val} fh))
abbrev kept (t : Fin 256) : sProp 𝕄 :=
  iprop(rowsM.view.loc (c : Thread nD τ) ↦[Finset.univ \ srcSet src t]{Transfers.shareTokN fullShare t.val} fh)

/-- What one copy credits. -/
abbrev NN : ℕ := cc0_scratch0.dmaCredit S1x2048 .f32

theorem amount_row (off : Fin 2 → ℕ) (h : ∀ a, off a + S1x2048.size a ≤ S256x2048.size a) :
    (dstRow off h).view.amount (.dma cc0_scratch3.sem) = NN := by
  unfold View.amount; rfl
theorem credit_row (off : Fin 2 → ℕ) (h : ∀ a, off a + S1x2048.size a ≤ S256x2048.size a) :
    (dstRow off h).view.dmaCredit = 1 * NN := by
  rw [Nat.one_mul]
theorem NN_pos : 0 < NN := by decide +kernel

abbrev batch (j u : ℕ) : sProp 𝕄 :=
  Transfers.Batch (countersEmb (U := Pipeline.UD sig nD τ)) (c : Thread nD τ) (.dma cc0_scratch3.sem) () NN (given c src fh) j u

/-- What a copy leaves is what it hands back. -/
theorem delivered (t : Fin 256) (hn) (hdA) :
    iprop(((dstRow ![t.val, 0] hdA).view.loc (c : Thread nD τ) ↦[dstSet t]{fullShare} ((dstRow ![t.val, 0] hdA).view.write (Elt F) fd
          ((ReadAs.same (Val := Elt F)).apply ((srcRow ![(src t).val, 0] hn).view.read (Elt F) fh)) Finset.univ))
        ∗ ((srcRow ![(src t).val, 0] hn).view.loc (c : Thread nD τ) ↦[(srcRow ![(src t).val, 0] hn).view.set]{Transfers.shareTokN fullShare t.val} fh) : sProp 𝕄)
      ⊢ given c src fh t := by
  refine sep_mono (Entails.of_eq ?_) .rfl
  exact pointsTo_congr (ℓ := partM.view.loc (c : Thread nD τ)) fun y hy => copy_row src fh fd t y hy

set_option maxHeartbeats 400000 in
/-- One copy issued. -/
theorem issueOne_wp (t : Fin 256) (T : S40960.Idx → BitVec 32) (qT : PosShare TreeShare)
    (oA : Fin 1 → ℕ) (hA : ∀ a, oA a + S1.size a ≤ S40960.size a)
    (dA : Fin 2 → ℕ) (hdA : ∀ a, dA a + S1x2048.size a ≤ S256x2048.size a)
    (cA : BitVec 32 → Prop) (decA : ∀ v, Decidable (cA v))
    (hcA : ∀ v, cA v → ∀ a, (![v.toNat, 0] : Fin 2 → ℕ) a + S1x2048.size a ≤ S16384x2048.size a)
    (K : Prog (TpuEff nD τ sig (Elt F) Λ₀ .tc) Unit) (Q : Unit → sProp 𝕄)
    (hd : dA = ![t.val, 0])
    (hT : ∀ x, ((tabM.access (Rect.unit (s := S40960) oA S1.size hA)).read (Elt F) T x).toNat = (src t).val)
    (hc : ∀ v : BitVec 32, v.toNat < 16384 → cA v) :
    iprop((tabM.view.loc (c : Thread nD τ) ↦{qT} T) ∗ batch c src fh t.val 0 ∗ item c fh fd t)
      ⊢ iprop((iprop((tabM.view.loc (c : Thread nD τ) ↦{qT} T) ∗ batch c src fh (t.val + 1) 0 ∗ kept c src fh t)
            -∗ wp frame (wpE (defs₀ (F := F)) Variants.none c none) Set.univ K Q)
          -∗ wp frame (wpE (defs₀ (F := F)) Variants.none c none) Set.univ (issueOne oA hA dA hdA cA decA hcA K) Q) := by
  subst hd
  iintro ⟨HT, HB, ⟨Hs, Hd⟩⟩
  rw [issueOne_eq]
  iintro Hk
  iapply (wp_smemLoadElt_named Variants.none (c : Thread nD τ) none Set.univ (m := tabM)) $$ HT
  iintro HT %v %hv
  have hvn : v.toNat = (src t).val := by rw [hv]; exact hT _
  have hlt : v.toNat < 16384 := by rw [hvn]; exact (src t).isLt
  iapply (wp_assume Variants.none (c : Thread nD τ) none Set.univ (hc v hlt))
  ihave Hs' := (show (rowsM.view.loc (c : Thread nD τ) ↦{Transfers.shareTokN fullShare t.val} fh)
    ⊢ iprop((rowsM.view.loc (c : Thread nD τ) ↦[srcSet src t]{Transfers.shareTokN fullShare t.val} fh) ∗ kept c src fh t)
    from (pointsTo_split_subset (Finset.subset_univ _)).1) $$ Hs
  icases Hs' with ⟨Hs, Hkept⟩
  have key : ∀ (n : ℕ) (hn : ∀ a, (![n, 0] : Fin 2 → ℕ) a + S1x2048.size a ≤ S16384x2048.size a), n = (src t).val →
      iprop(batch c src fh t.val 0
        ∗ (rowsM.view.loc (c : Thread nD τ) ↦[srcSet src t]{Transfers.shareTokN fullShare t.val} fh)
        ∗ (partM.view.loc (c : Thread nD τ) ↦[dstSet t]{fullShare} fd))
      ⊢ iprop((batch c src fh (t.val + 1) 0 -∗ wp frame (wpE (defs₀ (F := F)) Variants.none c none) Set.univ K Q)
        -∗ wp frame (wpE (defs₀ (F := F)) Variants.none c none) Set.univ
          (.op (.enqueueDma (srcRow ![n, 0] hn) (.here (dstRow ![t.val, 0] hdA)) (.dma cc0_scratch3.sem) (View.wordExact_bits rfl) (View.wordExact_bits rfl) ⟨Or.inl rfl, trivial⟩) fun _ => K) Q) := by
    intro n hn hne
    subst hne
    iintro ⟨HB, Hs, Hd⟩ Hk
    iapply (Transfers.wp_dmaBatch (countersEmb (U := Pipeline.UD sig nD τ)) Variants.none (c : Thread nD τ) none (src := srcRow ![(src t).val, 0] hn) (via := ReadAs.same (Val := Elt F)) (q := Transfers.shareTokN fullShare t.val) (dst := dstRow ![t.val, 0] hdA) (Sd := dstSet t)
      (fs := fh) (fd := fd) (D := given c src fh) (j := t.val) (u := 0) () NN (amount_row _ _) (dstRow_set _ _).subset t.isLt (Nat.zero_le _)
      (delivered c src fh fd t hn hdA)) $$ [HB Hs Hd]
    · isplitl [Hs]; · iexact Hs
      isplitl [Hd]; · iexact Hd
      iexact HB
    iexact Hk
  iapply (key v.toNat _ hvn) $$ [HB Hs Hd]
  · isplitl [HB]; · iexact HB
    isplitl [Hs]; · iexact Hs
    iexact Hd
  iintro HB
  iapply Hk
  isplitl [HT]; · iexact HT
  isplitl [HB]; · iexact HB
  iexact Hkept

/-- Before trip `k` of the issues, and of the waits. -/
def issueAt (T : S40960.Idx → BitVec 32) (qT : PosShare TreeShare) (k : ℕ) : sProp 𝕄 :=
  iprop((tabM.view.loc (c : Thread nD τ) ↦{qT} T) ∗ batch c src fh (2 * k) 0
    ∗ bigSep (Ring.rangeSet 256 (2 * k) 256) (item c fh fd) ∗ bigSep (Ring.rangeSet 256 0 (2 * k)) (kept c src fh))
def drainAt (k : ℕ) : sProp 𝕄 :=
  iprop(batch c src fh 256 (k * NN) ∗ (∃ W, owes (c : Thread nD τ) 0 W))

/-- One trip of the issues. -/
theorem issue_trip (T : S40960.Idx → BitVec 32) (qT : PosShare TreeShare) (k : ℕ) (hk : k < 128)
    (oA oB : Fin 1 → ℕ) (hA : ∀ a, oA a + S1.size a ≤ S40960.size a) (hB : ∀ a, oB a + S1.size a ≤ S40960.size a)
    (dA dB : Fin 2 → ℕ) (hdA : ∀ a, dA a + S1x2048.size a ≤ S256x2048.size a) (hdB : ∀ a, dB a + S1x2048.size a ≤ S256x2048.size a)
    (cA cB : BitVec 32 → Prop) (decA : ∀ v, Decidable (cA v)) (decB : ∀ v, Decidable (cB v))
    (hcA : ∀ v, cA v → ∀ a, (![v.toNat, 0] : Fin 2 → ℕ) a + S1x2048.size a ≤ S16384x2048.size a)
    (hcB : ∀ v, cB v → ∀ a, (![v.toNat, 0] : Fin 2 → ℕ) a + S1x2048.size a ≤ S16384x2048.size a)
    (eA : dA = ![2 * k, 0]) (eB : dB = ![2 * k + 1, 0])
    (hTA : ∀ x, ((tabM.access (Rect.unit (s := S40960) oA S1.size hA)).read (Elt F) T x).toNat = (src ⟨2 * k, by omega⟩).val)
    (hTB : ∀ x, ((tabM.access (Rect.unit (s := S40960) oB S1.size hB)).read (Elt F) T x).toNat = (src ⟨2 * k + 1, by omega⟩).val)
    (kA : ∀ v : BitVec 32, v.toNat < 16384 → cA v) (kB : ∀ v : BitVec 32, v.toNat < 16384 → cB v) :
    issueAt c src fh fd T qT k
      ⊢ wp frame (wpE (defs₀ (F := F)) Variants.none c none) Set.univ (issueOne oA hA dA hdA cA decA hcA (issueOne oB hB dB hdB cB decB hcB (pure ⟨⟩)))
          (fun _ => issueAt c src fh fd T qT (k + 1)) := by
  unfold issueAt
  rw [Ring.bigSep_rangeSet_head (Φ := item c fh fd) (lo := 2 * k) (by omega) (by omega),
    Ring.bigSep_rangeSet_head (Φ := item c fh fd) (lo := 2 * k + 1) (by omega) (by omega),
    show 2 * (k + 1) = 2 * k + 1 + 1 by omega,
    show bigSep (Ring.rangeSet 256 0 (2 * k + 1 + 1)) (kept c src fh)
        = iprop(kept c src fh ⟨2 * k + 1, by omega⟩ ∗ kept c src fh ⟨2 * k, by omega⟩ ∗ bigSep (Ring.rangeSet 256 0 (2 * k)) (kept c src fh))
      from (Ring.bigSep_rangeSet_last (by omega) (by omega)).trans
        (congrArg (fun R : sProp 𝕄 => iprop(kept c src fh ⟨2 * k + 1, by omega⟩ ∗ R)) (Ring.bigSep_rangeSet_last (by omega) (by omega)))]
  iintro ⟨HT, HB, ⟨HI0, HI1, HI⟩, HK⟩
  iapply (issueOne_wp c src fh fd ⟨2 * k, by omega⟩ T qT oA hA dA hdA cA decA hcA _ _ eA hTA kA) $$ [HT HB HI0]
  · isplitl [HT]; · iexact HT
    isplitl [HB]; · iexact HB
    iexact HI0
  iintro ⟨HT, HB, HK0⟩
  iapply (issueOne_wp c src fh fd ⟨2 * k + 1, by omega⟩ T qT oB hB dB hdB cB decB hcB _ _ eB hTB kB) $$ [HT HB HI1]
  · isplitl [HT]; · iexact HT
    isplitl [HB]; · iexact HB
    iexact HI1
  iintro ⟨HT, HB, HK1⟩
  sl_step
  isplitl [HT]; · iexact HT
  isplitl [HB]; · iexact HB
  isplitl [HI]; · iexact HI
  isplitl [HK1]; · iexact HK1
  isplitl [HK0]; · iexact HK0
  iexact HK

/-- One trip of the waits. -/
theorem drain_trip (k : ℕ) (hk : k < 256) (dA : Fin 2 → ℕ) (hdA : ∀ a, dA a + S1x2048.size a ≤ S256x2048.size a) :
    drainAt c src fh k
      ⊢ wp frame (wpE (defs₀ (F := F)) Variants.none c none) Set.univ
          (waitOne dA hdA)
          (fun _ => drainAt c src fh (k + 1)) := by
  unfold drainAt waitOne
  iintro ⟨HB, ⟨%W, HO⟩⟩
  iapply (Transfers.wp_waitBatchMul (countersEmb (U := Pipeline.UD sig nD τ)) Variants.none (c : Thread nD τ) none (N := NN) (D := given c src fh) () 1 (credit_row _ _)
    (j := 256) (u := k * NN) (by rw [Nat.one_mul, ← Nat.succ_mul, Nat.mul_comm]; exact Nat.mul_le_mul_left NN hk)) $$ [HB HO]
  · isplitl [HB]; · iexact HB
    iexact HO
  iintro ⟨HB, HO⟩
  sl_step
  isplitl [HB]
  · rw [Nat.one_mul, ← Nat.succ_mul]; iexact HB
  iexists _; iexact HO

theorem batch_zero_alloc : (semVal ((c : Thread nD τ), SemLoc.dma cc0_scratch3.sem) 0 : sProp 𝕄) ⊢ |={Set.univ}=> batch c src fh 0 0 :=
  Transfers.batch_alloc' (countersEmb (U := Pipeline.UD sig nD τ)) (c : Thread nD τ) () NN (given c src fh)

/-- The rows under a share for each copy, and back. -/
theorem rows_shares : (rowsM.view.loc (c : Thread nD τ) ↦{fullShare} fh : sProp 𝕄)
    ⊣⊢ iprop((rowsM.view.loc (c : Thread nD τ) ↦{Transfers.shareDrop fullShare 256} fh)
      ∗ bigSep Finset.univ fun t : Fin 256 => rowsM.view.loc (c : Thread nD τ) ↦{Transfers.shareTokN fullShare t.val} fh) := by
  rw [← Ring.rangeSet_univ (NB := 256), Ring.bigSep_rangeSet_eq_range (NB := 256) (lo := 0) (hi := 256) le_rfl
    (fun i => (rowsM.view.loc (c : Thread nD τ) ↦{Transfers.shareTokN fullShare i} fh : sProp 𝕄)) (fun k h => by simp only [Nat.zero_add])]
  exact Transfers.pointsTo_toks_range fullShare 256

/-- The part held whole is held row by row. -/
abbrev rowSet (t : Fin 256) : Finset (Idx (partM.view.loc (c : Thread nD τ))) := dstSet t
theorem row_disjoint : ∀ t t' : Fin 256, t ≠ t' → Disjoint (rowSet c t) (rowSet c t') := fun t t' hne => by
  rw [Finset.disjoint_left]
  intro y hy hy'
  have h := (mem_dstSet t y).mp hy
  have h' := (mem_dstSet t' y).mp hy'
  exact hne (Fin.ext (by omega))
theorem row_cover : Finset.univ.biUnion (rowSet c) = Finset.univ := by
  ext y
  simp only [Finset.mem_biUnion, Finset.mem_univ, true_and, iff_true]
  exact ⟨(show S256x2048.Idx from y) 0, (mem_dstSet _ y).mpr rfl⟩
theorem part_rows (f : Buf (Elt F) (partM.view.loc (c : Thread nD τ))) : (partM.view.loc (c : Thread nD τ) ↦{fullShare} f : sProp 𝕄)
    = bigSep Finset.univ fun t => (partM.view.loc (c : Thread nD τ) ↦[rowSet c t]{fullShare} f : sProp 𝕄) :=
  Ring.pointsTo_blocks (ℓ := partM.view.loc (c : Thread nD τ)) (rowSet c) (row_disjoint c) (row_cover c) f

theorem items_of : iprop((rowsM.view.loc (c : Thread nD τ) ↦{fullShare} fh) ∗ (partM.view.loc (c : Thread nD τ) ↦{fullShare} fd) : sProp 𝕄)
    ⊢ iprop((rowsM.view.loc (c : Thread nD τ) ↦{Transfers.shareDrop fullShare 256} fh) ∗ bigSep Finset.univ (item c fh fd)) := by
  rw [show bigSep Finset.univ (item c fh fd) = iprop((bigSep Finset.univ fun t : Fin 256 => (rowsM.view.loc (c : Thread nD τ) ↦{Transfers.shareTokN fullShare t.val} fh : sProp 𝕄))
      ∗ bigSep Finset.univ fun t => (partM.view.loc (c : Thread nD τ) ↦[dstSet t]{fullShare} fd : sProp 𝕄)) from BI.bigSep_sep _ _ _,
    part_rows c fd]
  iintro ⟨HR, HP⟩
  ihave HR' := (rows_shares c fh).1 $$ HR
  icases HR' with ⟨HD, HT⟩
  isplitl [HD]; · iexact HD
  isplitl [HT]; · iexact HT
  iexact HP

theorem of_given : iprop((rowsM.view.loc (c : Thread nD τ) ↦{Transfers.shareDrop fullShare 256} fh) ∗ bigSep Finset.univ (given c src fh) ∗ bigSep Finset.univ (kept c src fh) : sProp 𝕄)
    ⊢ iprop((rowsM.view.loc (c : Thread nD τ) ↦{fullShare} fh) ∗ (partM.view.loc (c : Thread nD τ) ↦{fullShare} gathered src fh)) := by
  rw [show bigSep Finset.univ (given c src fh) = iprop((bigSep Finset.univ fun t => (partM.view.loc (c : Thread nD τ) ↦[dstSet t]{fullShare} gathered src fh : sProp 𝕄))
      ∗ bigSep Finset.univ fun t : Fin 256 => (rowsM.view.loc (c : Thread nD τ) ↦[srcSet src t]{Transfers.shareTokN fullShare t.val} fh : sProp 𝕄)) from BI.bigSep_sep _ _ _,
    part_rows c (gathered src fh)]
  iintro ⟨HD, ⟨HP, HS⟩, HK⟩
  isplitr [HP]; swap; · iexact HP
  iapply (rows_shares c fh).2
  isplitl [HD]; · iexact HD
  ihave H := (show iprop((bigSep Finset.univ fun t : Fin 256 => (rowsM.view.loc (c : Thread nD τ) ↦[srcSet src t]{Transfers.shareTokN fullShare t.val} fh : sProp 𝕄)) ∗ bigSep Finset.univ (kept c src fh))
    ⊢ bigSep Finset.univ fun t : Fin 256 => (rowsM.view.loc (c : Thread nD τ) ↦{Transfers.shareTokN fullShare t.val} fh : sProp 𝕄) from
    (Entails.of_eq (BI.bigSep_sep _ _ _).symm).trans (BI.bigSep_mono fun t _ => (pointsTo_split_subset (Finset.subset_univ _)).2)) $$ [HS HK]
  · isplitl [HS]; · iexact HS
    iexact HK
  iexact H

/-- A part gathered: the issues, the waits, then the rest. -/
theorem gather_part (T : S40960.Idx → BitVec 32) (qT : PosShare TreeShare) (l₁ l₂ : Scf.Loop 32) (ok₁ : l₁.OK) (ok₂ : l₂.OK)
    (n₁ : l₁.trips = 128) (n₂ : l₂.trips = 256)
    (B₁ : Fin l₁.trips → Unit → Prog (TpuEff nD τ sig (Elt F) Λ₀ .tc) Unit) (B₂ : Fin l₂.trips → Unit → Prog (TpuEff nD τ sig (Elt F) Λ₀ .tc) Unit)
    (h₁ : ∀ k acc, issueAt c src fh fd T qT k.val ⊢ wp frame (wpE (defs₀ (F := F)) Variants.none c none) Set.univ (B₁ k acc) (fun _ => issueAt c src fh fd T qT (k.val + 1)))
    (h₂ : ∀ k acc, drainAt c src fh k.val ⊢ wp frame (wpE (defs₀ (F := F)) Variants.none c none) Set.univ (B₂ k acc) (fun _ => drainAt c src fh (k.val + 1)))
    {α : Type} (kk : Unit → Prog (TpuEff nD τ sig (Elt F) Λ₀ .tc) α) (Q : α → sProp 𝕄) :
    iprop((tabM.view.loc (c : Thread nD τ) ↦{qT} T) ∗ (rowsM.view.loc (c : Thread nD τ) ↦{fullShare} fh) ∗ (partM.view.loc (c : Thread nD τ) ↦{fullShare} fd)
        ∗ semVal ((c : Thread nD τ), SemLoc.dma cc0_scratch3.sem) 0 ∗ (∃ W, owes (c : Thread nD τ) 0 W))
      ⊢ iprop((iprop((tabM.view.loc (c : Thread nD τ) ↦{qT} T) ∗ (rowsM.view.loc (c : Thread nD τ) ↦{fullShare} fh) ∗ (partM.view.loc (c : Thread nD τ) ↦{fullShare} gathered src fh)
          ∗ semVal ((c : Thread nD τ), SemLoc.dma cc0_scratch3.sem) 0 ∗ (∃ W, owes (c : Thread nD τ) 0 W))
            -∗ wp frame (wpE (defs₀ (F := F)) Variants.none c none) Set.univ (kk ()) Q)
          -∗ wp frame (wpE (defs₀ (F := F)) Variants.none c none) Set.univ (Scf.Loop.for l₁ ok₁ () B₁ >>= fun _ => Scf.Loop.for l₂ ok₂ () B₂ >>= kk) Q) := by
  iintro ⟨HT, HR, HP, Hsem, HO⟩ Hk
  imod (batch_zero_alloc c src fh) $$ Hsem with HB
  ihave HI := (items_of c fh fd) $$ [HR HP]
  · isplitl [HR]; · iexact HR
    iexact HP
  icases HI with ⟨HD, HI⟩
  iapply (Scf.wp_for_bind _ _ _ l₁.lb l₁.ub l₁.st ok₁ () B₁ (fun k _ => issueAt c src fh fd T qT k) h₁) $$ [HT HB HI]
  · unfold issueAt
    isplitl [HT]; · iexact HT
    isplitl [HB]; · iexact HB
    rw [Nat.mul_zero, Ring.rangeSet_univ, Ring.bigSep_rangeSet_empty (Φ := kept c src fh) le_rfl]
    isplitl [HI]; · iexact HI
    iempintro
  iintro %acc HI
  rw [show Scf.trips l₁.lb l₁.ub l₁.st = 128 from n₁]
  unfold issueAt
  icases HI with ⟨HT, HB, -, HK⟩
  iapply (Scf.wp_for_bind _ _ _ l₂.lb l₂.ub l₂.st ok₂ () B₂ (fun k _ => drainAt c src fh k) h₂) $$ [HB HO]
  · unfold drainAt
    isplitl [HB]
    · rw [Nat.zero_mul]; iexact HB
    iexact HO
  iintro %acc HB
  rw [show Scf.trips l₂.lb l₂.ub l₂.st = 256 from n₂]
  unfold drainAt
  icases HB with ⟨HB, HO⟩
  imod (show batch c src fh 256 (256 * NN) ⊢ (|={Set.univ}=> iprop(bigSep Finset.univ (given c src fh) ∗ semVal ((c : Thread nD τ), SemLoc.dma cc0_scratch3.sem) 0) : sProp 𝕄) from by
    rw [Nat.mul_comm]; exact Transfers.batch_collect' _ _ NN_pos) $$ HB with ⟨HG, Hsem⟩
  ihave H := (of_given c src fh) $$ [HD HG HK]
  · isplitl [HD]; · iexact HD
    isplitl [HG]; · iexact HG
    rw [← Ring.rangeSet_univ]; iexact HK
  icases H with ⟨HR, HP⟩
  iapply Hk
  isplitl [HT]; · iexact HT
  isplitl [HR]; · iexact HR
  isplitl [HP]; · iexact HP
  isplitl [Hsem]; · iexact Hsem
  iexact HO

end Issue

end Cert.Kernel5Ideal.Moe

end
-- ==== Proof.MoeStep.lean ====
/-
  The experts' call: a store under a condition, and what it leaves.
-/
module

public import proofs.«01_k».proof.Proof.MoeGather

@[expose] public section

set_option maxRecDepth 16384

noncomputable section

namespace Cert.Kernel5Ideal.Moe

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The programs of the core, and what one needs. -/
abbrev Pg (F : FTy → Type) [FloatOps F] (α : Type) : Type _ := Prog (TpuEff nD τ sig (Elt F) Λ₀ .tc) α
abbrev wpP (c : Dev nD) {α : Type} (P : Pg F α) (Q : α → sProp 𝕄) : sProp 𝕄 :=
  wp frame (wpE (defs₀ (F := F)) Variants.none (c : Thread nD τ) none) Set.univ P Q

/-- `x` with the box of `n` by `m` at `a`, `b` replaced by `w`. -/
def setBox {V : Type} {N M n m : ℕ} (a b : ℕ) (x : (⟨2, ![N, M]⟩ : Shape).Idx → V) (w : (⟨2, ![n, m]⟩ : Shape).Idx → V) :
    (⟨2, ![N, M]⟩ : Shape).Idx → V := fun y =>
  if h : (a ≤ (y 0).val ∧ (y 0).val < a + n) ∧ (b ≤ (y 1).val ∧ (y 1).val < b + m) then
    w (ix2 (⟨(y 0).val - a, by omega⟩ : Fin n) (⟨(y 1).val - b, by omega⟩ : Fin m))
  else x y

/-- The box at `a`, `b` of a matrix. -/
abbrev boxR (N M n m a b : ℕ) (inb : ∀ i, (![a, b] : Fin 2 → ℕ) i + (⟨2, ![n, m]⟩ : Shape).size i ≤ (⟨2, ![N, M]⟩ : Shape).size i) : Rect ⟨2, ![N, M]⟩ :=
  Rect.unit (s := ⟨2, ![N, M]⟩) ![a, b] (⟨2, ![n, m]⟩ : Shape).size inb

theorem read_box {e : EltTy} {N M n m : ℕ} {arg : Memref sig .tc .vmem ⟨2, ![N, M]⟩ e} (harg : arg.IsWhole) (a b : ℕ) (inb)
    (w : (⟨2, ![n, m]⟩ : Shape).Idx → Elt F e) (x : (⟨2, ![N, M]⟩ : Shape).Idx → Elt F e) :
    arg.view.read (Elt F) (arg.view.writes (Elt F) (harg.unread x) [⟨boxR N M n m a b inb, w⟩]) = setBox a b x w := by
  funext y
  unfold setBox
  split
  · next h =>
    refine View.read_writes_cons_unit_of_mem _ _ inb w [] y (ix2 (⟨(y 0).val - a, by omega⟩ : Fin n) (⟨(y 1).val - b, by omega⟩ : Fin m)) rfl
      (Fin.forall_fin_two.mpr ⟨?_, ?_⟩)
    · show (y 0).val = a + ((y 0).val - a)
      omega
    · show (y 1).val = b + ((y 1).val - b)
      omega
  · next h =>
    by_cases h0 : a ≤ (y 0).val ∧ (y 0).val < a + n
    · rw [View.read_writes_cons_unit_of_not_mem _ _ inb w [] y rfl 1 (by
        show (y 1).val < b ∨ b + m ≤ (y 1).val
        omega), View.writes_nil, harg.read_unread]
    · rw [View.read_writes_cons_unit_of_not_mem _ _ inb w [] y rfl 0 (by
        show (y 0).val < a ∨ a + n ≤ (y 0).val
        omega), View.writes_nil, harg.read_unread]

section Steps

variable {e : EltTy} {N M n m : ℕ} {α : Type}

/-- A store of a box, after a load of it that is not used. -/
abbrev storeP (arg : Memref sig .tc .vmem ⟨2, ![N, M]⟩ e) (a b : ℕ) (inb)
    (w : (⟨2, ![n, m]⟩ : Shape).Idx → Elt F e) (hl : arg.view.LoadsAt (boxR N M n m a b inb).toLoadRect)
    (hs : (arg.access (boxR N M n m a b inb)).Stores Finset.univ) (K : Pg F α) : Pg F α :=
  .op (.load arg (boxR N M n m a b inb).toLoadRect hl) fun _ => .op (.store arg (boxR N M n m a b inb) w Finset.univ hs (.inl rfl)) fun _ => K

/-- The same under a condition. -/
abbrev condP (c : Prop) [Decidable c] (arg : Memref sig .tc .vmem ⟨2, ![N, M]⟩ e) (a b : ℕ) (inb)
    (w : (⟨2, ![n, m]⟩ : Shape).Idx → Elt F e) (hl : arg.view.LoadsAt (boxR N M n m a b inb).toLoadRect)
    (hs : (arg.access (boxR N M n m a b inb)).Stores Finset.univ) (K : Pg F α) : Pg F α :=
  if _h : c then storeP arg a b inb w hl hs K else K

theorem load_wp (c : Dev nD) (Q : α → sProp 𝕄) {S : Shape} {arg : Memref sig .tc .vmem S e} (r : Rect S) (hl : arg.view.LoadsAt r.toLoadRect)
    (x : S.Idx → Elt F e) (k : (r.shape.Idx → Elt F e) → Pg F α) :
    owns (c : Thread nD τ) arg fullShare x
      ⊢ iprop((owns (c : Thread nD τ) arg fullShare x -∗ wpP c (k (View.ld x r)) Q) -∗ wpP c (.op (.load arg r.toLoadRect hl) k) Q) := by
  unfold owns
  iintro ⟨%f, %hf, H⟩ Hk
  subst hf
  iapply (wp_load Variants.none (c : Thread nD τ) none Set.univ (arg.view.setOn_subset_set _)) $$ H
  iintro H
  rw [View.readAt_eq_ld]
  iapply Hk
  iexists f; isplitr; · ipureintro; rfl
  iexact H

theorem store_wp (c : Dev nD) (Q : α → sProp 𝕄) {arg : Memref sig .tc .vmem ⟨2, ![N, M]⟩ e} (harg : arg.IsWhole) (a b : ℕ) (inb)
    (w : (⟨2, ![n, m]⟩ : Shape).Idx → Elt F e) (hl hs) (x : (⟨2, ![N, M]⟩ : Shape).Idx → Elt F e) (K : Pg F α) :
    owns (c : Thread nD τ) arg fullShare x
      ⊢ iprop((owns (c : Thread nD τ) arg fullShare (setBox a b x w) -∗ wpP c K Q) -∗ wpP c (storeP arg a b inb w hl hs K) Q) := by
  unfold owns wpP storeP
  iintro ⟨%f, %hf, H⟩ Hk
  obtain rfl := harg.eq_unread hf
  sl_exec
  iapply Hk
  iexists _; isplitr; swap; · iexact H
  ipureintro
  exact read_box harg a b inb w x

theorem cond_wp (c : Dev nD) (Q : α → sProp 𝕄) (p : Prop) [Decidable p] {arg : Memref sig .tc .vmem ⟨2, ![N, M]⟩ e} (harg : arg.IsWhole) (a b : ℕ) (inb)
    (w : (⟨2, ![n, m]⟩ : Shape).Idx → Elt F e) (hl hs) (x : (⟨2, ![N, M]⟩ : Shape).Idx → Elt F e) (K : Pg F α) :
    owns (c : Thread nD τ) arg fullShare x
      ⊢ iprop((owns (c : Thread nD τ) arg fullShare (if p then setBox a b x w else x) -∗ wpP c K Q) -∗ wpP c (condP p arg a b inb w hl hs K) Q) := by
  by_cases h : p
  · unfold condP
    rw [dif_pos h, if_pos h]
    exact store_wp c Q harg a b inb w hl hs x K
  · unfold condP
    rw [dif_neg h, if_neg h]
    iintro H Hk
    iapply Hk
    iexact H

end Steps

end Cert.Kernel5Ideal.Moe

end
-- ==== Proof.MoeUp.lean ====
/-
  The experts' call: one round's up-projection and down-projection, for any number of rows.
-/
module

public import proofs.«01_k».proof.Proof.MoeStep

@[expose] public section

set_option maxRecDepth 16384

noncomputable section

namespace Cert.Kernel5Ideal.Moe

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The kernel's test of a word against a number. -/
abbrev isS (a k : BitVec 32) : Prop := Scalar.cmpi .ne (Scalar.extui (Scalar.cmpi .eq a k) : BitVec 32) 0#32 = 1#1

abbrev Mat (n m : ℕ) : Shape := ⟨2, ![n, m]⟩

/-- Slice `k` of the hidden units is replaced when the slice of the round is `k`. -/
def slot {n : ℕ} (a k : BitVec 32) (b : ℕ) (g : (Mat 1024 5632).Idx → Elt F .bf16) (w : (Mat n 512).Idx → Elt F .bf16) :
    (Mat 1024 5632).Idx → Elt F .bf16 := if isS a k then setBox 0 b g w else g

def slots1 {n : ℕ} (a : BitVec 32) (g : (Mat 1024 5632).Idx → Elt F .bf16) (w : (Mat n 512).Idx → Elt F .bf16) :
    (Mat 1024 5632).Idx → Elt F .bf16 :=
  slot a 4#32 2048 (slot a 3#32 1536 (slot a 2#32 1024 (slot a 1#32 512 (slot a 0#32 0 g w) w) w) w) w

def slots2 {n : ℕ} (a : BitVec 32) (g : (Mat 1024 5632).Idx → Elt F .bf16) (w : (Mat n 512).Idx → Elt F .bf16) :
    (Mat 1024 5632).Idx → Elt F .bf16 :=
  slot a 10#32 5120 (slot a 9#32 4608 (slot a 8#32 4096 (slot a 7#32 3584 (slot a 6#32 3072 (slot a 5#32 2560 g w) w) w) w) w) w

section Blocks

variable {n : ℕ} {α : Type} (hp : 0 < n) (h2 : 2 ∣ n) (hn : n ≤ 1024)

include hn in
theorem inbX : ∀ i, (![0, 0] : Fin 2 → ℕ) i + (Mat n 2048).size i ≤ (Mat 1024 2048).size i := by
  refine Fin.forall_fin_two.mpr ⟨?_, ?_⟩
  · show 0 + n ≤ 1024
    omega
  · show 0 + 2048 ≤ 2048
    omega

include hn in
theorem inbG (b m : ℕ) (hb : b + m ≤ 5632) : ∀ i, (![0, b] : Fin 2 → ℕ) i + (Mat n m).size i ≤ (Mat 1024 5632).size i := by
  refine Fin.forall_fin_two.mpr ⟨?_, ?_⟩
  · show 0 + n ≤ 1024
    omega
  · show b + m ≤ 5632
    omega

include hn in
theorem inbO : ∀ i, (![0, 0] : Fin 2 → ℕ) i + (Mat n 256).size i ≤ (Mat 1024 256).size i := by
  refine Fin.forall_fin_two.mpr ⟨?_, ?_⟩
  · show 0 + n ≤ 1024
    omega
  · show 0 + 256 ≤ 256
    omega

include hp in
theorem numelM (m : ℕ) (hm : 0 < m) : 0 < (Mat n m).numel := by
  unfold Shape.numel
  rw [Fin.prod_univ_two]
  exact Nat.mul_pos hp hm

theorem loadsM {N M m a b : ℕ} {e : EltTy} (arg : Memref sig .tc .vmem (Mat N M) e) (inb) (hp : 0 < n) (hm : 0 < m) :
    arg.view.LoadsAt (boxR N M n m a b inb).toLoadRect := View.loadsAt_vmem (numelM hp m hm)

theorem storesG {arg : Memref sig .tc .vmem (Mat 1024 5632) .bf16} (harg : arg.IsWhole) (b : ℕ) (inb) (hp : 0 < n) (h2 : 2 ∣ n) :
    (arg.access (boxR 1024 5632 n 512 0 b inb)).Stores Finset.univ :=
  View.stores_vmem (numelM hp 512 (by decide)) (harg.storeExact_slice rfl _
    (.inr ⟨le_refl 2, rfl, .inl ⟨⟨0, rfl⟩, h2⟩⟩)) (fun _ => rfl)

theorem storesO {arg : Memref sig .tc .vmem (Mat 1024 256) .f32} (inb) (hp : 0 < n) :
    (arg.access (boxR 1024 256 n 256 0 0 inb)).Stores Finset.univ :=
  View.stores_vmem_bits_univ (numelM hp 256 (by decide)) rfl

variable (arg6 arg7 : Memref sig .tc .vmem S1x2048x512 .f32) (arg8 : Memref sig .tc .vmem S1x5632x256 .f32)
  {arg9 : Memref sig .tc .vmem (Mat 1024 256) .f32} (harg9 : arg9.IsWhole)
  (arg11 : Memref sig .tc .vmem (Mat 1024 2048) .bf16)
  {arg12 : Memref sig .tc .vmem (Mat 1024 5632) .bf16} (harg12 : arg12.IsWhole)

/-- The block of a weight. -/
abbrev R6 : Rect S1x2048x512 := Rect.unit (s := S1x2048x512) ![0, 0, 0] S1x2048x512.size inb_S1x2048x512_S1x2048x512_0_0_0
abbrev R8 : Rect S1x5632x256 := Rect.unit (s := S1x5632x256) ![0, 0, 0] S1x5632x256.size inb_S1x5632x256_S1x5632x256_0_0_0

abbrev Up (F : FTy → Type) [FloatOps F] (n : ℕ) := Vec F (Mat n 2048) .bf16 → Vec F S1x2048x512 .f32 → Vec F S1x2048x512 .f32 → FVec F (Mat n 512) .bf16
abbrev Down (F : FTy → Type) [FloatOps F] (n : ℕ) := Vec F (Mat n 5632) .bf16 → Vec F S1x5632x256 .f32 → FVec F (Mat n 256) .f32

abbrev storeG (a k : BitVec 32) (b : ℕ) (hb : b + 512 ≤ 5632) (w : FVec F (Mat n 512) .bf16) (K : Pg F α) : Pg F α :=
  condP (isS a k) arg12 0 b (inbG hn b 512 hb) w (loadsM arg12 _ hp (by decide)) (storesG harg12 b _ hp h2) K

abbrev upFirst (P : Up F n) (W : FVec F (Mat n 512) .bf16 → FVec F (Mat n 512) .bf16) (a : BitVec 32) :
    Pg F (Σ' (v94 : FVec F (Mat n 512) .bf16), BitVec 32) :=
  .op (.load arg11 (boxR 1024 2048 n 2048 0 0 (inbX hn)).toLoadRect (loadsM arg11 _ hp (by decide))) fun v78 =>
  .op (.load arg6 R6.toLoadRect (View.loadsAt_vmem h_S1x2048x512)) fun v79 =>
  .op (.load arg7 R6.toLoadRect (View.loadsAt_vmem h_S1x2048x512)) fun v89 =>
  storeG hp h2 hn harg12 a 0#32 0 (by decide) (W (P v78 v79 v89)) <|
  storeG hp h2 hn harg12 a 1#32 512 (by decide) (W (P v78 v79 v89)) <|
  storeG hp h2 hn harg12 a 2#32 1024 (by decide) (W (P v78 v79 v89)) <|
  storeG hp h2 hn harg12 a 3#32 1536 (by decide) (W (P v78 v79 v89)) <|
  storeG hp h2 hn harg12 a 4#32 2048 (by decide) (W (P v78 v79 v89)) <|
  pure ⟨P v78 v79 v89, 5#32⟩

abbrev upSecond (w : FVec F (Mat n 512) .bf16) (a c5 : BitVec 32) (K : Pg F α) : Pg F α :=
  storeG hp h2 hn harg12 a c5 2560 (by decide) w <|
  storeG hp h2 hn harg12 a 6#32 3072 (by decide) w <|
  storeG hp h2 hn harg12 a 7#32 3584 (by decide) w <|
  storeG hp h2 hn harg12 a 8#32 4096 (by decide) w <|
  storeG hp h2 hn harg12 a 9#32 4608 (by decide) w <|
  storeG hp h2 hn harg12 a 10#32 5120 (by decide) w K

theorem slot_wp (c : Dev nD) (Q : α → sProp 𝕄) (a k : BitVec 32) (b : ℕ) (hb : b + 512 ≤ 5632) (w : FVec F (Mat n 512) .bf16) (g) (K : Pg F α) :
    owns (c : Thread nD τ) arg12 fullShare g
      ⊢ iprop((owns (c : Thread nD τ) arg12 fullShare (slot a k b g w) -∗ wpP c K Q) -∗ wpP c (storeG hp h2 hn harg12 a k b hb w K) Q) :=
  cond_wp c Q (isS a k) harg12 0 b (inbG hn b 512 hb) w _ _ g K

theorem first_wp (c : Dev nD) (P : Up F n) (W) (a : BitVec 32) (xb f6 f7 g) (Q : (Σ' (v94 : FVec F (Mat n 512) .bf16), BitVec 32) → sProp 𝕄) :
    iprop(owns (c : Thread nD τ) arg6 fullShare f6 ∗ owns (c : Thread nD τ) arg7 fullShare f7 ∗
        owns (c : Thread nD τ) arg11 fullShare xb ∗ owns (c : Thread nD τ) arg12 fullShare g)
      ⊢ iprop((owns (c : Thread nD τ) arg6 fullShare f6 ∗ owns (c : Thread nD τ) arg7 fullShare f7 ∗
          owns (c : Thread nD τ) arg11 fullShare xb ∗
          owns (c : Thread nD τ) arg12 fullShare (slots1 a g (W (P (View.ld xb (boxR 1024 2048 n 2048 0 0 (inbX hn))) (View.ld f6 R6) (View.ld f7 R6))))
          -∗ Q ⟨P (View.ld xb (boxR 1024 2048 n 2048 0 0 (inbX hn))) (View.ld f6 R6) (View.ld f7 R6), 5#32⟩)
        -∗ wpP c (upFirst hp h2 hn arg6 arg7 arg11 harg12 P W a) Q) := by
  iintro ⟨H6, H7, H11, H12⟩ Hk
  iapply (load_wp c Q _ _ xb _) $$ H11
  iintro H11
  iapply (load_wp c Q _ _ f6 _) $$ H6
  iintro H6
  iapply (load_wp c Q _ _ f7 _) $$ H7
  iintro H7
  iapply (slot_wp hp h2 hn harg12 c Q a _ _ _ _ _ _) $$ H12
  iintro H12
  iapply (slot_wp hp h2 hn harg12 c Q a _ _ _ _ _ _) $$ H12
  iintro H12
  iapply (slot_wp hp h2 hn harg12 c Q a _ _ _ _ _ _) $$ H12
  iintro H12
  iapply (slot_wp hp h2 hn harg12 c Q a _ _ _ _ _ _) $$ H12
  iintro H12
  iapply (slot_wp hp h2 hn harg12 c Q a _ _ _ _ _ _) $$ H12
  iintro H12
  unfold wpP
  sl_step
  iapply Hk
  isplitl [H6]; · iexact H6
  isplitl [H7]; · iexact H7
  isplitl [H11]; · iexact H11
  iexact H12

theorem second_wp (c : Dev nD) (w : FVec F (Mat n 512) .bf16) (a : BitVec 32) (g) (K : Pg F α) (Q : α → sProp 𝕄) :
    owns (c : Thread nD τ) arg12 fullShare g
      ⊢ iprop((owns (c : Thread nD τ) arg12 fullShare (slots2 a g w) -∗ wpP c K Q)
        -∗ wpP c (upSecond hp h2 hn harg12 w a 5#32 K) Q) := by
  iintro H12 Hk
  iapply (slot_wp hp h2 hn harg12 c Q a _ _ _ _ _ _) $$ H12
  iintro H12
  iapply (slot_wp hp h2 hn harg12 c Q a _ _ _ _ _ _) $$ H12
  iintro H12
  iapply (slot_wp hp h2 hn harg12 c Q a _ _ _ _ _ _) $$ H12
  iintro H12
  iapply (slot_wp hp h2 hn harg12 c Q a _ _ _ _ _ _) $$ H12
  iintro H12
  iapply (slot_wp hp h2 hn harg12 c Q a _ _ _ _ _ _) $$ H12
  iintro H12
  iapply (slot_wp hp h2 hn harg12 c Q a _ _ _ _ _ _) $$ H12
  iintro H12
  iapply Hk
  iexact H12

/-- The hidden units after the up-projection of a round. -/
def upG (p : Prop) [Decidable p] (hn : n ≤ 1024) (P : Up F n) (W : FVec F (Mat n 512) .bf16 → FVec F (Mat n 512) .bf16) (a : BitVec 32)
    (xb : (Mat 1024 2048).Idx → Elt F .bf16) (f6 f7 : S1x2048x512.Idx → Elt F .f32) (g : (Mat 1024 5632).Idx → Elt F .bf16) :
    (Mat 1024 5632).Idx → Elt F .bf16 :=
  if p then
    slots2 a (slots1 a g (W (P (View.ld xb (boxR 1024 2048 n 2048 0 0 (inbX hn))) (View.ld f6 R6) (View.ld f7 R6))))
      (W (P (View.ld xb (boxR 1024 2048 n 2048 0 0 (inbX hn))) (View.ld f6 R6) (View.ld f7 R6)))
  else g

abbrev upP (p : Prop) [Decidable p] (First : Pg F (Σ' (v94 : FVec F (Mat n 512) .bf16), BitVec 32))
    (W : FVec F (Mat n 512) .bf16 → FVec F (Mat n 512) .bf16) (a : BitVec 32) (K : Pg F α) : Pg F α :=
  if p then First >>= fun r => match r with | ⟨v94, c5⟩ => upSecond hp h2 hn harg12 (W v94) a c5 K else K

theorem up_wp (c : Dev nD) (p : Prop) [Decidable p] (First) (P : Up F n) (W) (a : BitVec 32)
    (hF : First = upFirst hp h2 hn arg6 arg7 arg11 harg12 P W a) (xb f6 f7 g) (K : Pg F α) (Q : α → sProp 𝕄) :
    iprop(owns (c : Thread nD τ) arg6 fullShare f6 ∗ owns (c : Thread nD τ) arg7 fullShare f7 ∗
        owns (c : Thread nD τ) arg11 fullShare xb ∗ owns (c : Thread nD τ) arg12 fullShare g)
      ⊢ iprop((owns (c : Thread nD τ) arg6 fullShare f6 ∗ owns (c : Thread nD τ) arg7 fullShare f7 ∗
          owns (c : Thread nD τ) arg11 fullShare xb ∗ owns (c : Thread nD τ) arg12 fullShare (upG p hn P W a xb f6 f7 g)
          -∗ wpP c K Q)
        -∗ wpP c (upP hp h2 hn harg12 p First W a K) Q) := by
  subst hF
  by_cases h : p
  · unfold upP upG
    rw [if_pos h, if_pos h]
    iintro H Hk
    unfold wpP
    rw [wp_bind]
    iapply (first_wp hp h2 hn arg6 arg7 arg11 harg12 c P W a xb f6 f7 g _) $$ H
    iintro ⟨H6, H7, H11, H12⟩
    iapply (second_wp hp h2 hn harg12 c _ a _ K Q) $$ H12
    iintro H12
    iapply Hk
    isplitl [H6]; · iexact H6
    isplitl [H7]; · iexact H7
    isplitl [H11]; · iexact H11
    iexact H12
  · unfold upP upG
    rw [if_neg h, if_neg h]
    iintro H Hk
    iapply Hk
    iexact H

/-- The output's block after the down-projection of a round. -/
def downO (p : Prop) [Decidable p] (hn : n ≤ 1024) (P : Down F n) (g : (Mat 1024 5632).Idx → Elt F .bf16)
    (f8 : S1x5632x256.Idx → Elt F .f32) (o : (Mat 1024 256).Idx → Elt F .f32) : (Mat 1024 256).Idx → Elt F .f32 :=
  if p then setBox 0 0 o (P (View.ld g (boxR 1024 5632 n 5632 0 0 (inbG hn 0 5632 (le_refl _)))) (View.ld f8 R8)) else o

abbrev downP (p : Prop) [Decidable p] (P : Down F n) (K : Pg F α) : Pg F α :=
  if _h : p then
    .op (.load arg12 (boxR 1024 5632 n 5632 0 0 (inbG hn 0 5632 (le_refl _))).toLoadRect (loadsM arg12 _ hp (by decide))) fun v78 =>
    .op (.load arg8 R8.toLoadRect (View.loadsAt_vmem h_S1x5632x256)) fun v79 =>
    storeP arg9 0 0 (inbO hn) (P v78 v79) (loadsM arg9 _ hp (by decide)) (storesO _ hp) K
  else K

include harg9 in
theorem down_wp (c : Dev nD) (p : Prop) [Decidable p] (P : Down F n) (g f8 o) (K : Pg F α) (Q : α → sProp 𝕄) :
    iprop(owns (c : Thread nD τ) arg8 fullShare f8 ∗ owns (c : Thread nD τ) arg9 fullShare o ∗ owns (c : Thread nD τ) arg12 fullShare g)
      ⊢ iprop((owns (c : Thread nD τ) arg8 fullShare f8 ∗ owns (c : Thread nD τ) arg9 fullShare (downO p hn P g f8 o) ∗
          owns (c : Thread nD τ) arg12 fullShare g -∗ wpP c K Q)
        -∗ wpP c (downP hp hn arg8 (arg9 := arg9) (arg12 := arg12) p P K) Q) := by
  by_cases h : p
  · unfold downP downO
    rw [dif_pos h, if_pos h]
    iintro ⟨H8, H9, H12⟩ Hk
    iapply (load_wp c Q _ _ g _) $$ H12
    iintro H12
    iapply (load_wp c Q _ _ f8 _) $$ H8
    iintro H8
    iapply (store_wp c Q harg9 0 0 _ _ _ _ o K) $$ H9
    iintro H9
    iapply Hk
    isplitl [H8]; · iexact H8
    isplitl [H9]; · iexact H9
    iexact H12
  · unfold downP downO
    rw [dif_neg h, if_neg h]
    iintro H Hk
    iapply Hk
    iexact H

end Blocks

end Cert.Kernel5Ideal.Moe
-- ==== Proof.MoeRun.lean ====
/-
  The experts' call: what the body runs, in the blocks of one round.
-/
module

public import proofs.«01_k».proof.Proof.MoeUp

@[expose] public section

set_option maxRecDepth 16384

noncomputable section

namespace Cert.Kernel5Ideal.Moe

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Parts

variable (i : grid0.Coords) (arg2 : Memref sig .tc .smem S40 .i32) (harg2 : arg2.IsWhole) (arg3 : Memref sig .tc .smem S40 .i32)
  (harg3 : arg3.IsWhole) (arg4 : Memref sig .tc .smem S40960 .i32) (harg4 : arg4.IsWhole) (arg5 : Memref sig .tc .hbm S16384x2048 .f32)
  (harg5 : arg5.IsWhole) (arg6 : Memref sig .tc .vmem S1x2048x512 .f32) (harg6 : arg6.IsWhole)
  (arg7 : Memref sig .tc .vmem S1x2048x512 .f32) (harg7 : arg7.IsWhole) (arg8 : Memref sig .tc .vmem S1x5632x256 .f32)
  (harg8 : arg8.IsWhole) (arg9 : Memref sig .tc .vmem S1024x256 .f32) (harg9 : arg9.IsWhole)
  (arg10 : Memref sig .tc .vmem S256x2048 .f32) (harg10 : arg10.IsWhole) (arg11 : Memref sig .tc .vmem S1024x2048 .bf16)
  (harg11 : arg11.IsWhole) (arg12 : Memref sig .tc .vmem S1024x5632 .bf16) (harg12 : arg12.IsWhole) (arg13 : DmaSems sig S_)

theorem part1_eq (a : BitVec 32) :
    k0_part1 i arg2 harg2 arg3 harg3 arg4 harg4 arg5 harg5 arg6 harg6 arg7 harg7 arg8 harg8 arg9 harg9 arg10 harg10 arg11 harg11 arg12 harg12 arg13 a
      = upFirst (F := F) (n := 256) (by decide) (by decide) (by decide) arg6 arg7 arg11 harg12 k0_pay5 k0_pay33 a := rfl

theorem part2_eq (a : BitVec 32) :
    k0_part2 i arg2 harg2 arg3 harg3 arg4 harg4 arg5 harg5 arg6 harg6 arg7 harg7 arg8 harg8 arg9 harg9 arg10 harg10 arg11 harg11 arg12 harg12 arg13 a
      = upFirst (F := F) (n := 512) (by decide) (by decide) (by decide) arg6 arg7 arg11 harg12 k0_pay11 k0_pay40 a := rfl

theorem part3_eq (a : BitVec 32) :
    k0_part3 i arg2 harg2 arg3 harg3 arg4 harg4 arg5 harg5 arg6 harg6 arg7 harg7 arg8 harg8 arg9 harg9 arg10 harg10 arg11 harg11 arg12 harg12 arg13 a
      = upFirst (F := F) (n := 768) (by decide) (by decide) (by decide) arg6 arg7 arg11 harg12 k0_pay17 k0_pay47 a := rfl

theorem part4_eq (a : BitVec 32) :
    k0_part4 i arg2 harg2 arg3 harg3 arg4 harg4 arg5 harg5 arg6 harg6 arg7 harg7 arg8 harg8 arg9 harg9 arg10 harg10 arg11 harg11 arg12 harg12 arg13 a
      = upFirst (F := F) (n := 1024) (by decide) (by decide) (by decide) arg6 arg7 arg11 harg12 k0_pay23 k0_pay54 a := rfl

/-- The condition of a round's up-projection, from the test of the number of rows. -/
abbrev upC (a : BitVec 32) (v : BitVec 1) : Prop :=
  Scalar.cmpi .ne (Scalar.extui (Scalar.andi v (Scalar.cmpi .slt a 11#32)) : BitVec 32) 0#32 = 1#1

theorem part6_eq (a v1 : BitVec 32) (v4 v7 v10 v13 : BitVec 1) :
    k0_part6 (F := F) i arg2 harg2 arg3 harg3 arg4 harg4 arg5 harg5 arg6 harg6 arg7 harg7 arg8 harg8 arg9 harg9 arg10 harg10 arg11 harg11 arg12 harg12 arg13 a v1 v4 v7 v10 v13
      = (
        upP (n := 256) (by decide) (by decide) (by decide) harg12 (upC a v4) (k0_part1 i arg2 harg2 arg3 harg3 arg4 harg4 arg5 harg5 arg6 harg6 arg7 harg7 arg8 harg8 arg9 harg9 arg10 harg10 arg11 harg11 arg12 harg12 arg13 a) k0_pay33 a <|
         downP (n := 256) (by decide) (by decide) arg8 (arg9 := arg9) (arg12 := arg12) (k0_cond17 i v1 = 1#1) k0_pay39 <|
         upP (n := 512) (by decide) (by decide) (by decide) harg12 (upC a v7) (k0_part2 i arg2 harg2 arg3 harg3 arg4 harg4 arg5 harg5 arg6 harg6 arg7 harg7 arg8 harg8 arg9 harg9 arg10 harg10 arg11 harg11 arg12 harg12 arg13 a) k0_pay40 a <|
         downP (n := 512) (by decide) (by decide) arg8 (arg9 := arg9) (arg12 := arg12) (k0_cond30 i v1 = 1#1) k0_pay46 <|
         upP (n := 768) (by decide) (by decide) (by decide) harg12 (upC a v10) (k0_part3 i arg2 harg2 arg3 harg3 arg4 harg4 arg5 harg5 arg6 harg6 arg7 harg7 arg8 harg8 arg9 harg9 arg10 harg10 arg11 harg11 arg12 harg12 arg13 a) k0_pay47 a <|
         downP (n := 768) (by decide) (by decide) arg8 (arg9 := arg9) (arg12 := arg12) (k0_cond43 i v1 = 1#1) k0_pay53 <|
         upP (n := 1024) (by decide) (by decide) (by decide) harg12 (upC a v13) (k0_part4 i arg2 harg2 arg3 harg3 arg4 harg4 arg5 harg5 arg6 harg6 arg7 harg7 arg8 harg8 arg9 harg9 arg10 harg10 arg11 harg11 arg12 harg12 arg13 a) k0_pay54 a <|
         downP (n := 1024) (by decide) (by decide) arg8 (arg9 := arg9) (arg12 := arg12) (k0_cond56 i v1 = 1#1) k0_pay60 <|
         pure ⟨Scalar.extui (Scalar.cmpi .sle v1 0#32), 0#32⟩) := rfl

/-- The hidden units after the body's up-projections, one test after the other. -/
def gUp1 (a : BitVec 32) (v4 v7 v10 v13 : BitVec 1) (xb : (Mat 1024 2048).Idx → Elt F .bf16)
    (f6 f7 : S1x2048x512.Idx → Elt F .f32) (g : (Mat 1024 5632).Idx → Elt F .bf16) : (Mat 1024 5632).Idx → Elt F .bf16 :=
  upG (upC a v4) (n := 256) (by decide) k0_pay5 k0_pay33 a xb f6 f7 g

def gUp2 (a : BitVec 32) (v4 v7 v10 v13 : BitVec 1) (xb : (Mat 1024 2048).Idx → Elt F .bf16)
    (f6 f7 : S1x2048x512.Idx → Elt F .f32) (g : (Mat 1024 5632).Idx → Elt F .bf16) : (Mat 1024 5632).Idx → Elt F .bf16 :=
  upG (upC a v7) (n := 512) (by decide) k0_pay11 k0_pay40 a xb f6 f7 (gUp1 a v4 v7 v10 v13 xb f6 f7 g)

def gUp3 (a : BitVec 32) (v4 v7 v10 v13 : BitVec 1) (xb : (Mat 1024 2048).Idx → Elt F .bf16)
    (f6 f7 : S1x2048x512.Idx → Elt F .f32) (g : (Mat 1024 5632).Idx → Elt F .bf16) : (Mat 1024 5632).Idx → Elt F .bf16 :=
  upG (upC a v10) (n := 768) (by decide) k0_pay17 k0_pay47 a xb f6 f7 (gUp2 a v4 v7 v10 v13 xb f6 f7 g)

def gUp4 (a : BitVec 32) (v4 v7 v10 v13 : BitVec 1) (xb : (Mat 1024 2048).Idx → Elt F .bf16)
    (f6 f7 : S1x2048x512.Idx → Elt F .f32) (g : (Mat 1024 5632).Idx → Elt F .bf16) : (Mat 1024 5632).Idx → Elt F .bf16 :=
  upG (upC a v13) (n := 1024) (by decide) k0_pay23 k0_pay54 a xb f6 f7 (gUp3 a v4 v7 v10 v13 xb f6 f7 g)

/-- The output's block after the down-projections. -/
def oDown (i : grid0.Coords) (v1 : BitVec 32) (g1 g2 g3 g4 : (Mat 1024 5632).Idx → Elt F .bf16) (f8 : S1x5632x256.Idx → Elt F .f32)
    (o : (Mat 1024 256).Idx → Elt F .f32) : (Mat 1024 256).Idx → Elt F .f32 :=
  downO (k0_cond56 i v1 = 1#1) (n := 1024) (by decide) k0_pay60 g4 f8 <|
  downO (k0_cond43 i v1 = 1#1) (n := 768) (by decide) k0_pay53 g3 f8 <|
  downO (k0_cond30 i v1 = 1#1) (n := 512) (by decide) k0_pay46 g2 f8 <|
  downO (k0_cond17 i v1 = 1#1) (n := 256) (by decide) k0_pay39 g1 f8 o

include harg9 in
theorem part6_wp (c : Dev nD) (a v1 : BitVec 32) (v4 v7 v10 v13 : BitVec 1) (xb f6 f7 f8 g o)
    (Q : (Σ' (v67 : BitVec 32), BitVec 32) → sProp 𝕄) :
    iprop(owns (c : Thread nD τ) arg6 fullShare f6 ∗ owns (c : Thread nD τ) arg7 fullShare f7 ∗ owns (c : Thread nD τ) arg8 fullShare f8 ∗
        owns (c : Thread nD τ) arg9 fullShare o ∗ owns (c : Thread nD τ) arg11 fullShare xb ∗ owns (c : Thread nD τ) arg12 fullShare g)
      ⊢ iprop((owns (c : Thread nD τ) arg6 fullShare f6 ∗ owns (c : Thread nD τ) arg7 fullShare f7 ∗ owns (c : Thread nD τ) arg8 fullShare f8 ∗
          owns (c : Thread nD τ) arg9 fullShare (oDown i v1 (gUp1 a v4 v7 v10 v13 xb f6 f7 g) (gUp2 a v4 v7 v10 v13 xb f6 f7 g) (gUp3 a v4 v7 v10 v13 xb f6 f7 g) (gUp4 a v4 v7 v10 v13 xb f6 f7 g) f8 o) ∗
          owns (c : Thread nD τ) arg11 fullShare xb ∗
          owns (c : Thread nD τ) arg12 fullShare (gUp4 a v4 v7 v10 v13 xb f6 f7 g)
          -∗ Q ⟨Scalar.extui (Scalar.cmpi .sle v1 0#32), 0#32⟩)
        -∗ wpP c (k0_part6 i arg2 harg2 arg3 harg3 arg4 harg4 arg5 harg5 arg6 harg6 arg7 harg7 arg8 harg8 arg9 harg9 arg10 harg10 arg11 harg11 arg12 harg12 arg13 a v1 v4 v7 v10 v13) Q) := by
  rw [part6_eq]
  iintro ⟨H6, H7, H8, H9, H11, H12⟩ Hk
  iapply (up_wp (n := 256) _ _ _ arg6 arg7 arg11 harg12 c _ _ _ _ a
    (part1_eq i arg2 harg2 arg3 harg3 arg4 harg4 arg5 harg5 arg6 harg6 arg7 harg7 arg8 harg8 arg9 harg9 arg10 harg10 arg11 harg11 arg12 harg12 arg13 a) xb f6 f7 _ _ Q) $$ [H6 H7 H11 H12]
  · isplitl [H6]; · iexact H6
    isplitl [H7]; · iexact H7
    isplitl [H11]; · iexact H11
    iexact H12
  iintro ⟨H6, H7, H11, H12⟩
  iapply (down_wp (n := 256) _ _ arg8 harg9 (arg12 := arg12) c _ _ _ f8 _ _ Q) $$ [H8 H9 H12]
  · isplitl [H8]; · iexact H8
    isplitl [H9]; · iexact H9
    iexact H12
  iintro ⟨H8, H9, H12⟩
  iapply (up_wp (n := 512) _ _ _ arg6 arg7 arg11 harg12 c _ _ _ _ a
    (part2_eq i arg2 harg2 arg3 harg3 arg4 harg4 arg5 harg5 arg6 harg6 arg7 harg7 arg8 harg8 arg9 harg9 arg10 harg10 arg11 harg11 arg12 harg12 arg13 a) xb f6 f7 _ _ Q) $$ [H6 H7 H11 H12]
  · isplitl [H6]; · iexact H6
    isplitl [H7]; · iexact H7
    isplitl [H11]; · iexact H11
    iexact H12
  iintro ⟨H6, H7, H11, H12⟩
  iapply (down_wp (n := 512) _ _ arg8 harg9 (arg12 := arg12) c _ _ _ f8 _ _ Q) $$ [H8 H9 H12]
  · isplitl [H8]; · iexact H8
    isplitl [H9]; · iexact H9
    iexact H12
  iintro ⟨H8, H9, H12⟩
  iapply (up_wp (n := 768) _ _ _ arg6 arg7 arg11 harg12 c _ _ _ _ a
    (part3_eq i arg2 harg2 arg3 harg3 arg4 harg4 arg5 harg5 arg6 harg6 arg7 harg7 arg8 harg8 arg9 harg9 arg10 harg10 arg11 harg11 arg12 harg12 arg13 a) xb f6 f7 _ _ Q) $$ [H6 H7 H11 H12]
  · isplitl [H6]; · iexact H6
    isplitl [H7]; · iexact H7
    isplitl [H11]; · iexact H11
    iexact H12
  iintro ⟨H6, H7, H11, H12⟩
  iapply (down_wp (n := 768) _ _ arg8 harg9 (arg12 := arg12) c _ _ _ f8 _ _ Q) $$ [H8 H9 H12]
  · isplitl [H8]; · iexact H8
    isplitl [H9]; · iexact H9
    iexact H12
  iintro ⟨H8, H9, H12⟩
  iapply (up_wp (n := 1024) _ _ _ arg6 arg7 arg11 harg12 c _ _ _ _ a
    (part4_eq i arg2 harg2 arg3 harg3 arg4 harg4 arg5 harg5 arg6 harg6 arg7 harg7 arg8 harg8 arg9 harg9 arg10 harg10 arg11 harg11 arg12 harg12 arg13 a) xb f6 f7 _ _ Q) $$ [H6 H7 H11 H12]
  · isplitl [H6]; · iexact H6
    isplitl [H7]; · iexact H7
    isplitl [H11]; · iexact H11
    iexact H12
  iintro ⟨H6, H7, H11, H12⟩
  iapply (down_wp (n := 1024) _ _ arg8 harg9 (arg12 := arg12) c _ _ _ f8 _ _ Q) $$ [H8 H9 H12]
  · isplitl [H8]; · iexact H8
    isplitl [H9]; · iexact H9
    iexact H12
  iintro ⟨H8, H9, H12⟩
  unfold wpP
  sl_step
  iapply Hk
  isplitl [H6]; · iexact H6
  isplitl [H7]; · iexact H7
  isplitl [H8]; · iexact H8
  isplitl [H9]; · iexact H9
  isplitl [H11]; · iexact H11
  iexact H12

end Parts

end Cert.Kernel5Ideal.Moe
-- ==== Proof.MoeBody.lean ====
/-
  The experts' call: the gathers, and the body's run at a grid point.
-/
module

public import proofs.«01_k».proof.Proof.MoeRun

@[expose] public section

set_option maxRecDepth 16384

noncomputable section

namespace Cert.Kernel5Ideal.Moe

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table's word at a place. -/
theorem read_tab (T : S40960.Idx → BitVec 32) (oA : Fin 1 → ℕ) (hA : ∀ a, oA a + S1.size a ≤ S40960.size a) (k : ℕ) (hk : k < 40960)
    (h : oA = ![k]) (x) : (tabM.access (Rect.unit (s := S40960) oA S1.size hA)).read (Elt F) T x = T (ix1 ⟨k, hk⟩) := by
  subst h
  show T _ = T _
  refine congrArg T (funext fun a => Fin.ext ?_)
  fin_cases a
  have : (x 0).val < 1 := (x 0).isLt
  show k + 1 * (x 0).val = k
  omega

/-- The rows that part `p` of tile `e` gathers. -/
def srcOf (T : S40960.Idx → BitVec 32) (hT : ∀ y, (T y).toNat < 16384) (e : Fin 40) (p : Fin 4) : Fin 256 → Fin 16384 := fun r =>
  ⟨(T (ix1 ⟨1024 * e.val + 256 * p.val + r.val, by omega⟩)).toNat, hT _⟩

theorem trip_wp (c : Dev nD) (T : S40960.Idx → BitVec 32) (hT : ∀ y, (T y).toNat < 16384) (e : Fin 40) (p : Fin 4)
    (fh : S16384x2048.Idx → F .f32) (fd : S256x2048.Idx → F .f32) (qT : PosShare TreeShare) (k : ℕ) (hk : k < 128)
    (oA oB : Fin 1 → ℕ) (hA : ∀ a, oA a + S1.size a ≤ S40960.size a) (hB : ∀ a, oB a + S1.size a ≤ S40960.size a)
    (dA dB : Fin 2 → ℕ) (hdA : ∀ a, dA a + S1x2048.size a ≤ S256x2048.size a) (hdB : ∀ a, dB a + S1x2048.size a ≤ S256x2048.size a)
    (cA cB : BitVec 32 → Prop) (decA : ∀ v, Decidable (cA v)) (decB : ∀ v, Decidable (cB v))
    (hcA : ∀ v, cA v → ∀ a, (![v.toNat, 0] : Fin 2 → ℕ) a + S1x2048.size a ≤ S16384x2048.size a)
    (hcB : ∀ v, cB v → ∀ a, (![v.toNat, 0] : Fin 2 → ℕ) a + S1x2048.size a ≤ S16384x2048.size a)
    (iA : oA = ![1024 * e.val + 256 * p.val + 2 * k]) (iB : oB = ![1024 * e.val + 256 * p.val + (2 * k + 1)])
    (eA : dA = ![2 * k, 0]) (eB : dB = ![2 * k + 1, 0])
    (kA : ∀ v : BitVec 32, (∀ a, (![v.toNat, 0] : Fin 2 → ℕ) a + S1x2048.size a ≤ S16384x2048.size a) → cA v)
    (kB : ∀ v : BitVec 32, (∀ a, (![v.toNat, 0] : Fin 2 → ℕ) a + S1x2048.size a ≤ S16384x2048.size a) → cB v) :
    issueAt c (srcOf T hT e p) fh fd T qT k
      ⊢ wp frame (wpE (defs₀ (F := F)) Variants.none c none) Set.univ (issueOne oA hA dA hdA cA decA hcA (issueOne oB hB dB hdB cB decB hcB (pure ⟨⟩)))
          (fun _ => issueAt c (srcOf T hT e p) fh fd T qT (k + 1)) := by
  have he := e.isLt
  have hp := p.isLt
  refine issue_trip c (srcOf T hT e p) fh fd T qT k hk oA oB hA hB dA dB hdA hdB cA cB decA decB hcA hcB eA eB ?_ ?_
    (fun v hv => kA v (inb_src ⟨v.toNat, hv⟩)) (fun v hv => kB v (inb_src ⟨v.toNat, hv⟩))
  · intro x
    rw [read_tab T oA hA _ (by omega) iA]
    rfl
  · intro x
    rw [read_tab T oB hB _ (by omega) iB]
    rfl

/-- The rows' matrix with part `p` gathered, when the test says so. -/
def xPart (q : Prop) [Decidable q] (p : Fin 4) (src : Fin 256 → Fin 16384) (W : Vec F S256x2048 .f32 → FVec F S256x2048 .bf16)
    (fh : S16384x2048.Idx → F .f32) (xb : (Mat 1024 2048).Idx → Elt F .bf16) : (Mat 1024 2048).Idx → Elt F .bf16 :=
  if q then setBox (n := 256) (m := 2048) (256 * p.val) 0 xb (W (View.ld (gathered src fh) (boxR 256 2048 256 2048 0 0 inb_S256x2048_S256x2048_0_0))) else xb

section Gather

variable {α : Type} {arg11 : Memref sig .tc .vmem (Mat 1024 2048) .bf16} (harg11 : arg11.IsWhole)

abbrev gathP (q : Prop) [Decidable q] (l₁ l₂ : Scf.Loop 32) (ok₁ : l₁.OK) (ok₂ : l₂.OK)
    (B₁ : q → Fin l₁.trips → Unit → Pg F Unit) (B₂ : Fin l₂.trips → Unit → Pg F Unit) (b : ℕ) (inb)
    (W : Vec F S256x2048 .f32 → FVec F S256x2048 .bf16)
    (hl : arg11.view.LoadsAt (boxR 1024 2048 256 2048 b 0 inb).toLoadRect)
    (hs : (arg11.access (boxR 1024 2048 256 2048 b 0 inb)).Stores Finset.univ) (K : Pg F α) : Pg F α :=
  if h : q then
    Scf.Loop.for l₁ ok₁ () (B₁ h) >>= fun _ => Scf.Loop.for l₂ ok₂ () B₂ >>= fun _ =>
      .op (.load partM (boxR 256 2048 256 2048 0 0 inb_S256x2048_S256x2048_0_0).toLoadRect (View.loadsAt_vmem h_S256x2048)) fun v82 =>
      storeP arg11 b 0 inb (W v82) hl hs K
  else K

/-- The table, the rows, the part, the semaphore and the thread's word, as a gather finds and leaves them. -/
def kit (c : Dev nD) (T : S40960.Idx → BitVec 32) (qT : PosShare TreeShare) (fh : S16384x2048.Idx → F .f32) : sProp 𝕄 :=
  iprop((tabM.view.loc (c : Thread nD τ) ↦{qT} T) ∗ (rowsM.view.loc (c : Thread nD τ) ↦{fullShare} fh)
    ∗ (∃ fd : S256x2048.Idx → F .f32, owns (c : Thread nD τ) partM fullShare fd)
    ∗ semVal ((c : Thread nD τ), SemLoc.dma cc0_scratch3.sem) 0 ∗ (∃ W, owes (c : Thread nD τ) 0 W))

include harg11 in
theorem gath_wp (c : Dev nD) (q : Prop) [Decidable q] (p : Fin 4) (src : Fin 256 → Fin 16384)
    (T : S40960.Idx → BitVec 32) (qT : PosShare TreeShare) (fh : S16384x2048.Idx → F .f32)
    (l₁ l₂ : Scf.Loop 32) (ok₁ : l₁.OK) (ok₂ : l₂.OK) (n₁ : l₁.trips = 128) (n₂ : l₂.trips = 256)
    (B₁ : q → Fin l₁.trips → Unit → Pg F Unit) (B₂ : Fin l₂.trips → Unit → Pg F Unit)
    (h₁ : ∀ h fd k acc, issueAt c src fh fd T qT k.val ⊢ wp frame (wpE (defs₀ (F := F)) Variants.none c none) Set.univ (B₁ h k acc) (fun _ => issueAt c src fh fd T qT (k.val + 1)))
    (h₂ : ∀ k acc, drainAt c src fh k.val ⊢ wp frame (wpE (defs₀ (F := F)) Variants.none c none) Set.univ (B₂ k acc) (fun _ => drainAt c src fh (k.val + 1)))
    (b : ℕ) (hb : b = 256 * p.val) (inb) (W : Vec F S256x2048 .f32 → FVec F S256x2048 .bf16) (hl) (hs) (K : Pg F α) (xb) (Q : α → sProp 𝕄) :
    iprop(kit c T qT fh ∗ owns (c : Thread nD τ) arg11 fullShare xb)
      ⊢ iprop((kit c T qT fh ∗ owns (c : Thread nD τ) arg11 fullShare (xPart q p src W fh xb) -∗ wpP c K Q)
        -∗ wpP c (gathP (arg11 := arg11) q l₁ l₂ ok₁ ok₂ B₁ B₂ b inb W hl hs K) Q) := by
  subst hb
  by_cases h : q
  · unfold gathP xPart kit
    rw [dif_pos h, if_pos h]
    iintro ⟨⟨HT, HR, ⟨%fd, HP⟩, Hsem, HO⟩, H11⟩ Hk
    unfold wpP
    ihave HP := (show owns (c : Thread nD τ) partM fullShare fd ⊢ (partM.view.loc (c : Thread nD τ) ↦{fullShare} fd : sProp 𝕄)
      from Entails.of_eq (owns_whole _ _ _ _)) $$ HP
    iapply (gather_part c src fh fd T qT l₁ l₂ ok₁ ok₂ n₁ n₂ (B₁ h) B₂ (h₁ h fd) h₂ _ Q) $$ [HT HR HP Hsem HO]
    · isplitl [HT]; · iexact HT
      isplitl [HR]; · iexact HR
      isplitl [HP]; · iexact HP
      isplitl [Hsem]; · iexact Hsem
      iexact HO
    iintro ⟨HT, HR, HP, Hsem, HO⟩
    ihave HP := (show (partM.view.loc (c : Thread nD τ) ↦{fullShare} gathered src fh : sProp 𝕄) ⊢ owns (c : Thread nD τ) partM fullShare (gathered src fh)
      from Entails.of_eq (owns_whole _ _ _ _).symm) $$ HP
    iapply (load_wp c Q _ _ (gathered src fh) _) $$ HP
    iintro HP
    iapply (store_wp c Q harg11 (256 * p.val) 0 _ _ _ _ xb K) $$ H11
    iintro H11
    iapply Hk
    isplitr [H11]; swap; · iexact H11
    isplitl [HT]; · iexact HT
    isplitl [HR]; · iexact HR
    isplitl [HP]; · iexists _; iexact HP
    isplitl [Hsem]; · iexact Hsem
    iexact HO
  · unfold gathP xPart
    rw [dif_neg h, if_neg h]
    iintro H Hk
    iapply Hk
    iexact H

end Gather

section Body

variable (i : grid0.Coords) (arg6 : Memref sig .tc .vmem S1x2048x512 .f32) (harg6 : arg6.IsWhole)
  (arg7 : Memref sig .tc .vmem S1x2048x512 .f32) (harg7 : arg7.IsWhole) (arg8 : Memref sig .tc .vmem S1x5632x256 .f32)
  (harg8 : arg8.IsWhole) (arg9 : Memref sig .tc .vmem S1024x256 .f32) (harg9 : arg9.IsWhole)
  (arg11 : Memref sig .tc .vmem S1024x2048 .bf16)
  (harg11 : arg11.IsWhole) (arg12 : Memref sig .tc .vmem S1024x5632 .bf16) (harg12 : arg12.IsWhole)

/-- The kernel's tests of the number of rows. -/
abbrev between (v a b : BitVec 32) : BitVec 1 := Scalar.andi (Scalar.cmpi .sgt v a) (Scalar.cmpi .sle v b)

theorem part5_eq :
    k0_part5 (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3
      = smemLoadElt (Memref.whole main_arg1) (Rect.unit (s := S40) (k0_off1 i) S1.size (k0_off1_inb i)) (View.loads_smem_one rfl numel1_S1) (Shape.Idx.first (numel1_S1.symm ▸ Nat.one_pos)) fun (v1 : BitVec 32) => (
        gathP (arg11 := arg11) (k0_cond1 i v1 = 1#1) k0_t1_loop k0_t2_loop k0_t1_ok k0_t2_ok
          (fun h => k0_t1_body (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 v1 h) (k0_t2_body (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3)
          0 inb_S1024x2048_S256x2048_0_0 k0_pay29 (View.loadsAt_vmem h_S256x2048) (View.stores_vmem h_S256x2048 (harg11.storeExact_slice rfl _ packedbf16_S1024x2048_S256x2048_0_0) (fun _ => rfl)) <|
        gathP (arg11 := arg11) (k0_cond2 i v1 = 1#1) k0_t3_loop k0_t4_loop k0_t3_ok k0_t4_ok
          (fun h => k0_t3_body (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 v1 h) (k0_t4_body (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3)
          256 inb_S1024x2048_S256x2048_256_0 k0_pay30 (View.loadsAt_vmem h_S256x2048) (View.stores_vmem h_S256x2048 (harg11.storeExact_slice rfl _ packedbf16_S1024x2048_S256x2048_256_0) (fun _ => rfl)) <|
        gathP (arg11 := arg11) (k0_cond3 i v1 = 1#1) k0_t5_loop k0_t6_loop k0_t5_ok k0_t6_ok
          (fun h => k0_t5_body (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 v1 h) (k0_t6_body (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3)
          512 inb_S1024x2048_S256x2048_512_0 k0_pay31 (View.loadsAt_vmem h_S256x2048) (View.stores_vmem h_S256x2048 (harg11.storeExact_slice rfl _ packedbf16_S1024x2048_S256x2048_512_0) (fun _ => rfl)) <|
        gathP (arg11 := arg11) (k0_cond4 i v1 = 1#1) k0_t7_loop k0_t8_loop k0_t7_ok k0_t8_ok
          (fun h => k0_t7_body (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 v1 h) (k0_t8_body (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3)
          768 inb_S1024x2048_S256x2048_768_0 k0_pay32 (View.loadsAt_vmem h_S256x2048) (View.stores_vmem h_S256x2048 (harg11.storeExact_slice rfl _ packedbf16_S1024x2048_S256x2048_768_0) (fun _ => rfl)) <|
        pure ⟨BitVec.ofNat 32 (i 1).val, v1, between v1 0#32 256#32, between v1 256#32 512#32, between v1 512#32 768#32, between v1 768#32 1024#32⟩) := rfl

theorem issue0 (c : Dev nD) (T : S40960.Idx → BitVec 32) (hT : ∀ y, (T y).toNat < 16384) (fh : S16384x2048.Idx → F .f32) (qT : PosShare TreeShare)
    (v1 : BitVec 32) (h : k0_cond1 i v1 = 1#1) (fd : S256x2048.Idx → F .f32) (k : Fin k0_t1_loop.trips) (acc : Unit) :
    issueAt c (srcOf T hT (i 0) 0) fh fd T qT k.val ⊢ wp frame (wpE (defs₀ (F := F)) Variants.none c none) Set.univ
      (k0_t1_body i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 v1 h k acc) (fun _ => issueAt c (srcOf T hT (i 0) 0) fh fd T qT (k.val + 1)) :=
  trip_wp c T hT (i 0) 0 fh fd qT k.val k.isLt _ _ (k0_off2_inb i k) (k0_off5_inb i k) _ _ (k0_off3_inb k) (k0_off6_inb k)
    (k0_chk1 i v1) (k0_chk2 i v1) (k0_chk1.dec i v1) (k0_chk2.dec i v1) (fun v hv => hv h) (fun v hv => hv h)
    ((k0_off2_eq i k).trans (congrArg (fun a : ℕ => (![a] : Fin 1 → ℕ)) (show _ = 1024 * (i 0).val + 0 + 2 * k.val by omega)))
    ((k0_off5_eq i k).trans (congrArg (fun a : ℕ => (![a] : Fin 1 → ℕ)) (show _ = 1024 * (i 0).val + 0 + (2 * k.val + 1) by omega)))
    (k0_off3_eq k) (k0_off6_eq k) (fun v hv _ => hv) (fun v hv _ => hv)

theorem drain0 (c : Dev nD) (src : Fin 256 → Fin 16384) (fh : S16384x2048.Idx → F .f32) (k : Fin k0_t2_loop.trips) (acc : Unit) :
    drainAt c src fh k.val ⊢ wp frame (wpE (defs₀ (F := F)) Variants.none c none) Set.univ
      (k0_t2_body i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 k acc) (fun _ => drainAt c src fh (k.val + 1)) :=
  drain_trip c src fh k.val k.isLt _ (k0_off8_inb k)

theorem issue1 (c : Dev nD) (T : S40960.Idx → BitVec 32) (hT : ∀ y, (T y).toNat < 16384) (fh : S16384x2048.Idx → F .f32) (qT : PosShare TreeShare)
    (v1 : BitVec 32) (h : k0_cond2 i v1 = 1#1) (fd : S256x2048.Idx → F .f32) (k : Fin k0_t3_loop.trips) (acc : Unit) :
    issueAt c (srcOf T hT (i 0) 1) fh fd T qT k.val ⊢ wp frame (wpE (defs₀ (F := F)) Variants.none c none) Set.univ
      (k0_t3_body i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 v1 h k acc) (fun _ => issueAt c (srcOf T hT (i 0) 1) fh fd T qT (k.val + 1)) :=
  trip_wp c T hT (i 0) 1 fh fd qT k.val k.isLt _ _ (k0_off9_inb i k) (k0_off12_inb i k) _ _ (k0_off10_inb k) (k0_off13_inb k)
    (k0_chk3 i v1) (k0_chk4 i v1) (k0_chk3.dec i v1) (k0_chk4.dec i v1) (fun v hv => hv h) (fun v hv => hv h)
    ((k0_off9_eq i k).trans (congrArg (fun a : ℕ => (![a] : Fin 1 → ℕ)) (show _ = 1024 * (i 0).val + 256 + 2 * k.val by omega)))
    ((k0_off12_eq i k).trans (congrArg (fun a : ℕ => (![a] : Fin 1 → ℕ)) (show _ = 1024 * (i 0).val + 256 + (2 * k.val + 1) by omega)))
    (k0_off10_eq k) (k0_off13_eq k) (fun v hv _ => hv) (fun v hv _ => hv)

theorem drain1 (c : Dev nD) (src : Fin 256 → Fin 16384) (fh : S16384x2048.Idx → F .f32) (k : Fin k0_t4_loop.trips) (acc : Unit) :
    drainAt c src fh k.val ⊢ wp frame (wpE (defs₀ (F := F)) Variants.none c none) Set.univ
      (k0_t4_body i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 k acc) (fun _ => drainAt c src fh (k.val + 1)) :=
  drain_trip c src fh k.val k.isLt _ (k0_off15_inb k)

theorem issue2 (c : Dev nD) (T : S40960.Idx → BitVec 32) (hT : ∀ y, (T y).toNat < 16384) (fh : S16384x2048.Idx → F .f32) (qT : PosShare TreeShare)
    (v1 : BitVec 32) (h : k0_cond3 i v1 = 1#1) (fd : S256x2048.Idx → F .f32) (k : Fin k0_t5_loop.trips) (acc : Unit) :
    issueAt c (srcOf T hT (i 0) 2) fh fd T qT k.val ⊢ wp frame (wpE (defs₀ (F := F)) Variants.none c none) Set.univ
      (k0_t5_body i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 v1 h k acc) (fun _ => issueAt c (srcOf T hT (i 0) 2) fh fd T qT (k.val + 1)) :=
  trip_wp c T hT (i 0) 2 fh fd qT k.val k.isLt _ _ (k0_off16_inb i k) (k0_off19_inb i k) _ _ (k0_off17_inb k) (k0_off20_inb k)
    (k0_chk5 i v1) (k0_chk6 i v1) (k0_chk5.dec i v1) (k0_chk6.dec i v1) (fun v hv => hv h) (fun v hv => hv h)
    ((k0_off16_eq i k).trans (congrArg (fun a : ℕ => (![a] : Fin 1 → ℕ)) (show _ = 1024 * (i 0).val + 512 + 2 * k.val by omega)))
    ((k0_off19_eq i k).trans (congrArg (fun a : ℕ => (![a] : Fin 1 → ℕ)) (show _ = 1024 * (i 0).val + 512 + (2 * k.val + 1) by omega)))
    (k0_off17_eq k) (k0_off20_eq k) (fun v hv _ => hv) (fun v hv _ => hv)

theorem drain2 (c : Dev nD) (src : Fin 256 → Fin 16384) (fh : S16384x2048.Idx → F .f32) (k : Fin k0_t6_loop.trips) (acc : Unit) :
    drainAt c src fh k.val ⊢ wp frame (wpE (defs₀ (F := F)) Variants.none c none) Set.univ
      (k0_t6_body i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 k acc) (fun _ => drainAt c src fh (k.val + 1)) :=
  drain_trip c src fh k.val k.isLt _ (k0_off22_inb k)

theorem issue3 (c : Dev nD) (T : S40960.Idx → BitVec 32) (hT : ∀ y, (T y).toNat < 16384) (fh : S16384x2048.Idx → F .f32) (qT : PosShare TreeShare)
    (v1 : BitVec 32) (h : k0_cond4 i v1 = 1#1) (fd : S256x2048.Idx → F .f32) (k : Fin k0_t7_loop.trips) (acc : Unit) :
    issueAt c (srcOf T hT (i 0) 3) fh fd T qT k.val ⊢ wp frame (wpE (defs₀ (F := F)) Variants.none c none) Set.univ
      (k0_t7_body i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 v1 h k acc) (fun _ => issueAt c (srcOf T hT (i 0) 3) fh fd T qT (k.val + 1)) :=
  trip_wp c T hT (i 0) 3 fh fd qT k.val k.isLt _ _ (k0_off23_inb i k) (k0_off26_inb i k) _ _ (k0_off24_inb k) (k0_off27_inb k)
    (k0_chk7 i v1) (k0_chk8 i v1) (k0_chk7.dec i v1) (k0_chk8.dec i v1) (fun v hv => hv h) (fun v hv => hv h)
    ((k0_off23_eq i k).trans (congrArg (fun a : ℕ => (![a] : Fin 1 → ℕ)) (show _ = 1024 * (i 0).val + 768 + 2 * k.val by omega)))
    ((k0_off26_eq i k).trans (congrArg (fun a : ℕ => (![a] : Fin 1 → ℕ)) (show _ = 1024 * (i 0).val + 768 + (2 * k.val + 1) by omega)))
    (k0_off24_eq k) (k0_off27_eq k) (fun v hv _ => hv) (fun v hv _ => hv)

theorem drain3 (c : Dev nD) (src : Fin 256 → Fin 16384) (fh : S16384x2048.Idx → F .f32) (k : Fin k0_t8_loop.trips) (acc : Unit) :
    drainAt c src fh k.val ⊢ wp frame (wpE (defs₀ (F := F)) Variants.none c none) Set.univ
      (k0_t8_body i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 k acc) (fun _ => drainAt c src fh (k.val + 1)) :=
  drain_trip c src fh k.val k.isLt _ (k0_off29_inb k)

/-- The rows' matrix after the body's gathers. -/
def xStep (T : S40960.Idx → BitVec 32) (hT : ∀ y, (T y).toNat < 16384) (v1 : BitVec 32) (fh : S16384x2048.Idx → F .f32)
    (xb : (Mat 1024 2048).Idx → Elt F .bf16) : (Mat 1024 2048).Idx → Elt F .bf16 :=
  xPart (k0_cond4 i v1 = 1#1) 3 (srcOf T hT (i 0) 3) k0_pay32 fh <|
  xPart (k0_cond3 i v1 = 1#1) 2 (srcOf T hT (i 0) 2) k0_pay31 fh <|
  xPart (k0_cond2 i v1 = 1#1) 1 (srcOf T hT (i 0) 1) k0_pay30 fh <|
  xPart (k0_cond1 i v1 = 1#1) 0 (srcOf T hT (i 0) 0) k0_pay29 fh xb

abbrev slice (i : grid0.Coords) : BitVec 32 := BitVec.ofNat 32 (i 1).val

/-- The hidden units after the body. -/
def gStep (n : ℕ) (v1 : BitVec 32) (xb : (Mat 1024 2048).Idx → Elt F .bf16)
    (f6 f7 : S1x2048x512.Idx → Elt F .f32) (g : (Mat 1024 5632).Idx → Elt F .bf16) : (Mat 1024 5632).Idx → Elt F .bf16 :=
  match n with
  | 1 => gUp1 (slice i) (between v1 0#32 256#32) (between v1 256#32 512#32) (between v1 512#32 768#32) (between v1 768#32 1024#32) xb f6 f7 g
  | 2 => gUp2 (slice i) (between v1 0#32 256#32) (between v1 256#32 512#32) (between v1 512#32 768#32) (between v1 768#32 1024#32) xb f6 f7 g
  | 3 => gUp3 (slice i) (between v1 0#32 256#32) (between v1 256#32 512#32) (between v1 512#32 768#32) (between v1 768#32 1024#32) xb f6 f7 g
  | _ => gUp4 (slice i) (between v1 0#32 256#32) (between v1 256#32 512#32) (between v1 512#32 768#32) (between v1 768#32 1024#32) xb f6 f7 g

/-- The output's rows from `b` on are zeros, when the test says so. -/
def zeroO (q : Prop) [Decidable q] (b : ℕ) (w : FVec F (Mat 256 256) .f32) (o : (Mat 1024 256).Idx → Elt F .f32) : (Mat 1024 256).Idx → Elt F .f32 :=
  if q then setBox b 0 o w else o

/-- The output's block after the body. -/
def oStep (v1 : BitVec 32) (xb : (Mat 1024 2048).Idx → Elt F .bf16) (f6 f7 : S1x2048x512.Idx → Elt F .f32) (f8 : S1x5632x256.Idx → Elt F .f32)
    (g : (Mat 1024 5632).Idx → Elt F .bf16) (o : (Mat 1024 256).Idx → Elt F .f32) : (Mat 1024 256).Idx → Elt F .f32 :=
  zeroO (k0_cond60 v1 = 1#1) 768 k0_pay4 <| zeroO (k0_cond59 v1 = 1#1) 512 k0_pay3 <|
  zeroO (k0_cond58 v1 = 1#1) 256 k0_pay2 <| zeroO (k0_cond57 v1 = 1#1) 0 k0_pay1 <|
  oDown i v1 (gStep i 1 v1 xb f6 f7 g) (gStep i 2 v1 xb f6 f7 g) (gStep i 3 v1 xb f6 f7 g) (gStep i 4 v1 xb f6 f7 g) f8 o

/-- The table of the tiles' numbers of rows. -/
abbrev cntM : Memref sig .tc .smem S40 .i32 := Memref.whole main_arg1

theorem read_cnt (T : S40.Idx → BitVec 32) (x) : (cntM.access (Rect.unit (s := S40) (k0_off1 i) S1.size (k0_off1_inb i))).read (Elt F) T x = T (ix1 (i 0)) := by
  show T _ = T _
  refine congrArg T (funext fun a => Fin.ext ?_)
  fin_cases a
  have : (x 0).val < 1 := (x 0).isLt
  have h : k0_off1 i 0 = (i 0).val := by rw [k0_off1_eq]; rfl
  show k0_off1 i 0 + 1 * (x 0).val = (i 0).val
  omega

include harg11 in
theorem part5_wp (c : Dev nD) (TR : S40.Idx → BitVec 32) (qR : PosShare TreeShare) (T : S40960.Idx → BitVec 32) (hT : ∀ y, (T y).toNat < 16384)
    (qT : PosShare TreeShare) (fh : S16384x2048.Idx → F .f32) (xb)
    (Q : (Σ' (arg1 : BitVec 32) (v1 : Elt F .i32) (v4 : BitVec 1) (v7 : BitVec 1) (v10 : BitVec 1), BitVec 1) → sProp 𝕄) (v1 : BitVec 32) (hv : v1 = TR (ix1 (i 0))) :
    iprop((cntM.view.loc (c : Thread nD τ) ↦{qR} TR) ∗ kit c T qT fh ∗ owns (c : Thread nD τ) arg11 fullShare xb)
      ⊢ iprop(((cntM.view.loc (c : Thread nD τ) ↦{qR} TR) ∗ kit c T qT fh ∗ owns (c : Thread nD τ) arg11 fullShare (xStep i T hT v1 fh xb)
          -∗ Q ⟨slice i, v1, between v1 0#32 256#32, between v1 256#32 512#32, between v1 512#32 768#32, between v1 768#32 1024#32⟩)
        -∗ wpP c (k0_part5 i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3) Q) := by
  rw [part5_eq]
  iintro ⟨HC, HK, H11⟩ Hk
  unfold wpP
  iapply (wp_smemLoadElt_named Variants.none (c : Thread nD τ) none Set.univ (m := cntM)) $$ HC
  iintro HC %v %hw
  obtain rfl : v = v1 := (hw.trans (read_cnt i TR _)).trans hv.symm
  iapply (gath_wp harg11 c (k0_cond1 i v = 1#1) 0 (srcOf T hT (i 0) 0) T qT fh _ _ _ _ (by decide +kernel) (by decide +kernel) _ _
    (fun h fd k acc => issue0 i arg6 harg6 arg7 harg7 arg8 harg8 arg9 harg9 arg11 harg11 arg12 harg12 c T hT fh qT v h fd k acc)
    (fun k acc => drain0 i arg6 harg6 arg7 harg7 arg8 harg8 arg9 harg9 arg11 harg11 arg12 harg12 c _ fh k acc) _ rfl _ _ _ _ _ _ Q) $$ [HK H11]
  · isplitl [HK]; · iexact HK
    iexact H11
  iintro ⟨HK, H11⟩
  iapply (gath_wp harg11 c (k0_cond2 i v = 1#1) 1 (srcOf T hT (i 0) 1) T qT fh _ _ _ _ (by decide +kernel) (by decide +kernel) _ _
    (fun h fd k acc => issue1 i arg6 harg6 arg7 harg7 arg8 harg8 arg9 harg9 arg11 harg11 arg12 harg12 c T hT fh qT v h fd k acc)
    (fun k acc => drain1 i arg6 harg6 arg7 harg7 arg8 harg8 arg9 harg9 arg11 harg11 arg12 harg12 c _ fh k acc) _ rfl _ _ _ _ _ _ Q) $$ [HK H11]
  · isplitl [HK]; · iexact HK
    iexact H11
  iintro ⟨HK, H11⟩
  iapply (gath_wp harg11 c (k0_cond3 i v = 1#1) 2 (srcOf T hT (i 0) 2) T qT fh _ _ _ _ (by decide +kernel) (by decide +kernel) _ _
    (fun h fd k acc => issue2 i arg6 harg6 arg7 harg7 arg8 harg8 arg9 harg9 arg11 harg11 arg12 harg12 c T hT fh qT v h fd k acc)
    (fun k acc => drain2 i arg6 harg6 arg7 harg7 arg8 harg8 arg9 harg9 arg11 harg11 arg12 harg12 c _ fh k acc) _ rfl _ _ _ _ _ _ Q) $$ [HK H11]
  · isplitl [HK]; · iexact HK
    iexact H11
  iintro ⟨HK, H11⟩
  iapply (gath_wp harg11 c (k0_cond4 i v = 1#1) 3 (srcOf T hT (i 0) 3) T qT fh _ _ _ _ (by decide +kernel) (by decide +kernel) _ _
    (fun h fd k acc => issue3 i arg6 harg6 arg7 harg7 arg8 harg8 arg9 harg9 arg11 harg11 arg12 harg12 c T hT fh qT v h fd k acc)
    (fun k acc => drain3 i arg6 harg6 arg7 harg7 arg8 harg8 arg9 harg9 arg11 harg11 arg12 harg12 c _ fh k acc) _ rfl _ _ _ _ _ _ Q) $$ [HK H11]
  · isplitl [HK]; · iexact HK
    iexact H11
  iintro ⟨HK, H11⟩
  unfold wpP
  sl_step
  iapply Hk
  isplitl [HC]; · iexact HC
  isplitl [HK]; · iexact HK
  iexact H11

theorem body_parts :
    cc0_moe_experts (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3
      = k0_part5 (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 >>= fun r =>
        (k0_part6 (F := F) i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3 r.1 r.2.1 r.2.2.1 r.2.2.2.1 r.2.2.2.2.1 r.2.2.2.2.2 >>= fun _ =>
          condP (k0_cond57 r.2.1 = 1#1) arg9 0 0 inb_S1024x256_S256x256_0_0 (k0_pay1 (F := F)) (View.loadsAt_vmem h_S256x256) (View.stores_vmem_bits_univ h_S256x256 rfl) <|
          condP (k0_cond58 r.2.1 = 1#1) arg9 256 0 inb_S1024x256_S256x256_256_0 (k0_pay2 (F := F)) (View.loadsAt_vmem h_S256x256) (View.stores_vmem_bits_univ h_S256x256 rfl) <|
          condP (k0_cond59 r.2.1 = 1#1) arg9 512 0 inb_S1024x256_S256x256_512_0 (k0_pay3 (F := F)) (View.loadsAt_vmem h_S256x256) (View.stores_vmem_bits_univ h_S256x256 rfl) <|
          condP (k0_cond60 r.2.1 = 1#1) arg9 768 0 inb_S1024x256_S256x256_768_0 (k0_pay4 (F := F)) (View.loadsAt_vmem h_S256x256) (View.stores_vmem_bits_univ h_S256x256 rfl) <|
          pure ⟨⟩) := rfl

include harg9 harg11 in
/-- The body at a grid point. -/
theorem body_wp (c : Dev nD) (TR : S40.Idx → BitVec 32) (qR : PosShare TreeShare) (T : S40960.Idx → BitVec 32) (hT : ∀ y, (T y).toNat < 16384)
    (qT : PosShare TreeShare) (fh : S16384x2048.Idx → F .f32) (xb g f6 f7 f8 o) (v1 : BitVec 32) (hv : v1 = TR (ix1 (i 0)))
    (Q : PUnit → sProp 𝕄) :
    iprop((cntM.view.loc (c : Thread nD τ) ↦{qR} TR) ∗ kit c T qT fh ∗
        owns (c : Thread nD τ) arg6 fullShare f6 ∗ owns (c : Thread nD τ) arg7 fullShare f7 ∗ owns (c : Thread nD τ) arg8 fullShare f8 ∗
        owns (c : Thread nD τ) arg9 fullShare o ∗ owns (c : Thread nD τ) arg11 fullShare xb ∗ owns (c : Thread nD τ) arg12 fullShare g)
      ⊢ iprop(((cntM.view.loc (c : Thread nD τ) ↦{qR} TR) ∗ kit c T qT fh ∗
          owns (c : Thread nD τ) arg6 fullShare f6 ∗ owns (c : Thread nD τ) arg7 fullShare f7 ∗ owns (c : Thread nD τ) arg8 fullShare f8 ∗
          owns (c : Thread nD τ) arg9 fullShare (oStep i v1 (xStep i T hT v1 fh xb) f6 f7 f8 g o) ∗
          owns (c : Thread nD τ) arg11 fullShare (xStep i T hT v1 fh xb) ∗
          owns (c : Thread nD τ) arg12 fullShare (gStep i 4 v1 (xStep i T hT v1 fh xb) f6 f7 g)
          -∗ Q ⟨⟩)
        -∗ wpP c (cc0_moe_experts i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3) Q) := by
  rw [body_parts]
  iintro ⟨HC, HK, H6, H7, H8, H9, H11, H12⟩ Hk
  unfold wpP
  rw [wp_bind]
  iapply (part5_wp i arg6 harg6 arg7 harg7 arg8 harg8 arg9 harg9 arg11 harg11 arg12 harg12 c TR qR T hT qT fh xb _ v1 hv) $$ [HC HK H11]
  · isplitl [HC]; · iexact HC
    isplitl [HK]; · iexact HK
    iexact H11
  iintro ⟨HC, HK, H11⟩
  rw [wp_bind]
  iapply (part6_wp i (Memref.whole main_arg0) (Memref.isWhole_whole _) (Memref.whole main_arg1) (Memref.isWhole_whole _) tabM (Memref.isWhole_whole _) rowsM (Memref.isWhole_whole _) arg6 harg6 arg7 harg7 arg8 harg8 arg9 harg9 partM (Memref.isWhole_whole _) arg11 harg11 arg12 harg12 cc0_scratch3
    c (slice i) v1 _ _ _ _ (xStep i T hT v1 fh xb) f6 f7 f8 g o _) $$ [H6 H7 H8 H9 H11 H12]
  · isplitl [H6]; · iexact H6
    isplitl [H7]; · iexact H7
    isplitl [H8]; · iexact H8
    isplitl [H9]; · iexact H9
    isplitl [H11]; · iexact H11
    iexact H12
  iintro ⟨H6, H7, H8, H9, H11, H12⟩
  iapply (cond_wp c Q (k0_cond57 v1 = 1#1) harg9 0 0 _ _ _ _ _ _) $$ H9
  iintro H9
  iapply (cond_wp c Q (k0_cond58 v1 = 1#1) harg9 256 0 _ _ _ _ _ _) $$ H9
  iintro H9
  iapply (cond_wp c Q (k0_cond59 v1 = 1#1) harg9 512 0 _ _ _ _ _ _) $$ H9
  iintro H9
  iapply (cond_wp c Q (k0_cond60 v1 = 1#1) harg9 768 0 _ _ _ _ _ _) $$ H9
  iintro H9
  unfold wpP
  sl_step
  iapply Hk
  isplitl [HC]; · iexact HC
  isplitl [HK]; · iexact HK
  isplitl [H6]; · iexact H6
  isplitl [H7]; · iexact H7
  isplitl [H8]; · iexact H8
  isplitl [H9]; · iexact H9
  isplitl [H11]; · iexact H11
  iexact H12

end Body

end Cert.Kernel5Ideal.Moe
-- ==== Proof.MoeFrame.lean ====
/-
  The experts' call: the launch, what the scratches hold from point to point, and what the arrays hold after the run.
-/
module

public import proofs.«01_k».proof.Proof.MoeBody
public import Idealize.ShloMosaic.Lib.Pipeline.FrameBody
public import Idealize.ShloMosaic.Lib.Claim

@[expose] public section

set_option maxRecDepth 16384

noncomputable section

namespace Cert.Kernel5Ideal.Moe

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- The buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The tables. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The blocks that the first table names lie inside their arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev expM : Memref sig .tc .smem S40 .i32 := Memref.whole main_arg0

/-- The halves of the tables that the body reads. -/
theorem tables_eq (c : Dev nD) : (Pipeline.ΦT pre0 (tbl m) c : sProp 𝕄)
    = iprop((expM.view.loc (c : Thread nD τ) ↦{fullShare.right} tbl m 0) ∗ (cntM.view.loc (c : Thread nD τ) ↦{fullShare.right} tbl m 1)
        ∗ (tabM.view.loc (c : Thread nD τ) ↦{fullShare.right} tbl m 2)) := by
  unfold Pipeline.ΦT Pipeline.prefHeld
  exact bigSep_univ_eq_bigSepL [(0 : Fin 3), (1 : Fin 3), (2 : Fin 3)] (by decide) (by decide) _

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S1x2048x512 .f32 := spec0_0.stage ((cfgM m hO).slots t 0)
abbrev ms1 (hO : Ok m) (t : Fin (cfgM m hO).N) : Memref sig .tc .vmem S1x2048x512 .f32 := spec0_1.stage ((cfgM m hO).slots t 1)
abbrev ms2 (hO : Ok m) (t : Fin (cfgM m hO).N) : Memref sig .tc .vmem S1x5632x256 .f32 := spec0_2.stage ((cfgM m hO).slots t 2)
abbrev ms3 (hO : Ok m) (t : Fin (cfgM m hO).N) : Memref sig .tc .vmem S1024x256 .f32 := spec0_3.stage ((cfgM m hO).slots t 3)
abbrev hs0 (hO : Ok m) (t : Fin (cfgM m hO).N) : (ms0 m hO t).IsWhole := hstage0_0 (((cfgM m hO).slots t 0).cast nbuf0_0)
abbrev hs1 (hO : Ok m) (t : Fin (cfgM m hO).N) : (ms1 m hO t).IsWhole := hstage0_1 (((cfgM m hO).slots t 1).cast nbuf0_1)
abbrev hs2 (hO : Ok m) (t : Fin (cfgM m hO).N) : (ms2 m hO t).IsWhole := hstage0_2 (((cfgM m hO).slots t 2).cast nbuf0_2)
abbrev hs3 (hO : Ok m) (t : Fin (cfgM m hO).N) : (ms3 m hO t).IsWhole := hstage0_3 (((cfgM m hO).slots t 3).cast nbuf0_3)
abbrev xM : Memref sig .tc .vmem S1024x2048 .bf16 := Memref.whole cc0_scratch1
abbrev gM : Memref sig .tc .vmem S1024x5632 .bf16 := Memref.whole cc0_scratch2

/-- The body's own semaphore. -/
abbrev ownSem : Fin 1 → SemLoc sig := fun j => (![SemLoc.dma cc0_scratch3.sem] : Fin 1 → SemLoc sig) j
theorem own_facts : Pipeline.OwnSemFacts spec0 ownSem := by decide
theorem own_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma cc0_scratch3.sem) 0) := by
  rw [Pipeline.ownSems0_eq_of_list c ownSem [0] (by decide) (by decide)]; rfl

/-- The rows that the body gathers itself. -/
def own : Finset (Ref sig .tc) := {main_arg3}
theorem own_sub : own ⊆ Pipeline.restRefsP sig pre0 spec0 := by decide
theorem rows_pts (c : Dev nD) :
    (bigSep own (fun b => ((c : Thread nD τ).loc b) ↦{fullShare} V m c b) : sProp 𝕄) = iprop(rowsM.view.loc (c : Thread nD τ) ↦{fullShare} V m c main_arg3) := by
  rw [BI.bigSep_eq_bigSepL_of_eq [main_arg3] (by decide) (by decide)]; rfl

theorem rest_eq (c : Dev nD) :
    (Pipeline.ΦD ownSem spec0 own (V m) c : sProp 𝕄)
      = iprop(iprop((∃ d, owns (c : Thread nD τ) partM fullShare d) ∗ (∃ d, owns (c : Thread nD τ) xM fullShare d) ∗ (∃ d, owns (c : Thread nD τ) gM fullShare d))
          ∗ (∃ r, prngReg c r) ∗ iprop(semVal ((c : Thread nD τ), SemLoc.dma cc0_scratch3.sem) 0) ∗ iprop(rowsM.view.loc (c : Thread nD τ) ↦{fullShare} V m c main_arg3)) := by
  rw [Pipeline.ΦD_eq, scopedRest0_eq, own_eq, rows_pts]; simp only [partM, xM, gM, owns_whole]; try rfl

/-! ## What the scratches hold -/

theorem lt_N (t : Fin grid0.N) : t.val < 760 := lt_of_lt_of_eq t.isLt N_0

/-- The point of a number. -/
def pt (k : ℕ) : Fin grid0.N := ⟨min k 759, lt_of_lt_of_eq (by omega : min k 759 < 760) N_0.symm⟩

theorem pt_self (t : Fin grid0.N) : pt t.val = t := Fin.ext (by
  have := lt_N t
  show min t.val 759 = t.val
  omega)

/-- The number of rows of the point's tile. -/
def cnt (t : Fin grid0.N) : BitVec 32 := (tbl m 1 : S40.Idx → BitVec 32) (ix1 (grid0.coords t 0))

variable (hO : Ok m) (hT : ∀ y : S40960.Idx, ((tbl m 2 : S40960.Idx → BitVec 32) y).toNat < 16384)

/-- The rows after point `t`, from those before it. -/
def xNext (c : Dev nD) (t : Fin grid0.N) (xb : (Mat 1024 2048).Idx → Elt F .bf16) : (Mat 1024 2048).Idx → Elt F .bf16 :=
  xStep (grid0.coords t) (tbl m 2) hT (cnt m t) (V m c main_arg3) xb

/-- What the scratches may hold before point `t`. -/
def Reach (c : Dev nD) : ℕ → ((Mat 1024 2048).Idx → Elt F .bf16) → ((Mat 1024 5632).Idx → Elt F .bf16) → Prop
  | 0, _, _ => True
  | k + 1, xb, g => ∃ xb₀ g₀, Reach c k xb₀ g₀ ∧ xb = xNext m hT c (pt k) xb₀
      ∧ g = gStep (grid0.coords (pt k)) 4 (cnt m (pt k)) (xNext m hT c (pt k) xb₀) (iblk m hO c 0 (pt k)) (iblk m hO c 1 (pt k)) g₀

/-- The output's block after point `t`. -/
def oNext (c : Dev nD) (t : Fin grid0.N) (xb : (Mat 1024 2048).Idx → Elt F .bf16) (g : (Mat 1024 5632).Idx → Elt F .bf16)
    (o : (Mat 1024 256).Idx → Elt F .f32) : (Mat 1024 256).Idx → Elt F .f32 :=
  oStep (grid0.coords t) (cnt m t) (xNext m hT c t xb) (iblk m hO c 0 t) (iblk m hO c 1 t) (iblk m hO c 2 t) g o

/-- The invariant. -/
def inv (c : Dev nD) (k : ℕ) : sProp 𝕄 :=
  iprop((∃ xb g, ⌜Reach m hO hT c k xb g⌝ ∗ owns (c : Thread nD τ) xM fullShare xb ∗ owns (c : Thread nD τ) gM fullShare g)
    ∗ (∃ d, owns (c : Thread nD τ) partM fullShare d) ∗ (∃ r, prngReg c r)
    ∗ semVal ((c : Thread nD τ), SemLoc.dma cc0_scratch3.sem) 0 ∗ (rowsM.view.loc (c : Thread nD τ) ↦{fullShare} V m c main_arg3)
    ∗ (expM.view.loc (c : Thread nD τ) ↦{fullShare.right} tbl m 0) ∗ (cntM.view.loc (c : Thread nD τ) ↦{fullShare.right} tbl m 1)
    ∗ (tabM.view.loc (c : Thread nD τ) ↦{fullShare.right} tbl m 2))

/-- The proof data: an input's buffer is left as found, the output's as the body leaves it. -/
def data (c : Dev nD) : Pipeline.RDat τ (Elt F) Unit ℕ (Pipeline.UD sig nD τ) ℕ ((Pipeline.pin pcfgs fun _ => adm m hO) 0) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => ∃ xb g, Reach m hO hT c t.val xb g ∧ X = oNext m hO hT c t xb g Y
  Φ t := inv m hO hT c t.val
  q _ := fullShare
  owed _ := 0

theorem data_inv (c : Dev nD) (k) : (data m hO hT c).Φ k = inv m hO hT c k.val := by dsimp only [data]

theorem found0 (c : Dev nD) (t) (Y) (h : (data m hO hT c).Finds 0 t Y) : Y = iblk m hO c 0 t := by
  obtain ⟨d, hd⟩ := (data m hO hT c).finds_in_eq_fetched 0 rfl (fun _ _ _ => rfl) (fun _ _ _ h => h) t Y h
  exact hd.trans rfl
theorem found1 (c : Dev nD) (t) (Y) (h : (data m hO hT c).Finds 1 t Y) : Y = iblk m hO c 1 t := by
  obtain ⟨d, hd⟩ := (data m hO hT c).finds_in_eq_fetched 1 rfl (fun _ _ _ => rfl) (fun _ _ _ h => h) t Y h
  exact hd.trans rfl
theorem found2 (c : Dev nD) (t) (Y) (h : (data m hO hT c).Finds 2 t Y) : Y = iblk m hO c 2 t := by
  obtain ⟨d, hd⟩ := (data m hO hT c).finds_in_eq_fetched 2 rfl (fun _ _ _ => rfl) (fun _ _ _ h => h) t Y h
  exact hd.trans rfl

/-- The body as the point runs it. -/
abbrev bodyAt (t : Fin (cfgM m hO).N) : Pg F PUnit :=
  cc0_moe_experts (grid0.coords t) expM (Memref.isWhole_whole _) cntM (Memref.isWhole_whole _) tabM (Memref.isWhole_whole _) rowsM (Memref.isWhole_whole _)
    (ms0 m hO t) (hs0 m hO t) (ms1 m hO t) (hs1 m hO t) (ms2 m hO t) (hs2 m hO t) (ms3 m hO t) (hs3 m hO t)
    partM (Memref.isWhole_whole _) xM (Memref.isWhole_whole _) gM (Memref.isWhole_whole _) cc0_scratch3

theorem defs_row (t : Fin (cfgM m hO).N) :
    defs₀ (F := F) .tc (cfgM m hO).body ((cfgM m hO).bodyArgs t ((cfgM m hO).slots t)) = bodyAt m hO t := by
  unfold defs₀; rw [Defs.onTc_tc]

set_option maxHeartbeats 1000000 in
theorem sound (c : Dev nD) (t : Fin (cfgM m hO).N) (o : S1024x256.Idx → Elt F .f32) :
    iprop(inv m hO hT c t.val ∗ (data m hO hT c).owesAt () t.castSucc
        ∗ owns (c : Thread nD τ) (ms0 m hO t) fullShare (iblk m hO c 0 t) ∗ owns (c : Thread nD τ) (ms1 m hO t) fullShare (iblk m hO c 1 t)
        ∗ owns (c : Thread nD τ) (ms2 m hO t) fullShare (iblk m hO c 2 t) ∗ owns (c : Thread nD τ) (ms3 m hO t) fullShare o)
      ⊢ wp frame (wpE (defs₀ (F := F)) Variants.none c none) Set.univ (bodyAt m hO t) (fun _ =>
          iprop(inv m hO hT c (t.val + 1) ∗ (data m hO hT c).owesAt () t.succ
            ∗ (∃ X, ⌜(data m hO hT c).after 0 t (iblk m hO c 0 t) X⌝ ∗ owns (c : Thread nD τ) (ms0 m hO t) fullShare X)
            ∗ (∃ X, ⌜(data m hO hT c).after 1 t (iblk m hO c 1 t) X⌝ ∗ owns (c : Thread nD τ) (ms1 m hO t) fullShare X)
            ∗ (∃ X, ⌜(data m hO hT c).after 2 t (iblk m hO c 2 t) X⌝ ∗ owns (c : Thread nD τ) (ms2 m hO t) fullShare X)
            ∗ (∃ X, ⌜(data m hO hT c).after 3 t o X⌝ ∗ owns (c : Thread nD τ) (ms3 m hO t) fullShare X))) := by
  unfold inv
  iintro ⟨⟨⟨%xb, %g, %hR, HX, HG⟩, HP, Hr, Hs, HW, HE, HC, HT⟩, Ho, H0, H1, H2, H3⟩
  unfold Pipeline.RDat.owesAt Pipeline.owesWithin
  icases Ho with ⟨%W, %hW, Ho⟩
  iapply (body_wp (grid0.coords t) (ms0 m hO t) (hs0 m hO t) (ms1 m hO t) (hs1 m hO t) (ms2 m hO t) (hs2 m hO t) (ms3 m hO t) (hs3 m hO t)
    xM (Memref.isWhole_whole _) gM (Memref.isWhole_whole _) c (tbl m 1) fullShare.right (tbl m 2) hT fullShare.right (V m c main_arg3)
    xb g (iblk m hO c 0 t) (iblk m hO c 1 t) (iblk m hO c 2 t) o (cnt m t) rfl _) $$ [HX HG HP Hs HW HC HT Ho H0 H1 H2 H3]
  · unfold kit
    isplitl [HC]; · iexact HC
    isplitl [HT HW HP Hs Ho]
    · isplitl [HT]; · iexact HT
      isplitl [HW]; · iexact HW
      isplitl [HP]; · iexact HP
      isplitl [Hs]; · iexact Hs
      iexists W; iexact Ho
    isplitl [H0]; · iexact H0
    isplitl [H1]; · iexact H1
    isplitl [H2]; · iexact H2
    isplitl [H3]; · iexact H3
    isplitl [HX]; · iexact HX
    iexact HG
  unfold kit
  iintro ⟨HC, ⟨HT, HW, HP, Hs, ⟨%W', Ho⟩⟩, H0, H1, H2, H3, HX, HG⟩
  isplitl [HX HG HP Hr Hs HW HE HC HT]
  · isplitl [HX HG]
    · iexists _; iexists _
      isplitr; swap
      · isplitl [HX]; · iexact HX
        iexact HG
      ipureintro
      refine ⟨xb, g, hR, ?_, ?_⟩
      · rw [pt_self]; rfl
      · rw [pt_self]; rfl
    isplitl [HP]; · iexact HP
    isplitl [Hr]; · iexact Hr
    isplitl [Hs]; · iexact Hs
    isplitl [HW]; · iexact HW
    isplitl [HE]; · iexact HE
    isplitl [HC]; · iexact HC
    iexact HT
  isplitl [Ho]
  · iexists W'
    isplitr; swap; · iexact Ho
    ipureintro
    exact fun _ _ => Or.inl trivial
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  iexists _; isplitr; swap; · iexact H3
  ipureintro
  exact ⟨xb, g, hR, rfl⟩

set_option maxHeartbeats 1000000 in
theorem obligation (c : Dev nD) : (data m hO hT c).BodyObligation (defs₀ (F := F)) Variants.none () Set.univ := fun t Y hY => by
  have h0 := found0 m hO hT c t _ (hY 0)
  have h1 := found1 m hO hT c t _ (hY 1)
  have h2 := found2 m hO hT c t _ (hY 2)
  rw [bigSep_W0, bigSep_W0]
  rw [h0, h1, h2, defs_row, data_inv, data_inv, Fin.val_castSucc, Fin.val_succ]
  exact triple_restated (sound m hO hT c t (Y 3)) rfl .rfl fun _ => .rfl

theorem inv_in (c : Dev nD) : iprop(Pipeline.ΦD ownSem spec0 own (V m) c ∗ Pipeline.ΦT pre0 (tbl m) c) ⊢ inv m hO hT c 0 := by
  rw [rest_eq, tables_eq]
  unfold inv
  iintro ⟨⟨⟨HP, ⟨%xb, HX⟩, ⟨%g, HG⟩⟩, Hr, Hs, HW⟩, HE, HC, HT⟩
  isplitl [HX HG]
  · iexists xb; iexists g
    isplitr; swap
    · isplitl [HX]; · iexact HX
      iexact HG
    ipureintro; trivial
  isplitl [HP]; · iexact HP
  isplitl [Hr]; · iexact Hr
  isplitl [Hs]; · iexact Hs
  isplitl [HW]; · iexact HW
  isplitl [HE]; · iexact HE
  isplitl [HC]; · iexact HC
  iexact HT

theorem inv_out (c : Dev nD) (k : ℕ) : inv m hO hT c k ⊢ Pipeline.ΦD ownSem spec0 own (V m) c := by
  rw [rest_eq]
  unfold inv
  iintro ⟨⟨%xb, %g, %hR, HX, HG⟩, HP, Hr, Hs, HW, HE, HC, HT⟩
  isplitl [HX HG HP]
  · isplitl [HP]; · iexact HP
    isplitl [HX]; · iexists xb; iexact HX
    iexists g; iexact HG
  isplitl [Hr]; · iexact Hr
  isplitl [Hs]; · iexact Hs
  iexact HW

set_option backward.isDefEq.respectTransparency.types false in
set_option maxHeartbeats 800000 in
/-- The run, with every counter at zero at the end. -/
theorem run_main : θ_run defs (onTc (τ := τ) (main (F := F))) (s₀ m ρ) (fun r =>
    Pipeline.RDat.FramePost ((Pipeline.pin pcfgs fun _ => adm m hO) 0) (data m hO hT) (V m) r ∧ r.2.sem = fun _ => 0) :=
  Pipeline.RDat.θ_run_frameP_dma (Q' := _) pcfgs (fun _ => adm m hO) (0 : Fin 1) launch0 ownSem defs₀ Variants.none (data m hO hT)
    own_facts own own_sub m ρ main
    (hbody := obligation m hO hT) (hshare := fun c => (data m hO hT c).share_full fun _ => rfl)
    (howed := fun _ _ => rfl) (V := V m) (hmain := hmain m Variants.none) (hA := fun _ _ => rfl) (hpf := V_pre m)
    (hin := inv_in m hO hT) (hout := fun c => inv_out m hO hT c _)

/-- The argument arrays end unchanged, every counter ends at zero, and the output holds what its write-backs leave. -/
theorem run_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ (r.2.sem = fun _ => 0) ∧ ∀ c : Dev nD, (data m hO hT c).ArrAt 3 grid0.N (r.2.mem ((c.tc : Thread nD τ).loc main_v0))) :=
  (θ_run defs _ _).mono (fun r h => ⟨fun c =>
      ⟨((h.1 c).2 main_arg0 (by decide : main_arg0 ∈ Pipeline.restRefs sig spec0)),
      ((h.1 c).2 main_arg1 (by decide : main_arg1 ∈ Pipeline.restRefs sig spec0)),
      ((h.1 c).2 main_arg2 (by decide : main_arg2 ∈ Pipeline.restRefs sig spec0)),
      ((h.1 c).2 main_arg3 (by decide : main_arg3 ∈ Pipeline.restRefs sig spec0)),
      Pipeline.RDat.FramePost.arr_in h.1 c 0 rfl, Pipeline.RDat.FramePost.arr_in h.1 c 1 rfl, Pipeline.RDat.FramePost.arr_in h.1 c 2 rfl⟩,
      h.2, fun c => (h.1 c).1 3⟩) (run_main m ρ hO hT)

include hO hT in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨h.1, h.2.1⟩) (run_all m ρ hO hT)

end Cert.Kernel5Ideal.Moe

end
-- ==== Proof.MoePrinted.lean ====
/- The printed experts' call: no operation was rewritten, so its run is the idealised copy's. -/
module

public import proofs.«01_k».proof.Proof.MoeFrame
public import proofs.«01_k».proof.Proof.Gen.Kernel5.Launch

@[expose] public section

set_option maxRecDepth 16384
noncomputable section
open Idealize.ShloMosaic Idealize.SL.Sem
namespace Cert.Kernel5.Moe
open Cert.Kernel5 Cert.Kernel5.Gen
variable {F : FTy → Type} [FloatOps F]

/-- The two body tables agree. -/
theorem body_eq : @Cert.Kernel5.defs₀ F _ _ = @Cert.Kernel5Ideal.defs₀ F _ _ := by
  unfold Cert.Kernel5.defs₀ Cert.Kernel5Ideal.defs₀
  refine congrArg Defs.onTc (funext fun l => ?_)
  match l with
  | 0 => rfl

/-- The two programs' tables agree. -/
theorem rows_eq : @Cert.Kernel5.defs F _ _ = @Cert.Kernel5Ideal.defs F _ _ :=
  congrArg (Pipeline.defs (Cert.Kernel5Ideal.pcfgs (F := F))) body_eq

variable (m : (ℓ : Loc nD τ sig) → Buf (Elt F) ℓ) (ρ : Dev nD → PrngReg)

/-- The argument arrays end unchanged and every counter at zero. -/
theorem frame (hO : Cert.Kernel5Ideal.Moe.Ok (F := F) m)
    (hT : ∀ y : Cert.Kernel5Ideal.S40960.Idx, ((Cert.Kernel5Ideal.Moe.tbl (F := F) m 2 : Cert.Kernel5Ideal.S40960.Idx → BitVec 32) y).toNat < 16384) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have h := Cert.Kernel5Ideal.Moe.frame (F := F) m ρ hO hT
  rw [← rows_eq] at h
  exact h

end Cert.Kernel5.Moe

end
-- ==== Proof.MoePre.lean ====
/- The experts' call: what the precondition says of the three tables. -/
module

public import proofs.«01_k».proof.Proof.MoeFrame
public import proofs.«01_k».proof.Proof.Pre
public import proofs.«01_k».proof.Proof.Gen.Pre_routed
public import Idealize.ShloMosaic.Lib.Pointwise

@[expose] public section

set_option maxRecDepth 16384
noncomputable section
open Idealize.ShloMosaic Idealize.ShloMosaic.TcCoe
namespace Cert.Pre_routed
open Cert.Pre_finite_weights (and_fold and_split)

variable {F : FTy → Type} [FloatOps F]

theorem of_word {b : Bool} (h : BitVec.ofBool b = 1#1) : b = true := by revert b; decide

theorem toInt_of_small {v : BitVec 32} (h : v.toNat < 2 ^ 31) : v.toInt = v.toNat := BitVec.toInt_eq_toNat_of_lt (by omega)

theorem nonneg_of_ge {v : BitVec 32} (h : IntOp.cmpi .sge v 0#32 = 1#1) : v.toNat < 2 ^ 31 ∧ v.toInt = v.toNat := by
  have h' : (0#32 : BitVec 32).sle v = true := of_word h
  rw [BitVec.sle_iff_toInt_le] at h'
  have e : (0#32 : BitVec 32).toInt = 0 := by decide
  rw [e] at h'
  have hn : v.toNat < 2 ^ 31 := by
    rw [BitVec.toInt_eq_toNat_cond] at h'
    have := v.isLt
    split at h' <;> omega
  exact ⟨hn, toInt_of_small hn⟩

theorem lt_of_range {v w : BitVec 32} (hw : w.toNat < 2 ^ 31) (h : IntOp.andi (IntOp.cmpi .sge v 0#32) (IntOp.cmpi .slt v w) = 1#1) : v.toNat < w.toNat := by
  obtain ⟨h0, h1⟩ := and_split h
  obtain ⟨hn, hv⟩ := nonneg_of_ge h0
  have h' : v.slt w = true := of_word h1
  rw [BitVec.slt_iff_toInt_lt, hv, toInt_of_small hw] at h'
  exact_mod_cast h'

theorem le_of_range {v w : BitVec 32} (hw : w.toNat < 2 ^ 31) (h : IntOp.andi (IntOp.cmpi .sge v 0#32) (IntOp.cmpi .sle v w) = 1#1) : v.toNat ≤ w.toNat := by
  obtain ⟨h0, h1⟩ := and_split h
  obtain ⟨hn, hv⟩ := nonneg_of_ge h0
  have h' : v.sle w = true := of_word h1
  rw [BitVec.sle_iff_toInt_le, hv, toInt_of_small hw] at h'
  exact_mod_cast h'

/-- The tiles' experts, their numbers of rows and the rows' sources are in their ranges. -/
theorem routed_of_pre [Facts] (te tr src H W1 W3 W2) (h : fn (F := F) te tr src H W1 W3 W2 = fun _ => 1#1) :
    (∀ i, (te i).toNat < 8) ∧ (∀ i, (tr i).toNat ≤ 1024) ∧ ∀ i, (src i).toNat < 16384 := by
  have e := congrFun h ix0
  simp only [fn, fn_part1] at e
  pointwise at e
  obtain ⟨e1, e2⟩ := and_split e
  obtain ⟨e0, e1⟩ := and_split e1
  refine ⟨fun i => ?_, fun i => ?_, fun i => ?_⟩ <;> rw [eq_ix1 i]
  · exact lt_of_range (w := 8#32) (by decide) (and_fold _ _ e0 (i 0))
  · exact le_of_range (w := 1024#32) (by decide) (and_fold _ _ e1 (i 0))
  · exact lt_of_range (w := 16384#32) (by decide) (and_fold _ _ e2 (i 0))
end Cert.Pre_routed

namespace Cert.Kernel5Ideal.Moe
open Cert.Kernel5Ideal Cert.Kernel5Ideal.Gen
variable {F : FTy → Type} [FloatOps F]

/-- The block's number of the up-projections' weights. -/
def upIdx (v : BitVec 32) (s : ℕ) : ℕ :=
  (Scalar.select (Scalar.cmpi .sgt v 0#32) (Scalar.minsi (BitVec.ofNat 32 s) 10#32) 10#32).toNat

/-- The block's number of the down-projection's weight. -/
def downIdx (v : BitVec 32) (s : ℕ) : ℕ :=
  (Scalar.select (Scalar.cmpi .sgt v 0#32) (Scalar.maxsi (Scalar.subi (BitVec.ofNat 32 s) 11#32) 0#32) 7#32).toNat

theorem at_eq (pf : pre0.Contents (Elt F)) (i : grid0.Coords) (o : Fin 1 → ℕ) (h : ∀ a, o a + S1.size a ≤ S40.size a) (ho : o 0 = (i 0).val)
    (T : S40.Idx → BitVec 32) :
    T ((Rect.unit (s := S40) o S1.size h).emb (Shape.Idx.first (numel1_S1.symm ▸ Nat.one_pos))) = T (ix1 (i 0)) := by
  congr 1
  funext a
  obtain rfl : a = 0 := Subsingleton.elim _ _
  refine Fin.ext ?_
  show o 0 + _ = _
  rw [ho]
  rfl

theorem tileWord (e : Fin 40) : (Scalar.indexCast (BitVec.ofNat 32 e.val) : Index).toNat = e.val := by revert e; decide +kernel

theorem index1 (pf : pre0.Contents (Elt F)) (i : grid0.Coords) : cc0_transform_1 k0_off1_inb numel1_S1 pf i
    = ![((pf 0 : S40.Idx → BitVec 32) (ix1 (i 0))).toNat, 0, upIdx ((pf 1 : S40.Idx → BitVec 32) (ix1 (i 0))) (i 1).val] := by
  have h0 := at_eq pf i _ (k0_off1_inb i) (tileWord (i 0)) (pf 0 : S40.Idx → BitVec 32)
  have h1 := at_eq pf i _ (k0_off1_inb i) (tileWord (i 0)) (pf 1 : S40.Idx → BitVec 32)
  rw [← h0, ← h1]
  rfl

theorem index2 (pf : pre0.Contents (Elt F)) (i : grid0.Coords) : cc0_transform_2 k0_off1_inb numel1_S1 pf i
    = ![((pf 0 : S40.Idx → BitVec 32) (ix1 (i 0))).toNat, 0, upIdx ((pf 1 : S40.Idx → BitVec 32) (ix1 (i 0))) (i 1).val] :=
  (rfl : _ = cc0_transform_1 k0_off1_inb numel1_S1 pf i).trans (index1 pf i)

theorem index3 (pf : pre0.Contents (Elt F)) (i : grid0.Coords) : cc0_transform_3 k0_off1_inb numel1_S1 pf i
    = ![((pf 0 : S40.Idx → BitVec 32) (ix1 (i 0))).toNat, 0, downIdx ((pf 1 : S40.Idx → BitVec 32) (ix1 (i 0))) (i 1).val] := by
  have h0 := at_eq pf i _ (k0_off1_inb i) (tileWord (i 0)) (pf 0 : S40.Idx → BitVec 32)
  have h1 := at_eq pf i _ (k0_off1_inb i) (tileWord (i 0)) (pf 1 : S40.Idx → BitVec 32)
  rw [← h0, ← h1]
  rfl

theorem upIdx_lt (v : BitVec 32) (s : Fin 19) : upIdx v s.val < 11 := by
  unfold upIdx; generalize Scalar.cmpi .sgt v 0#32 = b; revert b s; decide +kernel
theorem downIdx_lt (v : BitVec 32) (s : Fin 19) : downIdx v s.val < 8 := by
  unfold downIdx; generalize Scalar.cmpi .sgt v 0#32 = b; revert b s; decide +kernel

theorem inside {a b K p N : ℕ} (ha : a < 8) (hb : (b + 1) * p ≤ N) : ∀ x, ((![a, 0, b] : Fin 3 → ℕ) x + 1) * (⟨3, ![1, K, p]⟩ : Shape).size x ≤ (⟨3, ![8, K, N]⟩ : Shape).size x := by
  intro x
  match x with
  | ⟨0, _⟩ => exact (by omega : (a + 1) * 1 ≤ 8)
  | ⟨1, _⟩ => exact (by omega : (0 + 1) * K ≤ K)
  | ⟨2, _⟩ => exact hb

/-- Experts in their range name blocks inside the weights. -/
theorem ok_of_lt (pf : pre0.Contents (Elt F)) (h : ∀ i : S40.Idx, ((pf 0 : S40.Idx → BitVec 32) i).toNat < 8) : ok0 pf := by
  refine ⟨fun i => ?_, fun i => ?_, fun i => ?_⟩
  · have h0 := h (ix1 (i 0))
    have h1 := upIdx_lt ((pf 1 : S40.Idx → BitVec 32) (ix1 (i 0))) (i 1)
    refine ⟨?_, .inl rfl⟩
    rw [index1]
    exact inside h0 (by omega : (upIdx ((pf 1 : S40.Idx → BitVec 32) (ix1 (i 0))) (i 1).val + 1) * 512 ≤ 5632)
  · have h0 := h (ix1 (i 0))
    have h1 := upIdx_lt ((pf 1 : S40.Idx → BitVec 32) (ix1 (i 0))) (i 1)
    refine ⟨?_, .inl rfl⟩
    rw [index2]
    exact inside h0 (by omega : (upIdx ((pf 1 : S40.Idx → BitVec 32) (ix1 (i 0))) (i 1).val + 1) * 512 ≤ 5632)
  · have h0 := h (ix1 (i 0))
    have h1 := downIdx_lt ((pf 1 : S40.Idx → BitVec 32) (ix1 (i 0))) (i 1)
    refine ⟨?_, .inl rfl⟩
    rw [index3]
    exact inside h0 (by omega : (downIdx ((pf 1 : S40.Idx → BitVec 32) (ix1 (i 0))) (i 1).val + 1) * 256 ≤ 2048)

end Cert.Kernel5Ideal.Moe

end
-- ==== Proof.MoeAt.lean ====
/- The experts' call: what one point of the grid leaves in the scratches and in the output's block, entry by entry. -/
module

public import proofs.«01_k».proof.Proof.MoePre
public import proofs.«01_k».proof.Proof.FfnValue
public import Idealize.ShloMosaic.Lib.Pointwise

@[expose] public section

set_option maxRecDepth 16384
noncomputable section
open Idealize.ShloMosaic Idealize.ShloMosaic.TcCoe
namespace Cert.Kernel5Ideal.Moe
open Cert.Kernel5Ideal Cert.Kernel5Ideal.Gen
open Cert.Pre_routed (toInt_of_small of_word)
open Cert.Kernel3Ideal.Ffn (silu)

/-! ## The tests -/

theorem both_iff (A B : BitVec 1) : Scalar.cmpi .ne (Scalar.extui (Scalar.andi A B) : BitVec 32) 0#32 = 1#1 ↔ A = 1#1 ∧ B = 1#1 := by
  revert A B; decide
theorem one_iff (A : BitVec 1) : Scalar.cmpi .ne (Scalar.extui A : BitVec 32) 0#32 = 1#1 ↔ A = 1#1 := by revert A; decide
theorem and_iff (A B : BitVec 1) : Scalar.andi A B = 1#1 ↔ A = 1#1 ∧ B = 1#1 := by revert A B; decide
theorem word_iff (b : Bool) : BitVec.ofBool b = 1#1 ↔ b = true := by revert b; decide

theorem gt_iff {v : BitVec 32} (a : BitVec 32) (hv : v.toNat ≤ 1024) (ha : a.toNat ≤ 1024) : Scalar.cmpi .sgt v a = 1#1 ↔ a.toNat < v.toNat := by
  refine (word_iff (a.slt v)).trans ?_
  rw [BitVec.slt_iff_toInt_lt, toInt_of_small (by omega), toInt_of_small (by omega)]
  exact Int.ofNat_lt
theorem le_iff {v : BitVec 32} (a : BitVec 32) (hv : v.toNat ≤ 1024) (ha : a.toNat ≤ 1024) : Scalar.cmpi .sle v a = 1#1 ↔ v.toNat ≤ a.toNat := by
  refine (word_iff (v.sle a)).trans ?_
  rw [BitVec.sle_iff_toInt_le, toInt_of_small (by omega), toInt_of_small (by omega)]
  exact Int.ofNat_le
theorem between_iff {v : BitVec 32} (a b : BitVec 32) (hv : v.toNat ≤ 1024) (ha : a.toNat ≤ 1024) (hb : b.toNat ≤ 1024) :
    between v a b = 1#1 ↔ a.toNat < v.toNat ∧ v.toNat ≤ b.toNat :=
  (and_iff _ _).trans (and_congr (gt_iff a hv ha) (le_iff b hv hb))

theorem first_iff : ∀ s : Fin 19, Scalar.cmpi .eq (BitVec.ofNat 32 s.val) 0#32 = 1#1 ↔ s.val = 0 := by decide +kernel
theorem below_iff : ∀ s : Fin 19, Scalar.cmpi .slt (BitVec.ofNat 32 s.val) 11#32 = 1#1 ↔ s.val < 11 := by decide +kernel
theorem above_iff : ∀ s : Fin 19, Scalar.cmpi .sge (BitVec.ofNat 32 s.val) 11#32 = 1#1 ↔ 11 ≤ s.val := by decide +kernel
theorem isS_iff : ∀ (s : Fin 19) (k : Fin 11), isS (BitVec.ofNat 32 s.val) (BitVec.ofNat 32 k.val) ↔ s.val = k.val := by decide +kernel

section Tests
variable {v : BitVec 32} (hv : v.toNat ≤ 1024) (i : grid0.Coords)
include hv

theorem gather_iff (a : BitVec 32) (ha : a.toNat ≤ 1024) :
    Scalar.cmpi .ne (Scalar.extui (Scalar.andi (Scalar.cmpi .sgt v a) (Scalar.cmpi .eq (BitVec.ofNat 32 (i 1).val) 0#32)) : BitVec 32) 0#32 = 1#1
      ↔ a.toNat < v.toNat ∧ (i 1).val = 0 :=
  (both_iff _ _).trans (and_congr (gt_iff a hv ha) (first_iff (i 1)))
theorem up_iff (a b : BitVec 32) (ha : a.toNat ≤ 1024) (hb : b.toNat ≤ 1024) :
    upC (slice i) (between v a b) ↔ (a.toNat < v.toNat ∧ v.toNat ≤ b.toNat) ∧ (i 1).val < 11 :=
  (both_iff _ _).trans (and_congr (between_iff a b hv ha hb) (below_iff (i 1)))
theorem down_iff (a b : BitVec 32) (ha : a.toNat ≤ 1024) (hb : b.toNat ≤ 1024) :
    Scalar.cmpi .ne (Scalar.extui (Scalar.andi (between v a b) (Scalar.cmpi .sge (BitVec.ofNat 32 (i 1).val) 11#32)) : BitVec 32) 0#32 = 1#1
      ↔ (a.toNat < v.toNat ∧ v.toNat ≤ b.toNat) ∧ 11 ≤ (i 1).val :=
  (both_iff _ _).trans (and_congr (between_iff a b hv ha hb) (above_iff (i 1)))
theorem zero_iff (a : BitVec 32) (ha : a.toNat ≤ 1024) :
    Scalar.cmpi .ne (Scalar.extui (Scalar.cmpi .sle v a) : BitVec 32) 0#32 = 1#1 ↔ v.toNat ≤ a.toNat :=
  (one_iff _).trans (le_iff a hv ha)

theorem cond1_iff : k0_cond1 i v = 1#1 ↔ 0 < v.toNat ∧ (i 1).val = 0 := gather_iff hv i 0#32 (by decide)
theorem cond2_iff : k0_cond2 i v = 1#1 ↔ 256 < v.toNat ∧ (i 1).val = 0 := gather_iff hv i 256#32 (by decide)
theorem cond3_iff : k0_cond3 i v = 1#1 ↔ 512 < v.toNat ∧ (i 1).val = 0 := gather_iff hv i 512#32 (by decide)
theorem cond4_iff : k0_cond4 i v = 1#1 ↔ 768 < v.toNat ∧ (i 1).val = 0 := gather_iff hv i 768#32 (by decide)
theorem cond17_iff : k0_cond17 i v = 1#1 ↔ (0 < v.toNat ∧ v.toNat ≤ 256) ∧ 11 ≤ (i 1).val := down_iff hv i 0#32 256#32 (by decide) (by decide)
theorem cond30_iff : k0_cond30 i v = 1#1 ↔ (256 < v.toNat ∧ v.toNat ≤ 512) ∧ 11 ≤ (i 1).val := down_iff hv i 256#32 512#32 (by decide) (by decide)
theorem cond43_iff : k0_cond43 i v = 1#1 ↔ (512 < v.toNat ∧ v.toNat ≤ 768) ∧ 11 ≤ (i 1).val := down_iff hv i 512#32 768#32 (by decide) (by decide)
theorem cond56_iff : k0_cond56 i v = 1#1 ↔ (768 < v.toNat ∧ v.toNat ≤ 1024) ∧ 11 ≤ (i 1).val := down_iff hv i 768#32 1024#32 (by decide) (by decide)
theorem cond57_iff : k0_cond57 v = 1#1 ↔ v.toNat ≤ 0 := zero_iff hv 0#32 (by decide)
theorem cond58_iff : k0_cond58 v = 1#1 ↔ v.toNat ≤ 256 := zero_iff hv 256#32 (by decide)
theorem cond59_iff : k0_cond59 v = 1#1 ↔ v.toNat ≤ 512 := zero_iff hv 512#32 (by decide)
theorem cond60_iff : k0_cond60 v = 1#1 ↔ v.toNat ≤ 768 := zero_iff hv 768#32 (by decide)
end Tests

/-! ## The stores -/

theorem setBox_at {V : Type} {N M n m : ℕ} (a b : ℕ) (x : (Mat N M).Idx → V) (w : (Mat n m).Idx → V) (r : Fin N) (k : Fin M) :
    setBox a b x w (ix2 r k) = if h : (a ≤ r.val ∧ r.val < a + n) ∧ (b ≤ k.val ∧ k.val < b + m) then
      w (ix2 (⟨r.val - a, by omega⟩ : Fin n) (⟨k.val - b, by omega⟩ : Fin m)) else x (ix2 r k) := rfl

/-- One entry of the hidden units of some rows. -/
def unitN {n : ℕ} (x : (Mat n 2048).Idx → EReal) (f f' : S1x2048x512.Idx → EReal) (r : Fin n) (q : Fin 512) : EReal :=
  silu (∑ l, x (ix2 r l) * f (ix3 0 l q)) * ∑ l, x (ix2 r l) * f' (ix3 0 l q)

theorem pay5_at (x f f' r q) : k0_pay5 (F := Ideal) x f f' (ix2 r q) = unitN x f f' r q := by pointwise [k0_pay5, silu, unitN]
theorem pay11_at (x f f' r q) : k0_pay11 (F := Ideal) x f f' (ix2 r q) = unitN x f f' r q := by pointwise [k0_pay11, silu, unitN]
theorem pay17_at (x f f' r q) : k0_pay17 (F := Ideal) x f f' (ix2 r q) = unitN x f f' r q := by pointwise [k0_pay17, silu, unitN]
theorem pay23_at (x f f' r q) : k0_pay23 (F := Ideal) x f f' (ix2 r q) = unitN x f f' r q := by pointwise [k0_pay23, silu, unitN]
theorem pay33_at (w r q) : k0_pay33 (F := Ideal) w (ix2 r q) = w (ix2 r q) := by pointwise [k0_pay33]
theorem pay40_at (w r q) : k0_pay40 (F := Ideal) w (ix2 r q) = w (ix2 r q) := by pointwise [k0_pay40]
theorem pay47_at (w r q) : k0_pay47 (F := Ideal) w (ix2 r q) = w (ix2 r q) := by pointwise [k0_pay47]
theorem pay54_at (w r q) : k0_pay54 (F := Ideal) w (ix2 r q) = w (ix2 r q) := by pointwise [k0_pay54]
theorem pay39_at (x f r q) : k0_pay39 (F := Ideal) x f (ix2 r q) = ∑ k, x (ix2 r k) * f (ix3 0 k q) := by pointwise [k0_pay39]
theorem pay46_at (x f r q) : k0_pay46 (F := Ideal) x f (ix2 r q) = ∑ k, x (ix2 r k) * f (ix3 0 k q) := by pointwise [k0_pay46]
theorem pay53_at (x f r q) : k0_pay53 (F := Ideal) x f (ix2 r q) = ∑ k, x (ix2 r k) * f (ix3 0 k q) := by pointwise [k0_pay53]
theorem pay60_at (x f r q) : k0_pay60 (F := Ideal) x f (ix2 r q) = ∑ k, x (ix2 r k) * f (ix3 0 k q) := by pointwise [k0_pay60]
theorem pay29_at (x r q) : k0_pay29 (F := Ideal) x (ix2 r q) = x (ix2 r q) := by pointwise [k0_pay29]
theorem pay30_at (x r q) : k0_pay30 (F := Ideal) x (ix2 r q) = x (ix2 r q) := by pointwise [k0_pay30]
theorem pay31_at (x r q) : k0_pay31 (F := Ideal) x (ix2 r q) = x (ix2 r q) := by pointwise [k0_pay31]
theorem pay32_at (x r q) : k0_pay32 (F := Ideal) x (ix2 r q) = x (ix2 r q) := by pointwise [k0_pay32]
theorem pay1_at (r q) : k0_pay1 (F := Ideal) (ix2 r q) = 0 := by pointwise [k0_pay1]
theorem pay2_at (r q) : k0_pay2 (F := Ideal) (ix2 r q) = 0 := by pointwise [k0_pay2]
theorem pay3_at (r q) : k0_pay3 (F := Ideal) (ix2 r q) = 0 := by pointwise [k0_pay3]
theorem pay4_at (r q) : k0_pay4 (F := Ideal) (ix2 r q) = 0 := by pointwise [k0_pay4]

theorem slots_eq {n : ℕ} (s : Fin 11) (g : (Mat 1024 5632).Idx → EReal) (w : (Mat n 512).Idx → EReal) :
    slots2 (F := Ideal) (BitVec.ofNat 32 s.val) (slots1 (F := Ideal) (BitVec.ofNat 32 s.val) g w) w = setBox 0 (512 * s.val) g w := by
  fin_cases s <;> rfl

theorem ld_rows {e : EltTy} {n M : ℕ} (inb) (x : (Mat 1024 M).Idx → Elt Ideal e) (r : Fin n) (r' : Fin 1024) (hr : r.val = r'.val) (k : Fin M) :
    View.ld x (boxR 1024 M n M 0 0 inb) (ix2 r k) = x (ix2 r' k) := by
  refine congrArg x (funext fun a => Fin.ext ?_)
  match a with
  | ⟨0, _⟩ => exact (Nat.zero_add _).trans ((Nat.one_mul _).trans hr)
  | ⟨1, _⟩ => exact (Nat.zero_add _).trans (Nat.one_mul _)

theorem ld_all {e : EltTy} {K p : ℕ} (inb) (f : (⟨3, ![1, K, p]⟩ : Shape).Idx → Elt Ideal e) :
    View.ld f (Rect.unit (s := ⟨3, ![1, K, p]⟩) ![0, 0, 0] (⟨3, ![1, K, p]⟩ : Shape).size inb) = f := by
  refine funext fun y => congrArg f (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

theorem upG_at {n : ℕ} (p : Prop) [Decidable p] (hn : n ≤ 1024) (P : Up Ideal n) (W : FVec Ideal (Mat n 512) .bf16 → FVec Ideal (Mat n 512) .bf16)
    (hP : ∀ x f f' r q, P x f f' (ix2 r q) = unitN x f f' r q) (hW : ∀ w r q, W w (ix2 r q) = w (ix2 r q)) (s : Fin 19) (hs : p → s.val < 11)
    (xb f f' g) (r : Fin 1024) (k : Fin 5632) :
    upG (F := Ideal) p hn P W (BitVec.ofNat 32 s.val) xb f f' g (ix2 r k)
      = if p ∧ r.val < n ∧ k.val / 512 = s.val then unitN xb f f' r ⟨k.val % 512, Nat.mod_lt _ (by decide)⟩ else g (ix2 r k) := by
  unfold upG
  by_cases hp : p
  · rw [if_pos hp, slots_eq ⟨s.val, hs hp⟩, setBox_at]
    by_cases hb : r.val < n ∧ k.val / 512 = s.val
    · have hk : (0 ≤ r.val ∧ r.val < 0 + n) ∧ (512 * s.val ≤ k.val ∧ k.val < 512 * s.val + 512) := by omega
      rw [dif_pos hk, if_pos ⟨hp, hb⟩, hW, hP]
      have hq : ∀ h, (⟨k.val - 512 * s.val, h⟩ : Fin 512) = ⟨k.val % 512, Nat.mod_lt _ (by decide)⟩ := fun h => Fin.ext (by
        show k.val - 512 * s.val = k.val % 512
        omega)
      rw [hq]
      unfold R6
      rw [ld_all _ f, ld_all _ f']
      have hx := fun l : Fin 2048 => ld_rows (inbX hn) xb (⟨r.val - 0, by omega⟩ : Fin n) r rfl l
      unfold unitN
      simp only [hx]
    · have hk : ¬ ((0 ≤ r.val ∧ r.val < 0 + n) ∧ (512 * s.val ≤ k.val ∧ k.val < 512 * s.val + 512)) := by omega
      rw [dif_neg hk, if_neg (fun h => hb h.2)]
  · rw [if_neg hp, if_neg (fun h => hp h.1)]

theorem downO_at {n : ℕ} (p : Prop) [Decidable p] (hn : n ≤ 1024) (P : Down Ideal n)
    (hP : ∀ x f r q, P x f (ix2 r q) = ∑ k, x (ix2 r k) * f (ix3 0 k q)) (g f8 o) (r : Fin 1024) (q : Fin 256) :
    downO (F := Ideal) p hn P g f8 o (ix2 r q) = if p ∧ r.val < n then ∑ k, g (ix2 r k) * f8 (ix3 0 k q) else o (ix2 r q) := by
  unfold downO
  by_cases hp : p
  · rw [if_pos hp, setBox_at]
    have hq := q.isLt
    by_cases hb : r.val < n
    · rw [dif_pos (by omega), if_pos ⟨hp, hb⟩, hP]
      unfold R8
      rw [ld_all _ f8]
      refine Finset.sum_congr rfl fun k _ => ?_
      exact congrArg₂ (· * ·) (ld_rows (inbG hn 0 5632 (le_refl _)) g (⟨r.val - 0, by omega⟩ : Fin n) r rfl k) rfl
    · rw [dif_neg (by omega), if_neg (fun h => hb h.2)]
  · rw [if_neg hp, if_neg (fun h => hp h.1)]

theorem zeroO_at (p : Prop) [Decidable p] (b : ℕ) (w : FVec Ideal (Mat 256 256) .f32) (hw : ∀ r q, w (ix2 r q) = 0) (o) (r : Fin 1024) (q : Fin 256) :
    zeroO (F := Ideal) p b w o (ix2 r q) = if p ∧ b ≤ r.val ∧ r.val < b + 256 then 0 else o (ix2 r q) := by
  unfold zeroO
  by_cases hp : p
  · rw [if_pos hp, setBox_at]
    have hq := q.isLt
    by_cases hb : b ≤ r.val ∧ r.val < b + 256
    · rw [dif_pos (by omega), if_pos ⟨hp, hb⟩, hw]
    · rw [dif_neg (by omega), if_neg (fun h => hb h.2)]
  · rw [if_neg hp, if_neg (fun h => hp h.1)]

/-- The row that row `r` of tile `e` comes from. -/
def rowOf (T : S40960.Idx → BitVec 32) (hT : ∀ y, (T y).toNat < 16384) (e : Fin 40) (r : Fin 1024) : Fin 16384 :=
  ⟨(T (ix1 ⟨1024 * e.val + r.val, by omega⟩)).toNat, hT _⟩

theorem xPart_at (p : Prop) [Decidable p] (j : Fin 4) (T : S40960.Idx → BitVec 32) (hT : ∀ y, (T y).toNat < 16384) (e : Fin 40)
    (W : Vec Ideal S256x2048 .f32 → FVec Ideal S256x2048 .bf16) (hW : ∀ x r q, W x (ix2 r q) = x (ix2 r q)) (H xb) (r : Fin 1024) (l : Fin 2048) :
    xPart (F := Ideal) p j (srcOf T hT e j) W H xb (ix2 r l)
      = if p ∧ 256 * j.val ≤ r.val ∧ r.val < 256 * j.val + 256 then H (ix2 (rowOf T hT e r) l) else xb (ix2 r l) := by
  unfold xPart
  by_cases hp : p
  · rw [if_pos hp, setBox_at]
    have hl := l.isLt
    by_cases hb : 256 * j.val ≤ r.val ∧ r.val < 256 * j.val + 256
    · rw [dif_pos (by omega), if_pos ⟨hp, hb⟩, hW]
      refine congrArg H (funext fun a => Fin.ext ?_)
      match a with
      | ⟨0, _⟩ =>
        show (T (ix1 ⟨1024 * e.val + 256 * j.val + (0 + 1 * (r.val - 256 * j.val)), _⟩)).toNat = (T (ix1 ⟨1024 * e.val + r.val, _⟩)).toNat
        have : 1024 * e.val + 256 * j.val + (0 + 1 * (r.val - 256 * j.val)) = 1024 * e.val + r.val := by omega
        simp only [this]
      | ⟨1, _⟩ =>
        show 0 + 1 * (l.val - 0) = l.val
        omega
    · rw [dif_neg (by omega), if_neg (fun h => hb h.2)]
  · rw [if_neg hp, if_neg (fun h => hp h.1)]

section Steps
variable {v : BitVec 32} (hv : v.toNat ≤ 1024) (i : grid0.Coords)
include hv

theorem xStep_at (T : S40960.Idx → BitVec 32) (hT : ∀ y, (T y).toNat < 16384) (H xb) (r : Fin 1024) (l : Fin 2048) :
    xStep (F := Ideal) i T hT v H xb (ix2 r l)
      = if (i 1).val = 0 ∧ 256 * (r.val / 256) < v.toNat then H (ix2 (rowOf T hT (i 0) r) l) else xb (ix2 r l) := by
  unfold xStep
  rw [xPart_at _ 3 T hT (i 0) _ pay32_at, xPart_at _ 2 T hT (i 0) _ pay31_at, xPart_at _ 1 T hT (i 0) _ pay30_at, xPart_at _ 0 T hT (i 0) _ pay29_at]
  simp only [cond1_iff hv, cond2_iff hv, cond3_iff hv, cond4_iff hv]
  have hr := r.isLt
  generalize H (ix2 (rowOf T hT (i 0) r) l) = A
  generalize xb (ix2 r l) = B
  by_cases h0 : (i 1).val = 0 ∧ 256 * (r.val / 256) < v.toNat
  · rw [if_pos h0]
    split_ifs with h1 h2 h3 h4 <;> first | rfl | (exfalso; simp only [Fin.val_zero, Fin.val_one] at *; omega)
  · rw [if_neg h0]
    split_ifs with h1 h2 h3 h4 <;> first | rfl | (exfalso; simp only [Fin.val_zero, Fin.val_one] at *; omega)

theorem gUp1_at (xb f f' g) (r : Fin 1024) (k : Fin 5632) :
    gStep (F := Ideal) i 1 v xb f f' g (ix2 r k)
      = if ((0 < v.toNat ∧ v.toNat ≤ 256) ∧ (i 1).val < 11) ∧ r.val < 256 ∧ k.val / 512 = (i 1).val
        then unitN xb f f' r ⟨k.val % 512, Nat.mod_lt _ (by decide)⟩ else g (ix2 r k) :=
  (upG_at (n := 256) _ (by decide) _ _ pay5_at pay33_at (i 1) (fun h => ((up_iff hv i 0#32 256#32 (by decide) (by decide)).mp h).2) xb f f' g r k).trans
    (if_congr (and_congr (up_iff hv i 0#32 256#32 (by decide) (by decide)) Iff.rfl) rfl rfl)
theorem gUp2_at (xb f f' g) (r : Fin 1024) (k : Fin 5632) :
    gStep (F := Ideal) i 2 v xb f f' g (ix2 r k)
      = if ((256 < v.toNat ∧ v.toNat ≤ 512) ∧ (i 1).val < 11) ∧ r.val < 512 ∧ k.val / 512 = (i 1).val
        then unitN xb f f' r ⟨k.val % 512, Nat.mod_lt _ (by decide)⟩ else gStep (F := Ideal) i 1 v xb f f' g (ix2 r k) :=
  (upG_at (n := 512) _ (by decide) _ _ pay11_at pay40_at (i 1) (fun h => ((up_iff hv i 256#32 512#32 (by decide) (by decide)).mp h).2) xb f f' _ r k).trans
    (if_congr (and_congr (up_iff hv i 256#32 512#32 (by decide) (by decide)) Iff.rfl) rfl rfl)
theorem gUp3_at (xb f f' g) (r : Fin 1024) (k : Fin 5632) :
    gStep (F := Ideal) i 3 v xb f f' g (ix2 r k)
      = if ((512 < v.toNat ∧ v.toNat ≤ 768) ∧ (i 1).val < 11) ∧ r.val < 768 ∧ k.val / 512 = (i 1).val
        then unitN xb f f' r ⟨k.val % 512, Nat.mod_lt _ (by decide)⟩ else gStep (F := Ideal) i 2 v xb f f' g (ix2 r k) :=
  (upG_at (n := 768) _ (by decide) _ _ pay17_at pay47_at (i 1) (fun h => ((up_iff hv i 512#32 768#32 (by decide) (by decide)).mp h).2) xb f f' _ r k).trans
    (if_congr (and_congr (up_iff hv i 512#32 768#32 (by decide) (by decide)) Iff.rfl) rfl rfl)
theorem gUp4_at (xb f f' g) (r : Fin 1024) (k : Fin 5632) :
    gStep (F := Ideal) i 4 v xb f f' g (ix2 r k)
      = if ((768 < v.toNat ∧ v.toNat ≤ 1024) ∧ (i 1).val < 11) ∧ r.val < 1024 ∧ k.val / 512 = (i 1).val
        then unitN xb f f' r ⟨k.val % 512, Nat.mod_lt _ (by decide)⟩ else gStep (F := Ideal) i 3 v xb f f' g (ix2 r k) :=
  (upG_at (n := 1024) _ (by decide) _ _ pay23_at pay54_at (i 1) (fun h => ((up_iff hv i 768#32 1024#32 (by decide) (by decide)).mp h).2) xb f f' _ r k).trans
    (if_congr (and_congr (up_iff hv i 768#32 1024#32 (by decide) (by decide)) Iff.rfl) rfl rfl)

theorem gStep_at (xb f f' g) (r : Fin 1024) (k : Fin 5632) :
    gStep (F := Ideal) i 4 v xb f f' g (ix2 r k)
      = if (i 1).val < 11 ∧ 256 * (r.val / 256) < v.toNat ∧ k.val / 512 = (i 1).val
        then unitN xb f f' r ⟨k.val % 512, Nat.mod_lt _ (by decide)⟩ else g (ix2 r k) := by
  rw [gUp4_at hv, gUp3_at hv, gUp2_at hv, gUp1_at hv]
  have hr := r.isLt
  generalize unitN xb f f' r ⟨k.val % 512, Nat.mod_lt _ (by decide)⟩ = A
  generalize g (ix2 r k) = B
  by_cases h0 : (i 1).val < 11 ∧ 256 * (r.val / 256) < v.toNat ∧ k.val / 512 = (i 1).val
  · rw [if_pos h0]
    split_ifs <;> first | rfl | (exfalso; omega)
  · rw [if_neg h0]
    split_ifs <;> first | rfl | (exfalso; omega)

/-- Past the up-projections the hidden units stay. -/
theorem gStep_stay (hs : 11 ≤ (i 1).val) (n : ℕ) (hn : n = 1 ∨ n = 2 ∨ n = 3 ∨ n = 4) (xb f f' g) : gStep (F := Ideal) i n v xb f f' g = g := by
  suffices h : ∀ (r : Fin 1024) (k : Fin 5632), gStep (F := Ideal) i n v xb f f' g (ix2 r k) = g (ix2 r k) by
    funext y
    rw [eq_ix2 y]
    exact h _ _
  intro r k
  rcases hn with rfl | rfl | rfl | rfl
  · rw [gUp1_at hv, if_neg (by omega)]
  · rw [gUp2_at hv, if_neg (by omega), gUp1_at hv, if_neg (by omega)]
  · rw [gUp3_at hv, if_neg (by omega), gUp2_at hv, if_neg (by omega), gUp1_at hv, if_neg (by omega)]
  · rw [gUp4_at hv, if_neg (by omega), gUp3_at hv, if_neg (by omega), gUp2_at hv, if_neg (by omega), gUp1_at hv, if_neg (by omega)]

theorem oStep_at (hs : 11 ≤ (i 1).val) (xb f f' f8 g o) (r : Fin 1024) (q : Fin 256) :
    oStep (F := Ideal) i v xb f f' f8 g o (ix2 r q)
      = if 256 * (r.val / 256) < v.toNat then ∑ k, g (ix2 r k) * f8 (ix3 0 k q) else 0 := by
  unfold oStep oDown
  rw [gStep_stay hv i hs 1 (by decide), gStep_stay hv i hs 2 (by decide), gStep_stay hv i hs 3 (by decide), gStep_stay hv i hs 4 (by decide),
    zeroO_at _ _ _ pay4_at, zeroO_at _ _ _ pay3_at, zeroO_at _ _ _ pay2_at, zeroO_at _ _ _ pay1_at,
    downO_at _ _ _ pay60_at, downO_at _ _ _ pay53_at, downO_at _ _ _ pay46_at, downO_at _ _ _ pay39_at]
  simp only [cond17_iff hv, cond30_iff hv, cond43_iff hv, cond56_iff hv, cond57_iff hv, cond58_iff hv, cond59_iff hv, cond60_iff hv]
  have hr := r.isLt
  generalize ∑ k, g (ix2 r k) * f8 (ix3 0 k q) = A
  generalize o (ix2 r q) = B
  by_cases h0 : 256 * (r.val / 256) < v.toNat
  · rw [if_pos h0]
    rw [if_neg (by omega), if_neg (by omega), if_neg (by omega), if_neg (by omega)]
    split_ifs <;> first | rfl | (exfalso; omega)
  · rw [if_neg h0]
    split_ifs <;> first | rfl | (exfalso; omega)

end Steps

end Cert.Kernel5Ideal.Moe

end
-- ==== Proof.MoeValue.lean ====
/- The experts' call: what the kernel's array holds after the run. -/
module

public import proofs.«01_k».proof.Proof.MoeAt
public import Idealize.ShloMosaic.Lib.Pipeline.ValueKit
public import Idealize.ShloMosaic.Lib.Pipeline.ArrRel

@[expose] public section

set_option maxRecDepth 16384
noncomputable section
open Idealize.ShloMosaic Idealize.ShloMosaic.TcCoe
namespace Cert.Kernel5Ideal.Moe
open Cert.Kernel5Ideal Cert.Kernel5Ideal.Gen
open Cert.Kernel3Ideal.Ffn (silu)

/-! ## The experts' result -/

section Spec
variable (te tr : S40.Idx → BitVec 32) (src : S40960.Idx → BitVec 32) (hE : ∀ i, (te i).toNat < 8) (hT : ∀ i, (src i).toNat < 16384)
  (H : S16384x2048.Idx → EReal) (W1 W3 : S8x2048x5632.Idx → EReal) (W2 : S8x5632x2048.Idx → EReal)

/-- The expert of a tile. -/
def expert (e : Fin 40) : Fin 8 := ⟨(te (ix1 e)).toNat, hE _⟩

/-- A hidden unit of a tile's row. -/
def moeHidden (e : Fin 40) (r : Fin 1024) (k : Fin 5632) : EReal :=
  silu (∑ l, H (ix2 (rowOf src hT e r) l) * W1 (ix3 (expert te hE e) l k)) * ∑ l, H (ix2 (rowOf src hT e r) l) * W3 (ix3 (expert te hE e) l k)

/-- An entry of a tile's row: zero in the quarters that begin past the tile's rows. -/
def moeAt (e : Fin 40) (r : Fin 1024) (c : Fin 2048) : EReal :=
  if 256 * (r.val / 256) < (tr (ix1 e)).toNat then ∑ k, moeHidden te src hE hT H W1 W3 e r k * W2 (ix3 (expert te hE e) k c) else 0

/-- The result of all tiles. -/
def moeAll : S40960x2048.Idx → EReal := fun j =>
  moeAt te tr src hE hT H W1 W3 W2 ⟨(j 0).val / 1024, by have : (j 0).val < 40960 := (j 0).isLt; omega⟩
    ⟨(j 0).val % 1024, Nat.mod_lt _ (by decide)⟩ (j 1)

theorem moeAll_at (e : Fin 40) (r : Fin 1024) (c : Fin 2048) (j : S40960x2048.Idx) (h0 : (j 0).val = e.val * 1024 + r.val) (h1 : (j 1).val = c.val) :
    moeAll te tr src hE hT H W1 W3 W2 j = moeAt te tr src hE hT H W1 W3 W2 e r c := by
  have a : ∀ h, (⟨(j 0).val / 1024, h⟩ : Fin 40) = e := fun h => Fin.ext (by
    show (j 0).val / 1024 = e.val
    omega)
  have b : ∀ h, (⟨(j 0).val % 1024, h⟩ : Fin 1024) = r := fun h => Fin.ext (by
    show (j 0).val % 1024 = r.val
    omega)
  have d : j 1 = c := Fin.ext h1
  unfold moeAll
  rw [a, b, d]
end Spec

theorem ex_ix2 (y : (Mat 1024 256).Idx) : ∃ (r : Fin 1024) (q : Fin 256), y = ix2 r q := ⟨y 0, y 1, eq_ix2 y⟩

/-! ## The points -/

theorem coords_val : ∀ t : Fin grid0.N, (grid0.coords t 0).val = t.val / 19 ∧ (grid0.coords t 1).val = t.val % 19 := by decide +kernel

theorem upIdx_eq {v : BitVec 32} (hv : v.toNat ≤ 1024) (h0 : 0 < v.toNat) (s : Fin 19) (hs : s.val < 11) : upIdx v s.val = s.val := by
  unfold upIdx
  rw [(gt_iff 0#32 hv (by decide)).mpr h0]
  revert s; decide +kernel
theorem downIdx_eq {v : BitVec 32} (hv : v.toNat ≤ 1024) (h0 : 0 < v.toNat) (s : Fin 19) (hs : 11 ≤ s.val) : downIdx v s.val = s.val - 11 := by
  unfold downIdx
  rw [(gt_iff 0#32 hv (by decide)).mpr h0]
  revert s; decide +kernel

variable (m : (ℓ : Loc nD τ sig) → Buf (Elt Ideal) ℓ) (hO : Ok m)
  (hT : ∀ y : S40960.Idx, ((tbl m 2 : S40960.Idx → BitVec 32) y).toNat < 16384)
  (hE : ∀ y : S40.Idx, ((tbl m 0 : S40.Idx → BitVec 32) y).toNat < 8)
  (hC : ∀ y : S40.Idx, ((tbl m 1 : S40.Idx → BitVec 32) y).toNat ≤ 1024)

theorem win0_index (t : Fin grid0.N) : ((cfgM m hO).win 0).index t
    = ![((tbl m 0 : S40.Idx → BitVec 32) (ix1 (grid0.coords t 0))).toNat, 0, upIdx (cnt m t) (grid0.coords t 1).val] := index1 (tbl m) (grid0.coords t)
theorem win1_index (t : Fin grid0.N) : ((cfgM m hO).win 1).index t
    = ![((tbl m 0 : S40.Idx → BitVec 32) (ix1 (grid0.coords t 0))).toNat, 0, upIdx (cnt m t) (grid0.coords t 1).val] := index2 (tbl m) (grid0.coords t)
theorem win2_index (t : Fin grid0.N) : ((cfgM m hO).win 2).index t
    = ![((tbl m 0 : S40.Idx → BitVec 32) (ix1 (grid0.coords t 0))).toNat, 0, downIdx (cnt m t) (grid0.coords t 1).val] := index3 (tbl m) (grid0.coords t)

include hC in
theorem w1_at (c : Dev nD) (t : Fin grid0.N) (h0 : 0 < (cnt m t).toNat) (hs : (grid0.coords t 1).val < 11) (l : Fin 2048) (q : Fin 512) (k : Fin 5632)
    (hk : 512 * (grid0.coords t 1).val + q.val = k.val) :
    iblk m hO c 0 t (ix3 0 l q) = V m c main_arg4 (ix3 (expert (tbl m 0) hE (grid0.coords t 0)) l k) := by
  have e := win0_index m hO t
  rw [upIdx_eq (v := cnt m t) (hC _) h0 _ hs] at e
  unfold expert
  blk_ext [iblk, V, e]

include hC in
theorem w3_at (c : Dev nD) (t : Fin grid0.N) (h0 : 0 < (cnt m t).toNat) (hs : (grid0.coords t 1).val < 11) (l : Fin 2048) (q : Fin 512) (k : Fin 5632)
    (hk : 512 * (grid0.coords t 1).val + q.val = k.val) :
    iblk m hO c 1 t (ix3 0 l q) = V m c main_arg5 (ix3 (expert (tbl m 0) hE (grid0.coords t 0)) l k) := by
  have e := win1_index m hO t
  rw [upIdx_eq (v := cnt m t) (hC _) h0 _ hs] at e
  unfold expert
  blk_ext [iblk, V, e]

include hC in
theorem w2_at (c : Dev nD) (t : Fin grid0.N) (h0 : 0 < (cnt m t).toNat) (hs : 11 ≤ (grid0.coords t 1).val) (l : Fin 5632) (q : Fin 256) (k : Fin 2048)
    (hk : 256 * ((grid0.coords t 1).val - 11) + q.val = k.val) :
    iblk m hO c 2 t (ix3 0 l q) = V m c main_arg6 (ix3 (expert (tbl m 0) hE (grid0.coords t 0)) l k) := by
  have e := win2_index m hO t
  rw [downIdx_eq (v := cnt m t) (hC _) h0 _ hs] at e
  unfold expert
  blk_ext [iblk, V, e]

/-- Tables of zeros. -/
def tbl0 : pre0.Contents (Elt Ideal) := fun
  | 0 => fun _ => (0#32 : BitVec 32)
  | 1 => fun _ => (0#32 : BitVec 32)
  | 2 => fun _ => (0#32 : BitVec 32)

theorem tbl0_ok : ok0 (F := Ideal) tbl0 := ok_of_lt tbl0 fun _ => (by decide : (0 : ℕ) < 8)

/-- The output's window: it reads no table. -/
abbrev win3 : Pipeline.Window sig grid0 := (cfg0 (F := Ideal) ⟨tbl0, tbl0_ok⟩).win 3
theorem win3_eq : (cfgM m hO).win 3 = win3 := rfl
theorem win3_index : ∀ t : Fin grid0.N, win3.index t = ![t.val / 19, t.val % 19 - 11] := by decide +kernel
theorem win3_flush : ∀ t : Fin grid0.N, win3.flush t = true ↔ 11 ≤ t.val % 19 := by decide +kernel
theorem win3_covers : win3.Covers := by decide +kernel

/-! ## What the scratches hold -/

/-- The rows that the tile's results read are the gathered rows. -/
def RowsIn (c : Dev nD) (t : Fin grid0.N) (xb : (Mat 1024 2048).Idx → EReal) : Prop := ∀ r : Fin 1024, 256 * (r.val / 256) < (cnt m t).toNat →
  ∀ l, xb (ix2 r l) = V m c main_arg3 (ix2 (rowOf (tbl m 2) hT (grid0.coords t 0) r) l)

/-- The first slices of the hidden units are computed. -/
def UnitsIn (c : Dev nD) (t : Fin grid0.N) (n : ℕ) (g : (Mat 1024 5632).Idx → EReal) : Prop := ∀ r : Fin 1024, 256 * (r.val / 256) < (cnt m t).toNat →
  ∀ k : Fin 5632, k.val / 512 < n →
    g (ix2 r k) = moeHidden (tbl m 0) (tbl m 2) hE hT (V m c main_arg3) (V m c main_arg4) (V m c main_arg5) (grid0.coords t 0) r k

include hC in
theorem rows_next (c : Dev nD) (t : Fin grid0.N) (xb) (h : t.val % 19 ≠ 0 → RowsIn m hT c t xb) : RowsIn m hT c t (xNext m hT c t xb) := by
  intro r hr l
  have hs := (coords_val t).2
  refine (xStep_at (v := cnt m t) (hC _) (grid0.coords t) (tbl m 2) hT (V m c main_arg3) xb r l).trans ?_
  by_cases h0 : t.val % 19 = 0
  · exact if_pos ⟨hs.trans h0, hr⟩
  · exact (if_neg (fun h' => h0 (hs.symm.trans h'.1))).trans (h h0 r hr l)

include hC in
theorem units_next (c : Dev nD) (t : Fin grid0.N) (xb g) (hx : RowsIn m hT c t xb) (hg : UnitsIn m hT hE c t (t.val % 19) g) :
    UnitsIn m hT hE c t (t.val % 19 + 1) (gStep (F := Ideal) (grid0.coords t) 4 (cnt m t) xb (iblk m hO c 0 t) (iblk m hO c 1 t) g) := by
  intro r hr k hk
  have hs := (coords_val t).2
  have hkk := k.isLt
  refine (gStep_at (v := cnt m t) (hC _) (grid0.coords t) xb (iblk m hO c 0 t) (iblk m hO c 1 t) g r k).trans ?_
  by_cases h0 : k.val / 512 = t.val % 19
  · rw [if_pos (by omega)]
    have hq : 512 * (grid0.coords t 1).val + k.val % 512 = k.val := by omega
    unfold unitN moeHidden
    refine congrArg₂ (· * ·) (congrArg silu (Finset.sum_congr rfl fun l _ => congrArg₂ (· * ·) (hx r hr l) ?_))
      (Finset.sum_congr rfl fun l _ => congrArg₂ (· * ·) (hx r hr l) ?_)
    · exact w1_at m hO hE hC c t (by omega) (by omega) l _ k hq
    · exact w3_at m hO hE hC c t (by omega) (by omega) l _ k hq
  · rw [if_neg (by omega)]
    exact hg r hr k (by omega)

theorem pt_val (k : ℕ) (hk : k < 760) : (pt k).val = k := by
  show min k 759 = k
  omega

include hC in
/-- Before each point the scratches hold what the tile has computed so far. -/
theorem held (c : Dev nD) : ∀ (k : ℕ) (t : Fin grid0.N), t.val = k → ∀ xb g, Reach m hO hT c k xb g →
    (t.val % 19 ≠ 0 → RowsIn m hT c t xb) ∧ UnitsIn m hT hE c t (t.val % 19) g
  | 0, t, ht, xb, g, _ => ⟨fun h => absurd (by omega) h, fun r _ k hk => by omega⟩
  | k + 1, t, ht, xb, g, ⟨xb₀, g₀, hR, hx, hg⟩ => by
    have hN := lt_N t
    have hp := pt_val k (by omega)
    by_cases h0 : t.val % 19 = 0
    · exact ⟨fun h => absurd h0 h, fun r _ k hk => by omega⟩
    · obtain ⟨h1, h2⟩ := held c k (pt k) hp xb₀ g₀ hR
      have hr := rows_next m hT hC c (pt k) xb₀ h1
      have hu := units_next m hO hT hE hC c (pt k) _ g₀ hr h2
      have e0 : grid0.coords (pt k) 0 = grid0.coords t 0 := Fin.ext (by
        rw [(coords_val (pt k)).1, (coords_val t).1]
        omega)
      have ec : cnt m (pt k) = cnt m t := by unfold cnt; rw [e0]
      have en : (pt k).val % 19 + 1 = t.val % 19 := by omega
      rw [← hx] at hr
      rw [← hg, en] at hu
      unfold RowsIn at hr ⊢
      unfold UnitsIn at hu ⊢
      rw [e0, ec] at hr hu
      exact ⟨fun _ => hr, hu⟩

/-! ## The array -/

theorem out_emb (t : Fin grid0.N) (r : Fin 1024) (q : Fin 256) : ((win3.blk t).view.emb (ix2 r q) : S40960x2048.Idx)
    = ix2 (⟨t.val / 19 * 1024 + r.val, by have := lt_N t; omega⟩ : Fin 40960) (⟨(t.val % 19 - 11) * 256 + q.val, by omega⟩ : Fin 2048) := by
  refine funext fun a : Fin 2 => Fin.ext ?_
  match a with
  | ⟨0, _⟩ => blk_simp [win3_index t]
  | ⟨1, _⟩ => blk_simp [win3_index t]

include hC in
/-- The result after the run. -/
theorem final (c : Dev nD) (G) (hG : (data m hO hT c).ArrAt 3 grid0.N G) :
    G = moeAll (tbl m 0) (tbl m 1) (tbl m 2) hE hT (V m c main_arg3) (V m c main_arg4) (V m c main_arg5) (V m c main_arg6) := by
  obtain ⟨X, hX, hA⟩ := hG.exists_exact
  obtain ⟨after, hafter⟩ : ∃ after : (w' : Fin 4) → Fin grid0.N → ((cfgM m hO).win w').block.Idx → Elt Ideal ((cfgM m hO).win w').elt, after 3 = X :=
    ⟨Function.update (fun _ _ _ => Classical.arbitrary _) 3 X, Function.update_self ..⟩
  refine (hA after fun u _ _ => by rw [hafter]).trans ?_
  refine Pipeline.Dat.arrAt_eq_of_covers _ 3 _ win3_covers fun t hf y => ?_
  have hs : 11 ≤ t.val % 19 := (win3_flush t).mp hf
  have ht := lt_N t
  obtain ⟨Y, hY, xb, g, hR, hXe⟩ := hX t t.isLt hf
  obtain ⟨h1, h2⟩ := held m hO hT hE hC c t.val t rfl xb g hR
  obtain ⟨c0, c1⟩ := coords_val t
  obtain ⟨r, q, rfl⟩ := ex_ix2 y
  refine (congrFun (congrFun hafter t) (ix2 r q)).trans ?_
  rw [hXe]
  show oNext m hO hT c t xb g Y (ix2 r q) = moeAll _ _ _ _ _ _ _ _ _ ((win3.blk t).view.emb (ix2 r q))
  refine Eq.trans ?_ (congrArg (moeAll _ _ _ _ _ _ _ _ _) (out_emb t r q)).symm
  refine (oStep_at (v := cnt m t) (hC _) (grid0.coords t) (by omega) (xNext m hT c t xb) (iblk m hO c 0 t) (iblk m hO c 1 t) (iblk m hO c 2 t) g Y r q).trans ?_
  refine Eq.trans ?_ (moeAll_at _ _ _ _ _ _ _ _ _ (grid0.coords t 0) r ⟨(t.val % 19 - 11) * 256 + q.val, by omega⟩ _ ?_ rfl).symm
  · unfold moeAt
    refine if_ctx_congr Iff.rfl (fun hr => Finset.sum_congr rfl fun k _ => ?_) fun _ => rfl
    refine congrArg₂ (· * ·) (h2 r hr k (by omega)) (w2_at m hO hE hC c t ?_ (by omega) k q _ ?_)
    · have : 256 * (r.val / 256) < (cnt m t).toNat := hr
      omega
    · show 256 * ((grid0.coords t 1).val - 11) + q.val = (t.val % 19 - 11) * 256 + q.val
      omega
  · rw [c0]
    rfl

end Cert.Kernel5Ideal.Moe

end
-- ==== Proof.RefMoe.lean ====
/- The reference of the experts' call read at an index. -/
module

public import proofs.«01_k».proof.Proof.Gen.Reference5Ideal.Run
public import proofs.«01_k».proof.Proof.MoeValue
public import proofs.«01_k».proof.Proof.RefFfn
public import Idealize.ShloMosaic.Lib.IdealHost
public import Idealize.ShloMosaic.Lib.Routing.Ops

@[expose] public section

set_option maxRecDepth 16384
noncomputable section
open Idealize.ShloMosaic Idealize.ShloMosaic.TcCoe Idealize.SL.Sem
namespace Cert.Reference5Ideal.Value
open Cert.Reference5Ideal Cert.Reference5Ideal.Gen
open Cert.Kernel3Ideal.Ffn (silu)
open Cert.Kernel5Ideal.Moe (expert rowOf moeHidden moeAt moeAll moeAll_at word_iff)
open Cert.Pre_routed (toInt_of_small)

/-! ## Rows and matrices taken by their numbers -/

section Take
variable {α : Type}

/-- A gather of whole matrices by their numbers. -/
def takeMat (N n A B : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

theorem takeMat_at {N n A B : Nat} (wf) (x : (⟨3, ![N, A, B]⟩ : Shape).Idx → α) (idx : IVec ⟨2, ![n, 1]⟩ 32) (e : Fin n) (a : Fin A) (b : Fin B)
    (w : Fin N) (hw : (idx (ix2 e 0)).toInt.toNat = w.val) :
    Host.gather (takeMat N n A B wf) x idx (ix3 e a b) = x (ix3 w a b) := by
  unfold Host.gather
  refine congrArg x (funext fun i => Fin.ext ?_)
  show (takeMat N n A B wf).start (ix3 e a b) idx i + (takeMat N n A B wf).batchCoord (ix3 e a b) i + (takeMat N n A B wf).offCoord (ix3 e a b) i = _
  rw [GatherDims.batchCoord_eq_zero _ _ _ List.not_mem_nil, Nat.add_zero]
  have h : i = 0 ∨ i = 1 ∨ i = 2 := match i with
    | ⟨0, _⟩ => Or.inl rfl
    | ⟨1, _⟩ => Or.inr (Or.inl rfl)
    | ⟨2, _⟩ => Or.inr (Or.inr rfl)
  rcases h with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (takeMat N n A B wf).startIndexMap from List.mem_singleton.mpr rfl)]
    have hsi : (takeMat N n A B wf).siIdx (ix3 e a b) ⟨List.idxOf (0 : Fin 3) (takeMat N n A B wf).startIndexMap,
        List.idxOf_lt_length_iff.2 (List.mem_singleton.mpr rfl)⟩ = ix2 e 0 := funext fun k => Fin.ext (match k with
      | ⟨0, _⟩ => rfl
      | ⟨1, _⟩ => rfl)
    rw [hsi, hw]
    have := w.isLt
    show min w.val (N - 1) = w.val
    omega
  · unfold GatherDims.start
    rw [dif_neg (show (1 : Fin 3) ∉ (takeMat N n A B wf).startIndexMap from (by decide : (1 : Fin 3) ∉ ([0] : List (Fin 3)))), Nat.zero_add]
    rfl
  · unfold GatherDims.start
    rw [dif_neg (show (2 : Fin 3) ∉ (takeMat N n A B wf).startIndexMap from (by decide : (2 : Fin 3) ∉ ([0] : List (Fin 3)))), Nat.zero_add]
    rfl
end Take

theorem slt_zero {v : BitVec 32} (h : v.toNat < 16384) {α : Type} (a b : α) : Scalar.select (IntOp.cmpi .slt v 0#32) a b = b := by
  have e : IntOp.cmpi .slt v 0#32 = 0#1 := ValueIdx.eq_zero_of_ne_one fun h' => by
    have h2 : v.slt 0#32 = true := (word_iff _).mp h'
    rw [BitVec.slt_iff_toInt_lt, toInt_of_small (by omega)] at h2
    exact absurd h2 (by simp)
  rw [e]
  rfl

/-! ## The pieces -/

/-- The rows' numbers. -/
def rowsI (src : S40960.Idx → BitVec 32) : S40960x1.Idx → BitVec 32 :=
  broadcastInDim S40960x1 ![0] bcast_S40960_S40960x1_0 (select (cmpi .slt src (broadcastInDim S40960 ![] bcast_S_S40960 (constantI S_ 32 0#32)))
    (addi src (broadcastInDim S40960 ![] bcast_S_S40960 (constantI S_ 32 16384#32))) src)

/-- The tiles' experts. -/
def tilesI (te : S40.Idx → BitVec 32) : S40x1.Idx → BitVec 32 :=
  broadcastInDim S40x1 ![0] bcast_S40_S40x1_0 (select (cmpi .slt te (broadcastInDim S40 ![] bcast_S_S40 (constantI S_ 32 0#32)))
    (addi te (broadcastInDim S40 ![] bcast_S_S40 (constantI S_ 32 8#32))) te)

theorem rowsI_at (src) (i : Fin 40960) (h : (src (ix1 i)).toNat < 16384) : rowsI src (ix2 i 0) = src (ix1 i) := by
  refine Eq.trans ?_ (slt_zero h (IntOp.addi (src (ix1 i)) 16384#32) _)
  pointwise [rowsI]
theorem tilesI_at (te) (e : Fin 40) (h : (te (ix1 e)).toNat < 8) : tilesI te (ix2 e 0) = te (ix1 e) := by
  refine Eq.trans ?_ (slt_zero (v := te (ix1 e)) (by omega) (IntOp.addi (te (ix1 e)) 8#32) _)
  pointwise [tilesI]

/-- The tiles' rows. -/
def tiles (X : FVec Ideal S40960x2048 .f32) : FVec Ideal S40x1024x2048 .f32 := shapeCast _ X shapeCasts_S40960x2048_S40x1024x2048

/-- Every tile's product with a weight of the first layer. -/
def upM (X : FVec Ideal S40x1024x2048 .f32) (W : FVec Ideal S40x2048x5632 .f32) : FVec Ideal S40x1024x5632 .f32 :=
  Host.dotGeneral dot_S40x1024x2048_S40x2048x5632_S40x1024x5632_2_1_1_2_0_0 none X W

/-- A number times its logistic. -/
def gateM (Z : FVec Ideal S40x1024x5632 .f32) : FVec Ideal S40x1024x5632 .f32 :=
  mulf Z (Host.divf (broadcastInDim S40x1024x5632 ![] bcast_S_S40x1024x5632 (constant S_ .f32 0x3F800000#32))
    (addf (broadcastInDim S40x1024x5632 ![] bcast_S_S40x1024x5632 (constant S_ .f32 0x3F800000#32)) (Host.exp (Host.negf Z))))

/-- Every tile's product with the second layer's weight. -/
def downM (A : FVec Ideal S40x1024x5632 .f32) (W : FVec Ideal S40x5632x2048 .f32) : FVec Ideal S40x1024x2048 .f32 :=
  Host.dotGeneral dot_S40x1024x5632_S40x5632x2048_S40x1024x2048_2_1_1_2_0_0 none A W

/-- Which quarters of a tile hold rows. -/
def live (tr : S40.Idx → BitVec 32) : S40x4.Idx → BitVec 1 :=
  cmpi .slt (broadcastInDim S40x4 ![0, 1] bcast_S1x4_S40x4_0_1 (muli (broadcastInDim S1x4 ![] bcast_S_S1x4 (constantI S_ 32 256#32))
      (broadcastInDim S1x4 ![1] bcast_S4_S1x4_1 (iotaInDim S4 32 0))))
    (broadcastInDim S40x4 ![0, 1] bcast_S40x1_S40x4_0_1 (broadcastInDim S40x1 ![0] bcast_S40_S40x1_0 tr))

/-- The result with zeros in the quarters that hold no rows. -/
def masked (q : S40x4.Idx → BitVec 1) (Y : FVec Ideal S40x1024x2048 .f32) : FVec Ideal S40960x2048 .f32 :=
  shapeCast _ (select (broadcastInDim S40x4x256x2048 ![0, 1, 2, 3] bcast_S40x4x1x1_S40x4x256x2048_0_1_2_3
      (broadcastInDim S40x4x1x1 ![0, 1] bcast_S40x4_S40x4x1x1_0_1 q))
    (shapeCast _ Y shapeCasts_S40x1024x2048_S40x4x256x2048 : FVec Ideal S40x4x256x2048 .f32)
    (broadcastInDim S40x4x256x2048 ![] bcast_S_S40x4x256x2048 (id (constant S_ .f32 0x00000000#32)))) shapeCasts_S40x4x256x2048_S40960x2048

theorem tiles_at (X) (e : Fin 40) (r : Fin 1024) (l : Fin 2048) : tiles X (ix3 e r l) = X (ix2 ⟨e.val * 1024 + r.val, by omega⟩ l) := by
  pointwise [tiles]
theorem upM_at (X W) (e : Fin 40) (r : Fin 1024) (k : Fin 5632) : upM X W (ix3 e r k) = ∑ l, X (ix3 e r l) * W (ix3 e l k) := by
  pointwise [upM]
theorem gateM_at (Z) (e : Fin 40) (r : Fin 1024) (k : Fin 5632) : gateM Z (ix3 e r k) = silu (Z (ix3 e r k)) := by
  refine Eq.trans ?_ (Cert.Reference3Ideal.Value.mul_logistic _)
  pointwise [gateM]
theorem downM_at (A W) (e : Fin 40) (r : Fin 1024) (c : Fin 2048) : downM A W (ix3 e r c) = ∑ k, A (ix3 e r k) * W (ix3 e k c) := by
  pointwise [downM]
theorem live_at (tr) (e : Fin 40) (q : Fin 4) : live tr (ix2 e q) = IntOp.cmpi .slt (IntOp.muli 256#32 (BitVec.ofNat 32 q.val)) (tr (ix1 e)) := by
  pointwise [live]
theorem masked_at (q Y) (i : Fin 40960) (c : Fin 2048) : masked q Y (ix2 i c)
    = Scalar.select (q (ix2 ⟨i.val / 1024, by omega⟩ ⟨i.val / 256 % 4, by omega⟩))
        (Y (ix3 ⟨i.val / 1024, by omega⟩ ⟨i.val / 256 % 4 * 256 + i.val % 256, by omega⟩ c)) 0 := by
  refine Eq.trans (b := Scalar.select (q (ix2 ⟨i.val / 1024, by omega⟩ ⟨i.val / 256 % 4, by omega⟩))
        (Y (ix3 ⟨i.val / 1024, by omega⟩ ⟨i.val / 256 % 4 * 256 + i.val % 256, by omega⟩ c)) ((constant S_ .f32 0x00000000#32 : FVec Ideal S_ .f32) ix0)) ?_ ?_
  · pointwise [masked, id]
  · pointwise

theorem live_iff {v : BitVec 32} (hv : v.toNat ≤ 1024) (q : Fin 4) : IntOp.cmpi .slt (IntOp.muli 256#32 (BitVec.ofNat 32 q.val)) v = 1#1 ↔ 256 * q.val < v.toNat := by
  have e : (IntOp.muli 256#32 (BitVec.ofNat 32 q.val)).toNat = 256 * q.val := by revert q; decide
  refine (word_iff _).trans ?_
  rw [BitVec.slt_iff_toInt_lt, toInt_of_small (v := v) (by omega), toInt_of_small (by omega), e]
  exact Int.ofNat_lt

/-! ## The result -/

/-- The reference's result over its arguments. -/
def res (te tr : S40.Idx → BitVec 32) (src : S40960.Idx → BitVec 32) (H : FVec Ideal S16384x2048 .f32) (W1 W3 : FVec Ideal S8x2048x5632 .f32)
    (W2 : FVec Ideal S8x5632x2048 .f32) : FVec Ideal S40960x2048 .f32 :=
  masked (live tr) (downM (mulf
      (gateM (upM (tiles (Host.gather gather_S16384x2048_S40960x1_S40960x2048_1_0_n_n_0_1_12048 H (rowsI src)))
        (Host.gather gather_S8x2048x5632_S40x1_S40x2048x5632_12_0_n_n_0_1_120485632 W1 (tilesI te))))
      (upM (tiles (Host.gather gather_S16384x2048_S40960x1_S40960x2048_1_0_n_n_0_1_12048 H (rowsI src)))
        (Host.gather gather_S8x2048x5632_S40x1_S40x2048x5632_12_0_n_n_0_1_120485632 W3 (tilesI te))))
    (Host.gather gather_S8x5632x2048_S40x1_S40x5632x2048_12_0_n_n_0_1_156322048 W2 (tilesI te)))

section Value
variable (te tr : S40.Idx → BitVec 32) (src : S40960.Idx → BitVec 32) (hE : ∀ i, (te i).toNat < 8) (hT : ∀ i, (src i).toNat < 16384)
  (hC : ∀ i, (tr i).toNat ≤ 1024)
  (H : S16384x2048.Idx → EReal) (W1 W3 : S8x2048x5632.Idx → EReal) (W2 : S8x5632x2048.Idx → EReal)

theorem rows_at (e : Fin 40) (r : Fin 1024) (l : Fin 2048) :
    tiles (Host.gather gather_S16384x2048_S40960x1_S40960x2048_1_0_n_n_0_1_12048 H (rowsI src)) (ix3 e r l) = H (ix2 (rowOf src hT e r) l) := by
  have ei : (⟨e.val * 1024 + r.val, by omega⟩ : Fin 40960) = ⟨1024 * e.val + r.val, by omega⟩ := Fin.ext (by
    show e.val * 1024 + r.val = 1024 * e.val + r.val
    omega)
  rw [tiles_at, ei]
  refine Routing.gather_row gather_S16384x2048_S40960x1_S40960x2048_1_0_n_n_0_1_12048 rfl rfl rfl rfl rfl H _ _ _ (rowOf src hT e r) ?_ (by decide)
  refine (rowsI_at src _ (hT _)).trans ?_
  unfold rowOf
  simp

theorem tilesI_nat (e : Fin 40) : (tilesI te (ix2 e 0)).toInt.toNat = (expert te hE e).val := by
  rw [tilesI_at te e (hE _), toInt_of_small (by have := hE (ix1 e); omega)]
  rfl

theorem mat_at (W : S8x2048x5632.Idx → EReal) (e : Fin 40) (l : Fin 2048) (k : Fin 5632) :
    Host.gather gather_S8x2048x5632_S40x1_S40x2048x5632_12_0_n_n_0_1_120485632 W (tilesI te) (ix3 e l k) = W (ix3 (expert te hE e) l k) :=
  takeMat_at _ W (tilesI te) e l k (expert te hE e) (tilesI_nat te hE e)
theorem mat2_at (e : Fin 40) (k : Fin 5632) (c : Fin 2048) :
    Host.gather gather_S8x5632x2048_S40x1_S40x5632x2048_12_0_n_n_0_1_156322048 W2 (tilesI te) (ix3 e k c) = W2 (ix3 (expert te hE e) k c) :=
  takeMat_at _ W2 (tilesI te) e k c (expert te hE e) (tilesI_nat te hE e)

theorem up_at (W : S8x2048x5632.Idx → EReal) (e : Fin 40) (r : Fin 1024) (k : Fin 5632) :
    upM (tiles (Host.gather gather_S16384x2048_S40960x1_S40960x2048_1_0_n_n_0_1_12048 H (rowsI src)))
        (Host.gather gather_S8x2048x5632_S40x1_S40x2048x5632_12_0_n_n_0_1_120485632 W (tilesI te)) (ix3 e r k)
      = ∑ l, H (ix2 (rowOf src hT e r) l) * W (ix3 (expert te hE e) l k) :=
  (upM_at _ _ e r k).trans (Finset.sum_congr rfl fun l _ => congrArg₂ (· * ·) (rows_at src hT H e r l) (mat_at te hE W e l k))

include hC in
theorem res_at (i : Fin 40960) (c : Fin 2048) :
    res te tr src H W1 W3 W2 (ix2 i c) = moeAt te tr src hE hT H W1 W3 W2 ⟨i.val / 1024, by omega⟩ ⟨i.val % 1024, by omega⟩ c := by
  unfold res moeAt
  rw [masked_at, live_at, downM_at]
  have hi := i.isLt
  have er : (⟨i.val / 256 % 4 * 256 + i.val % 256, by omega⟩ : Fin 1024) = ⟨i.val % 1024, by omega⟩ := Fin.ext (by
    show i.val / 256 % 4 * 256 + i.val % 256 = i.val % 1024
    omega)
  have hq : IntOp.cmpi .slt (IntOp.muli 256#32 (BitVec.ofNat 32 (i.val / 256 % 4))) (tr (ix1 ⟨i.val / 1024, by omega⟩)) = 1#1
      ↔ 256 * (i.val % 1024 / 256) < (tr (ix1 ⟨i.val / 1024, by omega⟩)).toNat := by
    rw [show i.val % 1024 / 256 = i.val / 256 % 4 by omega]
    exact live_iff (hC (ix1 ⟨i.val / 1024, by omega⟩)) ⟨i.val / 256 % 4, by omega⟩
  rw [er]
  split
  · rename_i h
    rw [hq.mpr h, ValueIdx.select_one]
    refine Finset.sum_congr rfl fun k _ => congrArg₂ (· * ·) (congrArg₂ (· * ·) ?_ ?_) (mat2_at te hE W2 _ k c)
    · exact (gateM_at _ _ _ k).trans (congrArg silu (up_at te src hE hT H W1 _ _ k))
    · exact up_at te src hE hT H W3 _ _ k
  · rename_i h
    rw [ValueIdx.eq_zero_of_ne_one (fun h' => h (hq.mp h')), ValueIdx.select_zero]

include hC in
theorem res_all : res te tr src H W1 W3 W2 = moeAll te tr src hE hT H W1 W3 W2 :=
  funext fun j => (congrArg _ (eq_ix2 j)).trans (res_at te tr src hE hT hC H W1 W3 W2 (j 0) (j 1))
end Value

/-- The reference's result is the experts' result. -/
theorem res_main (m : (ℓ : Loc nD τ sig) → Buf (Elt Ideal) ℓ) (c : Dev nD) : res_main_v45 m c
    = res (m (c.tc.loc main_arg0)) (m (c.tc.loc main_arg1)) (m (c.tc.loc main_arg2)) (m (c.tc.loc main_arg3)) (m (c.tc.loc main_arg4))
        (m (c.tc.loc main_arg5)) (m (c.tc.loc main_arg6)) := rfl

end Cert.Reference5Ideal.Value

end
-- ==== Proof.lean ====
/-
  The certificate of the context attention, of the input projection, of the output projection, of the dense feed-forward and of the
  experts' feed-forward: the kernels' and the references' frames, and the equality of each idealised kernel with its reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_weights
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Pre_routed
public import proofs.«01_k».proof.Proof.Gen.Reference5Ideal.Run
public import proofs.«01_k».proof.Proof.ValueOut
public import proofs.«01_k».proof.Proof.RefEq
public import proofs.«01_k».proof.Proof.Pre
public import proofs.«01_k».proof.Proof.InProj
public import proofs.«01_k».proof.Proof.RefIn
public import proofs.«01_k».proof.Proof.FfnRun
public import proofs.«01_k».proof.Proof.FfnFrame
public import proofs.«01_k».proof.Proof.FfnPrinted
public import proofs.«01_k».proof.Proof.FfnValue
public import proofs.«01_k».proof.Proof.RefFfn
public import proofs.«01_k».proof.Proof.OutProj
public import proofs.«01_k».proof.Proof.RefOut
public import proofs.«01_k».proof.Proof.MoePrinted
public import proofs.«01_k».proof.Proof.RefMoe
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal_pre_finite_weights := by
  pair_intro
  · run_from Cert.KernelIdeal.Value.run_blocks m g
  · run_from Cert.ReferenceIdeal.Value.run m' g'
    · have hp := Cert.Pre_finite_weights.real_of_pre _ _ _ _ (hpre c)
      refine Eq.trans ?_ (Cert.KernelIdeal.Value.final_6 m c).symm
      refine (Cert.ReferenceIdeal.Value.res_6 m' c ?_).trans ?_
      · rw [(hagree c).2.1, (hagree c).2.2.1, (hagree c).2.2.2]; exact hp
      · rw [(hagree c).1, (hagree c).2.1, (hagree c).2.2.1, (hagree c).2.2.2]
    · exact (Cert.ReferenceIdeal.Value.res_7 _ _).trans (Cert.KernelIdeal.Value.final_7 m c).symm
    · exact (Cert.ReferenceIdeal.Value.res_8 _).trans (Cert.KernelIdeal.Value.final_8 m c).symm

theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

theorem algebraic2 : Cert.algebraic_Kernel2Ideal_Reference2Ideal := by
  pair_intro
  · run_from Cert.Kernel2Ideal.Value.run_blocks m g
  · run_from Cert.Reference2Ideal.Value.run m' g'
    · refine (Cert.Reference2Ideal.Value.res_5 _ _ _ _ _).trans (Eq.trans ?_ (Cert.Kernel2Ideal.Value.final_5 m c).symm)
      exact congrArg (Cert.Kernel2Ideal.Value.projAll _ _ _ _) (hagree c).2.2.2.2

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem algebraic3 : Cert.algebraic_Kernel3Ideal_Reference3Ideal := by
  pair_intro
  · run_from Cert.Kernel3Ideal.Ffn.run_blocks m g
  · run_from Cert.Reference3Ideal.Value.run m' g'
    · refine (Cert.Reference3Ideal.Value.res_6 _ _ _ _ _ _).trans (Eq.trans ?_ (Cert.Kernel3Ideal.Ffn.final_6 m c).symm)
      rw [(hagree c).2.2.2.2.1, (hagree c).2.2.2.2.2]

theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem algebraic4 : Cert.algebraic_Kernel4Ideal_Reference4Ideal := by
  pair_intro
  · run_from Cert.Kernel4Ideal.Value.run_blocks m g
  · run_from Cert.Reference4Ideal.Value.run m' g'
    · refine (Cert.Reference4Ideal.Value.res_11 _ _ _ _ _ _ _ _ _ _).trans (Eq.trans ?_ (Cert.Kernel4Ideal.Value.final_11 m c).symm)
      obtain ⟨e0, e1, e2, e3, e4, e5, e6, e7, e8, e9, e10⟩ := hagree c
      rw [e4, e5, e6, e7, e8, e9]
    · refine (Cert.Reference4Ideal.Value.res_12 _ _ _ _ _ _ _ _ _ _ _).trans (Eq.trans ?_ (Cert.Kernel4Ideal.Value.final_12 m c).symm)
      obtain ⟨e0, e1, e2, e3, e4, e5, e6, e7, e8, e9, e10⟩ := hagree c
      rw [e0, e1, e2, e3, e4, e5, e6, e7, e8, e9, e10]

theorem frame_reference4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- The experts' tables are in their ranges on every device. -/
theorem tables {m} (hpre : Cert.Pre_Kernel5Ideal m) :
    (∀ i, ((m ((0 : Dev Cert.Kernel5Ideal.nD).tc.loc Cert.Kernel5Ideal.main_arg0) : Cert.Kernel5Ideal.S40.Idx → BitVec 32) i).toNat < 8)
    ∧ (∀ i, ((m ((0 : Dev Cert.Kernel5Ideal.nD).tc.loc Cert.Kernel5Ideal.main_arg1) : Cert.Kernel5Ideal.S40.Idx → BitVec 32) i).toNat ≤ 1024)
    ∧ ∀ i, ((m ((0 : Dev Cert.Kernel5Ideal.nD).tc.loc Cert.Kernel5Ideal.main_arg2) : Cert.Kernel5Ideal.S40960.Idx → BitVec 32) i).toNat < 16384 :=
  Cert.Pre_routed.routed_of_pre _ _ _ _ _ _ _ (hpre 0)

theorem frame5 : Cert.quiescent_Kernel5 := fun m g hpre =>
  have h := Cert.Pre_routed.routed_of_pre _ _ _ _ _ _ _ (hpre 0)
  Cert.Kernel5.Moe.frame m g (Cert.Kernel5Ideal.Moe.ok_of_lt _ h.1) h.2.2

theorem frame5_ideal : Cert.quiescent_Kernel5Ideal := fun m g hpre =>
  Cert.Kernel5Ideal.Moe.frame m g (Cert.Kernel5Ideal.Moe.ok_of_lt _ (tables hpre).1) (tables hpre).2.2

theorem algebraic5 : Cert.algebraic_Kernel5Ideal_Reference5Ideal := fun m g m' g' hpre hagree => by
  obtain ⟨hE, hC, hT⟩ := tables hpre
  have hO : Cert.Kernel5Ideal.Moe.Ok m := Cert.Kernel5Ideal.Moe.ok_of_lt _ hE
  refine ⟨_, (θ_run Cert.Kernel5Ideal.defs _ _).mono (fun r h c => ⟨Cert.Kernel5Ideal.Moe.final m hO hT hE hC c _ (h.2.2 c), h.1 c⟩)
    (Cert.Kernel5Ideal.Moe.run_all m g hO hT),
    (θ_run Cert.Reference5Ideal.defs _ _).mono (fun r h c => ⟨(h c).1.trans ?_, (h c).2⟩) (Cert.Reference5Ideal.Value.run (F := Ideal) m' g')⟩
  obtain rfl : c = 0 := Subsingleton.elim _ _
  obtain ⟨e0, e1, e2, e3, e4, e5, e6⟩ := hagree 0
  refine (Cert.Reference5Ideal.Value.res_main m' 0).trans ?_
  rw [e0, e1, e2, e3, e4, e5, e6]
  exact Cert.Reference5Ideal.Value.res_all _ _ _ hE hT hC _ _ _ _

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_weights.Gen.facts, Cert.Pre_routed.Gen.facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Kernel2.Gen.frame m g, fun m g _ => Cert.Kernel2Ideal.Gen.frame m g, frame_reference2,
  fun m g _ => Cert.Kernel3.Ffn.frame m g, fun m g _ => Cert.Kernel3Ideal.Ffn.frame m g, frame_reference3,
  fun m g _ => Cert.Kernel4.Gen.frame m g, fun m g _ => Cert.Kernel4Ideal.Gen.frame m g, frame_reference4,
  frame5, frame5_ideal, frame_reference5, fun m g _ => frame_reference5 m g trivial,
  trivial, algebraic, trivial, algebraic2, trivial, algebraic3, trivial, algebraic4, trivial, algebraic5⟩

end Cert.Proof

end
